-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fair [hPre_fair : Cert.Pre_fair.Facts] (m : (ℓ : Loc Cert.KernelIdeal.nD Cert.KernelIdeal.τ Cert.KernelIdeal.sig) → Buf (Elt Ideal) ℓ) : Prop :=
  ∀ c : Dev Cert.KernelIdeal.nD,
    (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fair [hPre_fair : Cert.Pre_fair.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fair [hKernelIdeal : Cert.KernelIdeal.Facts] [hPre_fair : Cert.Pre_fair.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fair m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fair [hReferenceIdeal : Cert.ReferenceIdeal.Facts] [hPre_fair : Cert.Pre_fair.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fair m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fair [hKernelIdeal : Cert.KernelIdeal.Facts] [hReferenceIdeal : Cert.ReferenceIdeal.Facts] [hPre_fair : Cert.Pre_fair.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fair m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v795) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fair : Cert.Pre_fair.Facts),
    quiescent_Kernel (hKernel := hKernel)
    ∧ quiescent_KernelIdeal (hKernelIdeal := hKernelIdeal)
    ∧ quiescent_KernelIdeal_pre_fair (hKernelIdeal := hKernelIdeal) (hPre_fair := hPre_fair)
    ∧ quiescent_ReferenceIdeal (hReferenceIdeal := hReferenceIdeal)
    ∧ quiescent_ReferenceIdeal_pre_fair (hReferenceIdeal := hReferenceIdeal) (hPre_fair := hPre_fair)
    ∧ preserves_Kernel_KernelIdeal
    ∧ algebraic_KernelIdeal_ReferenceIdeal_pre_fair (hKernelIdeal := hKernelIdeal) (hReferenceIdeal := hReferenceIdeal) (hPre_fair := hPre_fair)
-- ==== Pre_fair.lean ====
abbrev S64x1024 : Shape := ⟨2, ![64, 1024]⟩
abbrev S512x1024x2 : Shape := ⟨3, ![512, 1024, 2]⟩
abbrev S1024x512x2 : Shape := ⟨3, ![1024, 512, 2]⟩
abbrev S512 : Shape := ⟨1, ![512]⟩
abbrev S1024 : Shape := ⟨1, ![1024]⟩
abbrev S512x1024x1 : Shape := ⟨3, ![512, 1024, 1]⟩
abbrev S512x1024 : Shape := ⟨2, ![512, 1024]⟩
abbrev S_ : Shape := ⟨0, ![]⟩
abbrev S1024x512x1 : Shape := ⟨3, ![1024, 512, 1]⟩
abbrev S1024x512 : Shape := ⟨2, ![1024, 512]⟩

class Facts : Prop where
  slices_S512x1024x2_S512x1024x1_0_0_1 : S512x1024x2.Slices ![0, 0, 1] S512x1024x1
  shapeCasts_S512x1024x1_S512x1024 : S512x1024x1.ShapeCasts S512x1024
  reducesTo_S512x1024x2_S512x1024_d2 : S512x1024x2.ReducesTo [2] S512x1024
  h_S_ : 0 < S_.numel
  bcast_S_S512x1024 : S_.BroadcastsInDim S512x1024 (![] : Fin 0 → Fin S512x1024.rank)
  slices_S1024x512x2_S1024x512x1_0_0_1 : S1024x512x2.Slices ![0, 0, 1] S1024x512x1
  shapeCasts_S1024x512x1_S1024x512 : S1024x512x1.ShapeCasts S1024x512
  reducesTo_S1024x512x2_S1024x512_d2 : S1024x512x2.ReducesTo [2] S1024x512
  bcast_S_S1024x512 : S_.BroadcastsInDim S1024x512 (![] : Fin 0 → Fin S1024x512.rank)

variable [Facts]

def fn {F : FTy → Type} [FloatOps F] (main_arg0 : FVec F S64x1024 .f32) (main_arg1 : FVec F S512x1024x2 .f32) (main_arg2 : FVec F S1024x512x2 .f32) (main_arg3 : IVec S512 1) (main_arg4 : IVec S1024 1) : IVec S512x1024 1 × IVec S1024x512 1 :=
  let main_v0 : FVec F S512x1024x1 .f32 := (extractStridedSlice S512x1024x1 ![0, 0, 1] · slices_S512x1024x2_S512x1024x1_0_0_1) main_arg1
  let main_v1 : FVec F S512x1024 .f32 := shapeCast S512x1024 main_v0 shapeCasts_S512x1024x1_S512x1024
  let main_cst : FVec F S_ .f32 := constant S_ .f32 0x00000000#32
  let main_v2 : FVec F S512x1024 .f32 := (fun x v => Host.reduceAdd x v reducesTo_S512x1024x2_S512x1024_d2 h_S_) main_arg1 main_cst
  let main_v3 : FVec F S512x1024 .f32 := Host.divf main_v1 main_v2
  let main_cst_0 : FVec F S_ .f32 := constant S_ .f32 0x3F000000#32
  let main_v4 : FVec F S512x1024 .f32 := broadcastInDim S512x1024 ![] bcast_S_S512x1024 main_cst_0
  let main_v5 : IVec S512x1024 1 := cmpf .oeq main_v3 main_v4
  let main_v6 : FVec F S1024x512x1 .f32 := (extractStridedSlice S1024x512x1 ![0, 0, 1] · slices_S1024x512x2_S1024x512x1_0_0_1) main_arg2
  let main_v7 : FVec F S1024x512 .f32 := shapeCast S1024x512 main_v6 shapeCasts_S1024x512x1_S1024x512
  let main_cst_1 : FVec F S_ .f32 := constant S_ .f32 0x00000000#32
  let main_v8 : FVec F S1024x512 .f32 := (fun x v => Host.reduceAdd x v reducesTo_S1024x512x2_S1024x512_d2 h_S_) main_arg2 main_cst_1
  let main_v9 : FVec F S1024x512 .f32 := Host.divf main_v7 main_v8
  let main_cst_2 : FVec F S_ .f32 := constant S_ .f32 0x3F000000#32
  let main_v10 : FVec F S1024x512 .f32 := broadcastInDim S1024x512 ![] bcast_S_S1024x512 main_cst_2
  let main_v11 : IVec S1024x512 1 := cmpf .oeq main_v9 main_v10
  (main_v5, main_v11)
-- ==== Kernel.lean ====
abbrev S64x1024 : Shape := ⟨2, ![64, 1024]⟩
abbrev S512x1024x2 : Shape := ⟨3, ![512, 1024, 2]⟩
abbrev S1024x512x2 : Shape := ⟨3, ![1024, 512, 2]⟩
abbrev S512 : Shape := ⟨1, ![512]⟩
abbrev S1024 : Shape := ⟨1, ![1024]⟩
abbrev S128x1024 : Shape := ⟨2, ![128, 1024]⟩
abbrev S128x32 : Shape := ⟨2, ![128, 32]⟩
abbrev S64x32 : Shape := ⟨2, ![64, 32]⟩
abbrev S64x64 : Shape := ⟨2, ![64, 64]⟩
abbrev S64x64x1 : Shape := ⟨3, ![64, 64, 1]⟩
abbrev S1x512 : Shape := ⟨2, ![1, 512]⟩
abbrev S64x1024x1 : Shape := ⟨3, ![64, 1024, 1]⟩
abbrev S64x1x512 : Shape := ⟨3, ![64, 1, 512]⟩
abbrev S16x64x1 : Shape := ⟨3, ![16, 64, 1]⟩
abbrev S16x1x512 : Shape := ⟨3, ![16, 1, 512]⟩
abbrev S1024x1 : Shape := ⟨2, ![1024, 1]⟩
abbrev S_ : Shape := ⟨0, ![]⟩
abbrev S1x32x1 : Shape := ⟨3, ![1, 32, 1]⟩
abbrev S32x1 : Shape := ⟨2, ![32, 1]⟩
abbrev S32x512 : Shape := ⟨2, ![32, 512]⟩
abbrev S1x1x512 : Shape := ⟨3, ![1, 1, 512]⟩
abbrev S1 : Shape := ⟨1, ![1]⟩
abbrev S1x1x1 : Shape := ⟨3, ![1, 1, 1]⟩
abbrev S16x512 : Shape := ⟨2, ![16, 512]⟩
abbrev S1x1024x1 : Shape := ⟨3, ![1, 1024, 1]⟩
abbrev S16x1 : Shape := ⟨2, ![16, 1]⟩
abbrev S64x512 : Shape := ⟨2, ![64, 512]⟩
abbrev S128x512 : Shape := ⟨2, ![128, 512]⟩
abbrev S1x1024 : Shape := ⟨2, ![1, 1024]⟩
abbrev S64x512x1 : Shape := ⟨3, ![64, 512, 1]⟩
abbrev S64x1x1024 : Shape := ⟨3, ![64, 1, 1024]⟩
abbrev S16x1x1024 : Shape := ⟨3, ![16, 1, 1024]⟩
abbrev S512x1 : Shape := ⟨2, ![512, 1]⟩
abbrev S32x1024 : Shape := ⟨2, ![32, 1024]⟩
abbrev S1x1x1024 : Shape := ⟨3, ![1, 1, 1024]⟩
abbrev S16x1024 : Shape := ⟨2, ![16, 1024]⟩
abbrev S1x512x1 : Shape := ⟨3, ![1, 512, 1]⟩

abbrev nBuf : Space → Nat
  | .hbm => 41
  | .vmem => 16
  | .smem => 0
  | _ => 0

abbrev bufTy : (tb : Table) → Fin (tcTables nBuf tb) → BufTy
  | .hbm, ⟨0, _⟩ => ⟨S64x1024, .f32⟩
  | .hbm, ⟨1, _⟩ => ⟨S512x1024x2, .f32⟩
  | .hbm, ⟨2, _⟩ => ⟨S1024x512x2, .f32⟩
  | .hbm, ⟨3, _⟩ => ⟨S512, .i1⟩
  | .hbm, ⟨4, _⟩ => ⟨S1024, .i1⟩
  | .hbm, ⟨5, _⟩ => ⟨S64x1024, .f32⟩
  | .hbm, ⟨6, _⟩ => ⟨S128x1024, .f32⟩
  | .hbm, ⟨7, _⟩ => ⟨S128x32, .f32⟩
  | .hbm, ⟨8, _⟩ => ⟨S128x32, .i32⟩
  | .hbm, ⟨9, _⟩ => ⟨S64x32, .i32⟩
  | .hbm, ⟨10, _⟩ => ⟨S64x32, .i32⟩
  | .hbm, ⟨11, _⟩ => ⟨S64x64, .i32⟩
  | .hbm, ⟨12, _⟩ => ⟨S64x64x1, .i32⟩
  | .hbm, ⟨13, _⟩ => ⟨S64x32, .f32⟩
  | .hbm, ⟨14, _⟩ => ⟨S64x32, .f32⟩
  | .hbm, ⟨15, _⟩ => ⟨S64x32, .f32⟩
  | .hbm, ⟨16, _⟩ => ⟨S64x64, .f32⟩
  | .hbm, ⟨17, _⟩ => ⟨S64x64x1, .f32⟩
  | .hbm, ⟨18, _⟩ => ⟨S512, .i32⟩
  | .hbm, ⟨19, _⟩ => ⟨S1x512, .i32⟩
  | .hbm, ⟨20, _⟩ => ⟨S64x1024x1, .f32⟩
  | .hbm, ⟨21, _⟩ => ⟨S64x1x512, .f32⟩
  | .hbm, ⟨22, _⟩ => ⟨S64x512, .f32⟩
  | .hbm, ⟨23, _⟩ => ⟨S64x512, .f32⟩
  | .hbm, ⟨24, _⟩ => ⟨S128x512, .f32⟩
  | .hbm, ⟨25, _⟩ => ⟨S128x32, .f32⟩
  | .hbm, ⟨26, _⟩ => ⟨S128x32, .i32⟩
  | .hbm, ⟨27, _⟩ => ⟨S64x32, .i32⟩
  | .hbm, ⟨28, _⟩ => ⟨S64x32, .i32⟩
  | .hbm, ⟨29, _⟩ => ⟨S64x64, .i32⟩
  | .hbm, ⟨30, _⟩ => ⟨S64x64x1, .i32⟩
  | .hbm, ⟨31, _⟩ => ⟨S64x32, .f32⟩
  | .hbm, ⟨32, _⟩ => ⟨S64x32, .f32⟩
  | .hbm, ⟨33, _⟩ => ⟨S64x32, .f32⟩
  | .hbm, ⟨34, _⟩ => ⟨S64x64, .f32⟩
  | .hbm, ⟨35, _⟩ => ⟨S64x64x1, .f32⟩
  | .hbm, ⟨36, _⟩ => ⟨S1024, .i32⟩
  | .hbm, ⟨37, _⟩ => ⟨S1x1024, .i32⟩
  | .hbm, ⟨38, _⟩ => ⟨S64x512x1, .f32⟩
  | .hbm, ⟨39, _⟩ => ⟨S64x1x1024, .f32⟩
  | .hbm, ⟨40, _⟩ => ⟨S64x1024, .f32⟩
  | .local _ .vmem, ⟨0, _⟩ => ⟨S16x64x1, .i32⟩
  | .local _ .vmem, ⟨1, _⟩ => ⟨S16x64x1, .i32⟩
  | .local _ .vmem, ⟨2, _⟩ => ⟨S16x64x1, .f32⟩
  | .local _ .vmem, ⟨3, _⟩ => ⟨S16x64x1, .f32⟩
  | .local _ .vmem, ⟨4, _⟩ => ⟨S1x512, .i32⟩
  | .local _ .vmem, ⟨5, _⟩ => ⟨S16x1x512, .f32⟩
  | .local _ .vmem, ⟨6, _⟩ => ⟨S16x1x512, .f32⟩
  | .local _ .vmem, ⟨7, _⟩ => ⟨S1024x1, .f32⟩
  | .local _ .vmem, ⟨8, _⟩ => ⟨S16x64x1, .i32⟩
  | .local _ .vmem, ⟨9, _⟩ => ⟨S16x64x1, .i32⟩
  | .local _ .vmem, ⟨10, _⟩ => ⟨S16x64x1, .f32⟩
  | .local _ .vmem, ⟨11, _⟩ => ⟨S16x64x1, .f32⟩
  | .local _ .vmem, ⟨12, _⟩ => ⟨S1x1024, .i32⟩
  | .local _ .vmem, ⟨13, _⟩ => ⟨S16x1x1024, .f32⟩
  | .local _ .vmem, ⟨14, _⟩ => ⟨S16x1x1024, .f32⟩
  | .local _ .vmem, ⟨15, _⟩ => ⟨S512x1, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values_0 : Ref sig .tc := ⟨.hbm, 25, rfl⟩
abbrev main_indices_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1435 : BitVec 32 := 0#32
  let c16_i32_1436 : BitVec 32 := 16#32
  let v3841 : BitVec 32 := Scalar.addi c0_i32_1435 c16_i32_1436
  let c1_i32_1437 : BitVec 32 := 1#32
  ⟨c0_i32_1435, v3841, c1_i32_1437⟩
def k0_off1 (i : grid0.Coords) (k0_t1 : Fin k0_t1_loop.trips) : Fin 3 → Nat :=
  let arg0 : BitVec 32 := BitVec.ofNat 32 (i 0).val
  let c16_i32_1439 : BitVec 32 := 16#32
  let v3842 : BitVec 32 := Scalar.muli arg0 c16_i32_1439
  let c0_i32_1435 : BitVec 32 := 0#32
  let c1_i32_1437 : BitVec 32 := 1#32
  let arg8 : BitVec 32 := Scf.iv c0_i32_1435 c1_i32_1437 k0_t1
  let v3843 : BitVec 32 := Scalar.addi v3842 arg8
  let c0_i32_1440 : BitVec 32 := 0#32
  let c0_i32_1441 : BitVec 32 := 0#32
  ![v3843.toNat, 0, 0]
@[reducible] def k0_t2_loop : Scf.Loop 32 :=
  let c0_i32_1506 : BitVec 32 := 0#32
  let c64_i32 : BitVec 32 := 64#32
  let v4039 : BitVec 32 := Scalar.addi c0_i32_1506 c64_i32
  let c1_i32_1507 : BitVec 32 := 1#32
  ⟨c0_i32_1506, v4039, c1_i32_1507⟩
def k0_off2 (k0_t2 : Fin k0_t2_loop.trips) : Fin 2 → Nat :=
  let c0_i32_1506 : BitVec 32 := 0#32
  let c1_i32_1507 : BitVec 32 := 1#32
  let arg9 : BitVec 32 := Scf.iv c0_i32_1506 c1_i32_1507 k0_t2
  let c16_i32_1574 : BitVec 32 := 16#32
  let v4236 : BitVec 32 := Scalar.muli arg9 c16_i32_1574
  let v4237 : Index := Scalar.indexCast v4236
  let c0_1575 : Index := 0#32
  ![v4237.toNat, 0]
def k0_off3 (k0_t1 : Fin k0_t1_loop.trips) : Fin 3 → Nat :=
  let c0_i32_1435 : BitVec 32 := 0#32
  let c1_i32_1437 : BitVec 32 := 1#32
  let arg8 : BitVec 32 := Scf.iv c0_i32_1435 c1_i32_1437 k0_t1
  let v4051 : Index := Scalar.indexCast arg8
  let c0_1512 : Index := 0#32
  let c0_1513 : Index := 0#32
  ![v4051.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

@[reducible] def k1_t1_loop : Scf.Loop 32 :=
  let c0_i32_1435 : BitVec 32 := 0#32
  let c16_i32_1436 : BitVec 32 := 16#32
  let v3841 : BitVec 32 := Scalar.addi c0_i32_1435 c16_i32_1436
  let c1_i32_1437 : BitVec 32 := 1#32
  ⟨c0_i32_1435, v3841, c1_i32_1437⟩
def k1_off1 (i : grid1.Coords) (k1_t1 : Fin k1_t1_loop.trips) : Fin 3 → Nat :=
  let arg0 : BitVec 32 := BitVec.ofNat 32 (i 0).val
  let c16_i32_1439 : BitVec 32 := 16#32
  let v3842 : BitVec 32 := Scalar.muli arg0 c16_i32_1439
  let c0_i32_1435 : BitVec 32 := 0#32
  let c1_i32_1437 : BitVec 32 := 1#32
  let arg8 : BitVec 32 := Scf.iv c0_i32_1435 c1_i32_1437 k1_t1
  let v3843 : BitVec 32 := Scalar.addi v3842 arg8
  let c0_i32_1440 : BitVec 32 := 0#32
  let c0_i32_1441 : BitVec 32 := 0#32
  ![v3843.toNat, 0, 0]
@[reducible] def k1_t2_loop : Scf.Loop 32 :=
  let c0_i32_1506 : BitVec 32 := 0#32
  let c32_i32 : BitVec 32 := 32#32
  let v4039 : BitVec 32 := Scalar.addi c0_i32_1506 c32_i32
  let c1_i32_1507 : BitVec 32 := 1#32
  ⟨c0_i32_1506, v4039, c1_i32_1507⟩
def k1_off2 (k1_t2 : Fin k1_t2_loop.trips) : Fin 2 → Nat :=
  let c0_i32_1506 : BitVec 32 := 0#32
  let c1_i32_1507 : BitVec 32 := 1#32
  let arg9 : BitVec 32 := Scf.iv c0_i32_1506 c1_i32_1507 k1_t2
  let c16_i32_1574 : BitVec 32 := 16#32
  let v4236 : BitVec 32 := Scalar.muli arg9 c16_i32_1574
  let v4237 : Index := Scalar.indexCast v4236
  let c0_1575 : Index := 0#32
  ![v4237.toNat, 0]
def k1_off3 (k1_t1 : Fin k1_t1_loop.trips) : Fin 3 → Nat :=
  let c0_i32_1435 : BitVec 32 := 0#32
  let c1_i32_1437 : BitVec 32 := 1#32
  let arg8 : BitVec 32 := Scf.iv c0_i32_1435 c1_i32_1437 k1_t1
  let v4051 : Index := Scalar.indexCast arg8
  let c0_1512 : Index := 0#32
  let c0_1513 : Index := 0#32
  ![v4051.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x64x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S64x1024 : Shape := ⟨2, ![64, 1024]⟩
abbrev S512x1024x2 : Shape := ⟨3, ![512, 1024, 2]⟩
abbrev S1024x512x2 : Shape := ⟨3, ![1024, 512, 2]⟩
abbrev S512 : Shape := ⟨1, ![512]⟩
abbrev S1024 : Shape := ⟨1, ![1024]⟩
abbrev S512x1024x1 : Shape := ⟨3, ![512, 1024, 1]⟩
abbrev S512x1024 : Shape := ⟨2, ![512, 1024]⟩
abbrev S_ : Shape := ⟨0, ![]⟩
abbrev S33554432 : Shape := ⟨1, ![33554432]⟩
abbrev S64x512x1024 : Shape := ⟨3, ![64, 512, 1024]⟩
abbrev S1x512x1024 : Shape := ⟨3, ![1, 512, 1024]⟩
abbrev S64x512 : Shape := ⟨2, ![64, 512]⟩
abbrev S32768 : Shape := ⟨1, ![32768]⟩
abbrev S1x1x1024 : Shape := ⟨3, ![1, 1, 1024]⟩
abbrev S64x512x1 : Shape := ⟨3, ![64, 512, 1]⟩
abbrev S64x1x1024 : Shape := ⟨3, ![64, 1, 1024]⟩
abbrev S1x512x1 : Shape := ⟨3, ![1, 512, 1]⟩
abbrev S1x512 : Shape := ⟨2, ![1, 512]⟩
abbrev S1024x512x1 : Shape := ⟨3, ![1024, 512, 1]⟩
abbrev S1024x512 : Shape := ⟨2, ![1024, 512]⟩
abbrev S64x1024x512 : Shape := ⟨3, ![64, 1024, 512]⟩
abbrev S1x1024x512 : Shape := ⟨3, ![1, 1024, 512]⟩
abbrev S65536 : Shape := ⟨1, ![65536]⟩
abbrev S1x1x512 : Shape := ⟨3, ![1, 1, 512]⟩
abbrev S64x1024x1 : Shape := ⟨3, ![64, 1024, 1]⟩
abbrev S64x1x512 : Shape := ⟨3, ![64, 1, 512]⟩
abbrev S1x1024x1 : Shape := ⟨3, ![1, 1024, 1]⟩
abbrev S1x1024 : Shape := ⟨2, ![1, 1024]⟩

abbrev nBuf : Space → Nat
  | .hbm => 1053
  | .vmem => 0
  | .smem => 0
  | _ => 0

abbrev hbmTy0_0 (i : Nat) : BufTy := match i % 128 with
  | 0 => ⟨S64x1024, .f32⟩
  | 1 => ⟨S512x1024x2, .f32⟩
  | 2 => ⟨S1024x512x2, .f32⟩
  | 3 => ⟨S512, .i1⟩
  | 4 => ⟨S1024, .i1⟩
  | 5 => ⟨S512x1024x1, .f32⟩
  | 6 => ⟨S512x1024, .f32⟩
  | 7 => ⟨S_, .f32⟩
  | 8 => ⟨S512x1024, .f32⟩
  | 9 => ⟨S512x1024, .f32⟩
  | 10 => ⟨S33554432, .i32⟩
  | 11 => ⟨S64x512x1024, .i32⟩
  | 12 => ⟨S_, .i32⟩
  | 13 => ⟨S64x512x1024, .i32⟩
  | 14 => ⟨S_, .i32⟩
  | 15 => ⟨S64x512x1024, .i32⟩
  | 16 => ⟨S64x512x1024, .i32⟩
  | 17 => ⟨S_, .i32⟩
  | 18 => ⟨S64x512x1024, .i32⟩
  | 19 => ⟨S64x512x1024, .i32⟩
  | 20 => ⟨S64x512x1024, .i32⟩
  | 21 => ⟨S_, .i32⟩
  | 22 => ⟨S64x512x1024, .i32⟩
  | 23 => ⟨S64x512x1024, .i32⟩
  | 24 => ⟨S_, .i32⟩
  | 25 => ⟨S64x512x1024, .i32⟩
  | 26 => ⟨S64x512x1024, .i32⟩
  | 27 => ⟨S64x512x1024, .i32⟩
  | 28 => ⟨S64x512x1024, .i32⟩
  | 29 => ⟨S64x512x1024, .i32⟩
  | 30 => ⟨S_, .i32⟩
  | 31 => ⟨S64x512x1024, .i32⟩
  | 32 => ⟨S64x512x1024, .i32⟩
  | 33 => ⟨S_, .i32⟩
  | 34 => ⟨S64x512x1024, .i32⟩
  | 35 => ⟨S64x512x1024, .i32⟩
  | 36 => ⟨S64x512x1024, .i32⟩
  | 37 => ⟨S64x512x1024, .i32⟩
  | 38 => ⟨S64x512x1024, .i32⟩
  | 39 => ⟨S_, .i32⟩
  | 40 => ⟨S64x512x1024, .i32⟩
  | 41 => ⟨S64x512x1024, .i32⟩
  | 42 => ⟨S_, .i32⟩
  | 43 => ⟨S64x512x1024, .i32⟩
  | 44 => ⟨S64x512x1024, .i32⟩
  | 45 => ⟨S64x512x1024, .i32⟩
  | 46 => ⟨S64x512x1024, .i32⟩
  | 47 => ⟨S64x512x1024, .i32⟩
  | 48 => ⟨S_, .i32⟩
  | 49 => ⟨S64x512x1024, .i32⟩
  | 50 => ⟨S64x512x1024, .i32⟩
  | 51 => ⟨S_, .i32⟩
  | 52 => ⟨S64x512x1024, .i32⟩
  | 53 => ⟨S64x512x1024, .i32⟩
  | 54 => ⟨S64x512x1024, .i32⟩
  | 55 => ⟨S64x512x1024, .i32⟩
  | 56 => ⟨S_, .i32⟩
  | 57 => ⟨S64x512x1024, .i32⟩
  | 58 => ⟨S64x512x1024, .i32⟩
  | 59 => ⟨S_, .i32⟩
  | 60 => ⟨S64x512x1024, .i32⟩
  | 61 => ⟨S64x512x1024, .i32⟩
  | 62 => ⟨S_, .i32⟩
  | 63 => ⟨S64x512x1024, .i32⟩
  | 64 => ⟨S64x512x1024, .i32⟩
  | 65 => ⟨S64x512x1024, .i32⟩
  | 66 => ⟨S_, .i32⟩
  | 67 => ⟨S64x512x1024, .i32⟩
  | 68 => ⟨S64x512x1024, .i32⟩
  | 69 => ⟨S_, .i32⟩
  | 70 => ⟨S64x512x1024, .i32⟩
  | 71 => ⟨S64x512x1024, .i32⟩
  | 72 => ⟨S64x512x1024, .i32⟩
  | 73 => ⟨S64x512x1024, .i32⟩
  | 74 => ⟨S64x512x1024, .i32⟩
  | 75 => ⟨S_, .i32⟩
  | 76 => ⟨S64x512x1024, .i32⟩
  | 77 => ⟨S64x512x1024, .i32⟩
  | 78 => ⟨S_, .i32⟩
  | 79 => ⟨S64x512x1024, .i32⟩
  | 80 => ⟨S64x512x1024, .i32⟩
  | 81 => ⟨S64x512x1024, .i32⟩
  | 82 => ⟨S64x512x1024, .i32⟩
  | 83 => ⟨S64x512x1024, .i32⟩
  | 84 => ⟨S_, .i32⟩
  | 85 => ⟨S64x512x1024, .i32⟩
  | 86 => ⟨S64x512x1024, .i32⟩
  | 87 => ⟨S_, .i32⟩
  | 88 => ⟨S64x512x1024, .i32⟩
  | 89 => ⟨S64x512x1024, .i32⟩
  | 90 => ⟨S64x512x1024, .i32⟩
  | 91 => ⟨S64x512x1024, .i32⟩
  | 92 => ⟨S64x512x1024, .i32⟩
  | 93 => ⟨S_, .i32⟩
  | 94 => ⟨S64x512x1024, .i32⟩
  | 95 => ⟨S64x512x1024, .i32⟩
  | 96 => ⟨S_, .i32⟩
  | 97 => ⟨S64x512x1024, .i32⟩
  | 98 => ⟨S64x512x1024, .i32⟩
  | 99 => ⟨S64x512x1024, .i32⟩
  | 100 => ⟨S64x512x1024, .i32⟩
  | 101 => ⟨S_, .i32⟩
  | 102 => ⟨S64x512x1024, .i32⟩
  | 103 => ⟨S64x512x1024, .i32⟩
  | 104 => ⟨S_, .i32⟩
  | 105 => ⟨S64x512x1024, .i32⟩
  | 106 => ⟨S64x512x1024, .i32⟩
  | 107 => ⟨S_, .i32⟩
  | 108 => ⟨S64x512x1024, .i32⟩
  | 109 => ⟨S64x512x1024, .i32⟩
  | 110 => ⟨S64x512x1024, .i32⟩
  | 111 => ⟨S_, .i32⟩
  | 112 => ⟨S64x512x1024, .i32⟩
  | 113 => ⟨S64x512x1024, .i32⟩
  | 114 => ⟨S_, .i32⟩
  | 115 => ⟨S64x512x1024, .i32⟩
  | 116 => ⟨S64x512x1024, .i32⟩
  | 117 => ⟨S64x512x1024, .i32⟩
  | 118 => ⟨S64x512x1024, .i32⟩
  | 119 => ⟨S64x512x1024, .i32⟩
  | 120 => ⟨S_, .i32⟩
  | 121 => ⟨S64x512x1024, .i32⟩
  | 122 => ⟨S64x512x1024, .i32⟩
  | 123 => ⟨S_, .i32⟩
  | 124 => ⟨S64x512x1024, .i32⟩
  | 125 => ⟨S64x512x1024, .i32⟩
  | 126 => ⟨S64x512x1024, .i32⟩
  | 127 => ⟨S64x512x1024, .i32⟩
  | _ => ⟨S64x1024, .f32⟩

abbrev hbmTy0_1 (i : Nat) : BufTy := match i % 128 with
  | 0 => ⟨S64x512x1024, .i32⟩
  | 1 => ⟨S_, .i32⟩
  | 2 => ⟨S64x512x1024, .i32⟩
  | 3 => ⟨S64x512x1024, .i32⟩
  | 4 => ⟨S_, .i32⟩
  | 5 => ⟨S64x512x1024, .i32⟩
  | 6 => ⟨S64x512x1024, .i32⟩
  | 7 => ⟨S64x512x1024, .i32⟩
  | 8 => ⟨S64x512x1024, .i32⟩
  | 9 => ⟨S64x512x1024, .i32⟩
  | 10 => ⟨S_, .i32⟩
  | 11 => ⟨S64x512x1024, .i32⟩
  | 12 => ⟨S64x512x1024, .i32⟩
  | 13 => ⟨S_, .i32⟩
  | 14 => ⟨S64x512x1024, .i32⟩
  | 15 => ⟨S64x512x1024, .i32⟩
  | 16 => ⟨S64x512x1024, .i32⟩
  | 17 => ⟨S64x512x1024, .i32⟩
  | 18 => ⟨S_, .i32⟩
  | 19 => ⟨S64x512x1024, .i32⟩
  | 20 => ⟨S64x512x1024, .i32⟩
  | 21 => ⟨S_, .i32⟩
  | 22 => ⟨S64x512x1024, .i32⟩
  | 23 => ⟨S64x512x1024, .i32⟩
  | 24 => ⟨S_, .i32⟩
  | 25 => ⟨S64x512x1024, .i32⟩
  | 26 => ⟨S64x512x1024, .i32⟩
  | 27 => ⟨S64x512x1024, .i32⟩
  | 28 => ⟨S_, .i32⟩
  | 29 => ⟨S64x512x1024, .i32⟩
  | 30 => ⟨S64x512x1024, .i32⟩
  | 31 => ⟨S_, .i32⟩
  | 32 => ⟨S64x512x1024, .i32⟩
  | 33 => ⟨S64x512x1024, .i32⟩
  | 34 => ⟨S64x512x1024, .i32⟩
  | 35 => ⟨S64x512x1024, .i32⟩
  | 36 => ⟨S64x512x1024, .i32⟩
  | 37 => ⟨S_, .i32⟩
  | 38 => ⟨S64x512x1024, .i32⟩
  | 39 => ⟨S64x512x1024, .i32⟩
  | 40 => ⟨S_, .i32⟩
  | 41 => ⟨S64x512x1024, .i32⟩
  | 42 => ⟨S64x512x1024, .i32⟩
  | 43 => ⟨S64x512x1024, .i32⟩
  | 44 => ⟨S64x512x1024, .i32⟩
  | 45 => ⟨S64x512x1024, .i32⟩
  | 46 => ⟨S_, .i32⟩
  | 47 => ⟨S64x512x1024, .i32⟩
  | 48 => ⟨S64x512x1024, .i32⟩
  | 49 => ⟨S_, .i32⟩
  | 50 => ⟨S64x512x1024, .i32⟩
  | 51 => ⟨S64x512x1024, .i32⟩
  | 52 => ⟨S64x512x1024, .i32⟩
  | 53 => ⟨S64x512x1024, .i32⟩
  | 54 => ⟨S64x512x1024, .i32⟩
  | 55 => ⟨S_, .i32⟩
  | 56 => ⟨S64x512x1024, .i32⟩
  | 57 => ⟨S64x512x1024, .i32⟩
  | 58 => ⟨S_, .i32⟩
  | 59 => ⟨S64x512x1024, .i32⟩
  | 60 => ⟨S64x512x1024, .i32⟩
  | 61 => ⟨S64x512x1024, .i32⟩
  | 62 => ⟨S64x512x1024, .i32⟩
  | 63 => ⟨S_, .i32⟩
  | 64 => ⟨S64x512x1024, .i32⟩
  | 65 => ⟨S64x512x1024, .i32⟩
  | 66 => ⟨S_, .i32⟩
  | 67 => ⟨S64x512x1024, .i32⟩
  | 68 => ⟨S64x512x1024, .i32⟩
  | 69 => ⟨S_, .i32⟩
  | 70 => ⟨S64x512x1024, .i32⟩
  | 71 => ⟨S64x512x1024, .i32⟩
  | 72 => ⟨S64x512x1024, .i32⟩
  | 73 => ⟨S_, .i32⟩
  | 74 => ⟨S64x512x1024, .i32⟩
  | 75 => ⟨S64x512x1024, .i32⟩
  | 76 => ⟨S_, .i32⟩
  | 77 => ⟨S64x512x1024, .i32⟩
  | 78 => ⟨S64x512x1024, .i32⟩
  | 79 => ⟨S64x512x1024, .i32⟩
  | 80 => ⟨S64x512x1024, .i32⟩
  | 81 => ⟨S64x512x1024, .i32⟩
  | 82 => ⟨S_, .i32⟩
  | 83 => ⟨S64x512x1024, .i32⟩
  | 84 => ⟨S64x512x1024, .i32⟩
  | 85 => ⟨S_, .i32⟩
  | 86 => ⟨S64x512x1024, .i32⟩
  | 87 => ⟨S64x512x1024, .i32⟩
  | 88 => ⟨S64x512x1024, .i32⟩
  | 89 => ⟨S64x512x1024, .i32⟩
  | 90 => ⟨S64x512x1024, .i32⟩
  | 91 => ⟨S_, .i32⟩
  | 92 => ⟨S64x512x1024, .i32⟩
  | 93 => ⟨S64x512x1024, .i32⟩
  | 94 => ⟨S_, .i32⟩
  | 95 => ⟨S64x512x1024, .i32⟩
  | 96 => ⟨S64x512x1024, .i32⟩
  | 97 => ⟨S64x512x1024, .i32⟩
  | 98 => ⟨S64x512x1024, .i32⟩
  | 99 => ⟨S64x512x1024, .i32⟩
  | 100 => ⟨S_, .i32⟩
  | 101 => ⟨S64x512x1024, .i32⟩
  | 102 => ⟨S64x512x1024, .i32⟩
  | 103 => ⟨S_, .i32⟩
  | 104 => ⟨S64x512x1024, .i32⟩
  | 105 => ⟨S64x512x1024, .i32⟩
  | 106 => ⟨S64x512x1024, .i32⟩
  | 107 => ⟨S64x512x1024, .i32⟩
  | 108 => ⟨S_, .i32⟩
  | 109 => ⟨S64x512x1024, .i32⟩
  | 110 => ⟨S64x512x1024, .i32⟩
  | 111 => ⟨S_, .i32⟩
  | 112 => ⟨S64x512x1024, .i32⟩
  | 113 => ⟨S64x512x1024, .i32⟩
  | 114 => ⟨S_, .i32⟩
  | 115 => ⟨S64x512x1024, .i32⟩
  | 116 => ⟨S64x512x1024, .i32⟩
  | 117 => ⟨S64x512x1024, .i32⟩
  | 118 => ⟨S_, .i32⟩
  | 119 => ⟨S64x512x1024, .i32⟩
  | 120 => ⟨S64x512x1024, .i32⟩
  | 121 => ⟨S_, .i32⟩
  | 122 => ⟨S64x512x1024, .i32⟩
  | 123 => ⟨S64x512x1024, .i32⟩
  | 124 => ⟨S64x512x1024, .f32⟩
  | 125 => ⟨S_, .f32⟩
  | 126 => ⟨S64x512x1024, .f32⟩
  | 127 => ⟨S64x512x1024, .f32⟩
  | _ => ⟨S64x1024, .f32⟩

abbrev hbmTy0_2 (i : Nat) : BufTy := match i % 128 with
  | 0 => ⟨S1x512x1024, .f32⟩
  | 1 => ⟨S64x512x1024, .f32⟩
  | 2 => ⟨S64x512x1024, .i1⟩
  | 3 => ⟨S_, .i1⟩
  | 4 => ⟨S64x512, .i1⟩
  | 5 => ⟨S64x512, .i1⟩
  | 6 => ⟨S32768, .i32⟩
  | 7 => ⟨S64x512, .i32⟩
  | 8 => ⟨S_, .i32⟩
  | 9 => ⟨S64x512, .i32⟩
  | 10 => ⟨S_, .i32⟩
  | 11 => ⟨S64x512, .i32⟩
  | 12 => ⟨S64x512, .i32⟩
  | 13 => ⟨S_, .i32⟩
  | 14 => ⟨S64x512, .i32⟩
  | 15 => ⟨S64x512, .i32⟩
  | 16 => ⟨S64x512, .i32⟩
  | 17 => ⟨S_, .i32⟩
  | 18 => ⟨S64x512, .i32⟩
  | 19 => ⟨S64x512, .i32⟩
  | 20 => ⟨S_, .i32⟩
  | 21 => ⟨S64x512, .i32⟩
  | 22 => ⟨S64x512, .i32⟩
  | 23 => ⟨S64x512, .i32⟩
  | 24 => ⟨S64x512, .i32⟩
  | 25 => ⟨S64x512, .i32⟩
  | 26 => ⟨S_, .i32⟩
  | 27 => ⟨S64x512, .i32⟩
  | 28 => ⟨S64x512, .i32⟩
  | 29 => ⟨S_, .i32⟩
  | 30 => ⟨S64x512, .i32⟩
  | 31 => ⟨S64x512, .i32⟩
  | 32 => ⟨S64x512, .i32⟩
  | 33 => ⟨S64x512, .i32⟩
  | 34 => ⟨S64x512, .i32⟩
  | 35 => ⟨S_, .i32⟩
  | 36 => ⟨S64x512, .i32⟩
  | 37 => ⟨S64x512, .i32⟩
  | 38 => ⟨S_, .i32⟩
  | 39 => ⟨S64x512, .i32⟩
  | 40 => ⟨S64x512, .i32⟩
  | 41 => ⟨S64x512, .i32⟩
  | 42 => ⟨S64x512, .i32⟩
  | 43 => ⟨S64x512, .i32⟩
  | 44 => ⟨S_, .i32⟩
  | 45 => ⟨S64x512, .i32⟩
  | 46 => ⟨S64x512, .i32⟩
  | 47 => ⟨S_, .i32⟩
  | 48 => ⟨S64x512, .i32⟩
  | 49 => ⟨S64x512, .i32⟩
  | 50 => ⟨S64x512, .i32⟩
  | 51 => ⟨S64x512, .i32⟩
  | 52 => ⟨S_, .i32⟩
  | 53 => ⟨S64x512, .i32⟩
  | 54 => ⟨S64x512, .i32⟩
  | 55 => ⟨S_, .i32⟩
  | 56 => ⟨S64x512, .i32⟩
  | 57 => ⟨S64x512, .i32⟩
  | 58 => ⟨S_, .i32⟩
  | 59 => ⟨S64x512, .i32⟩
  | 60 => ⟨S64x512, .i32⟩
  | 61 => ⟨S64x512, .i32⟩
  | 62 => ⟨S_, .i32⟩
  | 63 => ⟨S64x512, .i32⟩
  | 64 => ⟨S64x512, .i32⟩
  | 65 => ⟨S_, .i32⟩
  | 66 => ⟨S64x512, .i32⟩
  | 67 => ⟨S64x512, .i32⟩
  | 68 => ⟨S64x512, .i32⟩
  | 69 => ⟨S64x512, .i32⟩
  | 70 => ⟨S64x512, .i32⟩
  | 71 => ⟨S_, .i32⟩
  | 72 => ⟨S64x512, .i32⟩
  | 73 => ⟨S64x512, .i32⟩
  | 74 => ⟨S_, .i32⟩
  | 75 => ⟨S64x512, .i32⟩
  | 76 => ⟨S64x512, .i32⟩
  | 77 => ⟨S64x512, .i32⟩
  | 78 => ⟨S64x512, .i32⟩
  | 79 => ⟨S64x512, .i32⟩
  | 80 => ⟨S_, .i32⟩
  | 81 => ⟨S64x512, .i32⟩
  | 82 => ⟨S64x512, .i32⟩
  | 83 => ⟨S_, .i32⟩
  | 84 => ⟨S64x512, .i32⟩
  | 85 => ⟨S64x512, .i32⟩
  | 86 => ⟨S64x512, .i32⟩
  | 87 => ⟨S64x512, .i32⟩
  | 88 => ⟨S64x512, .i32⟩
  | 89 => ⟨S_, .i32⟩
  | 90 => ⟨S64x512, .i32⟩
  | 91 => ⟨S64x512, .i32⟩
  | 92 => ⟨S_, .i32⟩
  | 93 => ⟨S64x512, .i32⟩
  | 94 => ⟨S64x512, .i32⟩
  | 95 => ⟨S64x512, .i32⟩
  | 96 => ⟨S64x512, .i32⟩
  | 97 => ⟨S_, .i32⟩
  | 98 => ⟨S64x512, .i32⟩
  | 99 => ⟨S64x512, .i32⟩
  | 100 => ⟨S_, .i32⟩
  | 101 => ⟨S64x512, .i32⟩
  | 102 => ⟨S64x512, .i32⟩
  | 103 => ⟨S_, .i32⟩
  | 104 => ⟨S64x512, .i32⟩
  | 105 => ⟨S64x512, .i32⟩
  | 106 => ⟨S64x512, .i32⟩
  | 107 => ⟨S_, .i32⟩
  | 108 => ⟨S64x512, .i32⟩
  | 109 => ⟨S64x512, .i32⟩
  | 110 => ⟨S_, .i32⟩
  | 111 => ⟨S64x512, .i32⟩
  | 112 => ⟨S64x512, .i32⟩
  | 113 => ⟨S64x512, .i32⟩
  | 114 => ⟨S64x512, .i32⟩
  | 115 => ⟨S64x512, .i32⟩
  | 116 => ⟨S_, .i32⟩
  | 117 => ⟨S64x512, .i32⟩
  | 118 => ⟨S64x512, .i32⟩
  | 119 => ⟨S_, .i32⟩
  | 120 => ⟨S64x512, .i32⟩
  | 121 => ⟨S64x512, .i32⟩
  | 122 => ⟨S64x512, .i32⟩
  | 123 => ⟨S64x512, .i32⟩
  | 124 => ⟨S64x512, .i32⟩
  | 125 => ⟨S_, .i32⟩
  | 126 => ⟨S64x512, .i32⟩
  | 127 => ⟨S64x512, .i32⟩
  | _ => ⟨S64x1024, .f32⟩

abbrev hbmTy0_3 (i : Nat) : BufTy := match i % 128 with
  | 0 => ⟨S_, .i32⟩
  | 1 => ⟨S64x512, .i32⟩
  | 2 => ⟨S64x512, .i32⟩
  | 3 => ⟨S64x512, .i32⟩
  | 4 => ⟨S64x512, .i32⟩
  | 5 => ⟨S64x512, .i32⟩
  | 6 => ⟨S_, .i32⟩
  | 7 => ⟨S64x512, .i32⟩
  | 8 => ⟨S64x512, .i32⟩
  | 9 => ⟨S_, .i32⟩
  | 10 => ⟨S64x512, .i32⟩
  | 11 => ⟨S64x512, .i32⟩
  | 12 => ⟨S64x512, .i32⟩
  | 13 => ⟨S64x512, .i32⟩
  | 14 => ⟨S_, .i32⟩
  | 15 => ⟨S64x512, .i32⟩
  | 16 => ⟨S64x512, .i32⟩
  | 17 => ⟨S_, .i32⟩
  | 18 => ⟨S64x512, .i32⟩
  | 19 => ⟨S64x512, .i32⟩
  | 20 => ⟨S_, .i32⟩
  | 21 => ⟨S64x512, .i32⟩
  | 22 => ⟨S64x512, .i32⟩
  | 23 => ⟨S64x512, .i32⟩
  | 24 => ⟨S_, .i32⟩
  | 25 => ⟨S64x512, .i32⟩
  | 26 => ⟨S64x512, .i32⟩
  | 27 => ⟨S_, .i32⟩
  | 28 => ⟨S64x512, .i32⟩
  | 29 => ⟨S64x512, .i32⟩
  | 30 => ⟨S64x512, .i32⟩
  | 31 => ⟨S64x512, .i32⟩
  | 32 => ⟨S64x512, .i32⟩
  | 33 => ⟨S_, .i32⟩
  | 34 => ⟨S64x512, .i32⟩
  | 35 => ⟨S64x512, .i32⟩
  | 36 => ⟨S_, .i32⟩
  | 37 => ⟨S64x512, .i32⟩
  | 38 => ⟨S64x512, .i32⟩
  | 39 => ⟨S64x512, .i32⟩
  | 40 => ⟨S64x512, .i32⟩
  | 41 => ⟨S64x512, .i32⟩
  | 42 => ⟨S_, .i32⟩
  | 43 => ⟨S64x512, .i32⟩
  | 44 => ⟨S64x512, .i32⟩
  | 45 => ⟨S_, .i32⟩
  | 46 => ⟨S64x512, .i32⟩
  | 47 => ⟨S64x512, .i32⟩
  | 48 => ⟨S64x512, .i32⟩
  | 49 => ⟨S64x512, .i32⟩
  | 50 => ⟨S64x512, .i32⟩
  | 51 => ⟨S_, .i32⟩
  | 52 => ⟨S64x512, .i32⟩
  | 53 => ⟨S64x512, .i32⟩
  | 54 => ⟨S_, .i32⟩
  | 55 => ⟨S64x512, .i32⟩
  | 56 => ⟨S64x512, .i32⟩
  | 57 => ⟨S64x512, .i32⟩
  | 58 => ⟨S64x512, .i32⟩
  | 59 => ⟨S_, .i32⟩
  | 60 => ⟨S64x512, .i32⟩
  | 61 => ⟨S64x512, .i32⟩
  | 62 => ⟨S_, .i32⟩
  | 63 => ⟨S64x512, .i32⟩
  | 64 => ⟨S64x512, .i32⟩
  | 65 => ⟨S_, .i32⟩
  | 66 => ⟨S64x512, .i32⟩
  | 67 => ⟨S64x512, .i32⟩
  | 68 => ⟨S64x512, .i32⟩
  | 69 => ⟨S_, .i32⟩
  | 70 => ⟨S64x512, .i32⟩
  | 71 => ⟨S64x512, .i32⟩
  | 72 => ⟨S_, .i32⟩
  | 73 => ⟨S64x512, .i32⟩
  | 74 => ⟨S64x512, .i32⟩
  | 75 => ⟨S64x512, .i32⟩
  | 76 => ⟨S64x512, .i32⟩
  | 77 => ⟨S64x512, .i32⟩
  | 78 => ⟨S_, .i32⟩
  | 79 => ⟨S64x512, .i32⟩
  | 80 => ⟨S64x512, .i32⟩
  | 81 => ⟨S_, .i32⟩
  | 82 => ⟨S64x512, .i32⟩
  | 83 => ⟨S64x512, .i32⟩
  | 84 => ⟨S64x512, .i32⟩
  | 85 => ⟨S64x512, .i32⟩
  | 86 => ⟨S64x512, .i32⟩
  | 87 => ⟨S_, .i32⟩
  | 88 => ⟨S64x512, .i32⟩
  | 89 => ⟨S64x512, .i32⟩
  | 90 => ⟨S_, .i32⟩
  | 91 => ⟨S64x512, .i32⟩
  | 92 => ⟨S64x512, .i32⟩
  | 93 => ⟨S64x512, .i32⟩
  | 94 => ⟨S64x512, .i32⟩
  | 95 => ⟨S64x512, .i32⟩
  | 96 => ⟨S_, .i32⟩
  | 97 => ⟨S64x512, .i32⟩
  | 98 => ⟨S64x512, .i32⟩
  | 99 => ⟨S_, .i32⟩
  | 100 => ⟨S64x512, .i32⟩
  | 101 => ⟨S64x512, .i32⟩
  | 102 => ⟨S64x512, .i32⟩
  | 103 => ⟨S64x512, .i32⟩
  | 104 => ⟨S_, .i32⟩
  | 105 => ⟨S64x512, .i32⟩
  | 106 => ⟨S64x512, .i32⟩
  | 107 => ⟨S_, .i32⟩
  | 108 => ⟨S64x512, .i32⟩
  | 109 => ⟨S64x512, .i32⟩
  | 110 => ⟨S_, .i32⟩
  | 111 => ⟨S64x512, .i32⟩
  | 112 => ⟨S64x512, .i32⟩
  | 113 => ⟨S64x512, .i32⟩
  | 114 => ⟨S_, .i32⟩
  | 115 => ⟨S64x512, .i32⟩
  | 116 => ⟨S64x512, .i32⟩
  | 117 => ⟨S64x512, .i32⟩
  | 118 => ⟨S1024, .i32⟩
  | 119 => ⟨S1x1x1024, .i32⟩
  | 120 => ⟨S64x512x1, .i32⟩
  | 121 => ⟨S64x512x1024, .i32⟩
  | 122 => ⟨S64x512x1024, .i32⟩
  | 123 => ⟨S64x512x1024, .i1⟩
  | 124 => ⟨S64x512x1, .i1⟩
  | 125 => ⟨S64x512x1024, .i1⟩
  | 126 => ⟨S64x512x1024, .i1⟩
  | 127 => ⟨S64x512x1024, .i1⟩
  | _ => ⟨S64x1024, .f32⟩

abbrev hbmTy0_4 (i : Nat) : BufTy := match i % 128 with
  | 0 => ⟨S_, .f32⟩
  | 1 => ⟨S512, .f32⟩
  | 2 => ⟨S_, .f32⟩
  | 3 => ⟨S512, .f32⟩
  | 4 => ⟨S512, .f32⟩
  | 5 => ⟨S64x1x1024, .f32⟩
  | 6 => ⟨S1x512x1, .f32⟩
  | 7 => ⟨S64x512x1024, .f32⟩
  | 8 => ⟨S64x512x1024, .f32⟩
  | 9 => ⟨S64x512x1024, .f32⟩
  | 10 => ⟨S_, .f32⟩
  | 11 => ⟨S64x512, .f32⟩
  | 12 => ⟨S_, .f32⟩
  | 13 => ⟨S64x512, .f32⟩
  | 14 => ⟨S1x512, .i1⟩
  | 15 => ⟨S64x512, .i1⟩
  | 16 => ⟨S64x512, .f32⟩
  | 17 => ⟨S1024x512x1, .f32⟩
  | 18 => ⟨S1024x512, .f32⟩
  | 19 => ⟨S_, .f32⟩
  | 20 => ⟨S1024x512, .f32⟩
  | 21 => ⟨S1024x512, .f32⟩
  | 22 => ⟨S33554432, .i32⟩
  | 23 => ⟨S64x1024x512, .i32⟩
  | 24 => ⟨S_, .i32⟩
  | 25 => ⟨S64x1024x512, .i32⟩
  | 26 => ⟨S_, .i32⟩
  | 27 => ⟨S64x1024x512, .i32⟩
  | 28 => ⟨S64x1024x512, .i32⟩
  | 29 => ⟨S_, .i32⟩
  | 30 => ⟨S64x1024x512, .i32⟩
  | 31 => ⟨S64x1024x512, .i32⟩
  | 32 => ⟨S64x1024x512, .i32⟩
  | 33 => ⟨S_, .i32⟩
  | 34 => ⟨S64x1024x512, .i32⟩
  | 35 => ⟨S64x1024x512, .i32⟩
  | 36 => ⟨S_, .i32⟩
  | 37 => ⟨S64x1024x512, .i32⟩
  | 38 => ⟨S64x1024x512, .i32⟩
  | 39 => ⟨S64x1024x512, .i32⟩
  | 40 => ⟨S64x1024x512, .i32⟩
  | 41 => ⟨S64x1024x512, .i32⟩
  | 42 => ⟨S_, .i32⟩
  | 43 => ⟨S64x1024x512, .i32⟩
  | 44 => ⟨S64x1024x512, .i32⟩
  | 45 => ⟨S_, .i32⟩
  | 46 => ⟨S64x1024x512, .i32⟩
  | 47 => ⟨S64x1024x512, .i32⟩
  | 48 => ⟨S64x1024x512, .i32⟩
  | 49 => ⟨S64x1024x512, .i32⟩
  | 50 => ⟨S64x1024x512, .i32⟩
  | 51 => ⟨S_, .i32⟩
  | 52 => ⟨S64x1024x512, .i32⟩
  | 53 => ⟨S64x1024x512, .i32⟩
  | 54 => ⟨S_, .i32⟩
  | 55 => ⟨S64x1024x512, .i32⟩
  | 56 => ⟨S64x1024x512, .i32⟩
  | 57 => ⟨S64x1024x512, .i32⟩
  | 58 => ⟨S64x1024x512, .i32⟩
  | 59 => ⟨S64x1024x512, .i32⟩
  | 60 => ⟨S_, .i32⟩
  | 61 => ⟨S64x1024x512, .i32⟩
  | 62 => ⟨S64x1024x512, .i32⟩
  | 63 => ⟨S_, .i32⟩
  | 64 => ⟨S64x1024x512, .i32⟩
  | 65 => ⟨S64x1024x512, .i32⟩
  | 66 => ⟨S64x1024x512, .i32⟩
  | 67 => ⟨S64x1024x512, .i32⟩
  | 68 => ⟨S_, .i32⟩
  | 69 => ⟨S64x1024x512, .i32⟩
  | 70 => ⟨S64x1024x512, .i32⟩
  | 71 => ⟨S_, .i32⟩
  | 72 => ⟨S64x1024x512, .i32⟩
  | 73 => ⟨S64x1024x512, .i32⟩
  | 74 => ⟨S_, .i32⟩
  | 75 => ⟨S64x1024x512, .i32⟩
  | 76 => ⟨S64x1024x512, .i32⟩
  | 77 => ⟨S64x1024x512, .i32⟩
  | 78 => ⟨S_, .i32⟩
  | 79 => ⟨S64x1024x512, .i32⟩
  | 80 => ⟨S64x1024x512, .i32⟩
  | 81 => ⟨S_, .i32⟩
  | 82 => ⟨S64x1024x512, .i32⟩
  | 83 => ⟨S64x1024x512, .i32⟩
  | 84 => ⟨S64x1024x512, .i32⟩
  | 85 => ⟨S64x1024x512, .i32⟩
  | 86 => ⟨S64x1024x512, .i32⟩
  | 87 => ⟨S_, .i32⟩
  | 88 => ⟨S64x1024x512, .i32⟩
  | 89 => ⟨S64x1024x512, .i32⟩
  | 90 => ⟨S_, .i32⟩
  | 91 => ⟨S64x1024x512, .i32⟩
  | 92 => ⟨S64x1024x512, .i32⟩
  | 93 => ⟨S64x1024x512, .i32⟩
  | 94 => ⟨S64x1024x512, .i32⟩
  | 95 => ⟨S64x1024x512, .i32⟩
  | 96 => ⟨S_, .i32⟩
  | 97 => ⟨S64x1024x512, .i32⟩
  | 98 => ⟨S64x1024x512, .i32⟩
  | 99 => ⟨S_, .i32⟩
  | 100 => ⟨S64x1024x512, .i32⟩
  | 101 => ⟨S64x1024x512, .i32⟩
  | 102 => ⟨S64x1024x512, .i32⟩
  | 103 => ⟨S64x1024x512, .i32⟩
  | 104 => ⟨S64x1024x512, .i32⟩
  | 105 => ⟨S_, .i32⟩
  | 106 => ⟨S64x1024x512, .i32⟩
  | 107 => ⟨S64x1024x512, .i32⟩
  | 108 => ⟨S_, .i32⟩
  | 109 => ⟨S64x1024x512, .i32⟩
  | 110 => ⟨S64x1024x512, .i32⟩
  | 111 => ⟨S64x1024x512, .i32⟩
  | 112 => ⟨S64x1024x512, .i32⟩
  | 113 => ⟨S_, .i32⟩
  | 114 => ⟨S64x1024x512, .i32⟩
  | 115 => ⟨S64x1024x512, .i32⟩
  | 116 => ⟨S_, .i32⟩
  | 117 => ⟨S64x1024x512, .i32⟩
  | 118 => ⟨S64x1024x512, .i32⟩
  | 119 => ⟨S_, .i32⟩
  | 120 => ⟨S64x1024x512, .i32⟩
  | 121 => ⟨S64x1024x512, .i32⟩
  | 122 => ⟨S64x1024x512, .i32⟩
  | 123 => ⟨S_, .i32⟩
  | 124 => ⟨S64x1024x512, .i32⟩
  | 125 => ⟨S64x1024x512, .i32⟩
  | 126 => ⟨S_, .i32⟩
  | 127 => ⟨S64x1024x512, .i32⟩
  | _ => ⟨S64x1024, .f32⟩

abbrev hbmTy0_5 (i : Nat) : BufTy := match i % 128 with
  | 0 => ⟨S64x1024x512, .i32⟩
  | 1 => ⟨S64x1024x512, .i32⟩
  | 2 => ⟨S64x1024x512, .i32⟩
  | 3 => ⟨S64x1024x512, .i32⟩
  | 4 => ⟨S_, .i32⟩
  | 5 => ⟨S64x1024x512, .i32⟩
  | 6 => ⟨S64x1024x512, .i32⟩
  | 7 => ⟨S_, .i32⟩
  | 8 => ⟨S64x1024x512, .i32⟩
  | 9 => ⟨S64x1024x512, .i32⟩
  | 10 => ⟨S64x1024x512, .i32⟩
  | 11 => ⟨S64x1024x512, .i32⟩
  | 12 => ⟨S64x1024x512, .i32⟩
  | 13 => ⟨S_, .i32⟩
  | 14 => ⟨S64x1024x512, .i32⟩
  | 15 => ⟨S64x1024x512, .i32⟩
  | 16 => ⟨S_, .i32⟩
  | 17 => ⟨S64x1024x512, .i32⟩
  | 18 => ⟨S64x1024x512, .i32⟩
  | 19 => ⟨S64x1024x512, .i32⟩
  | 20 => ⟨S64x1024x512, .i32⟩
  | 21 => ⟨S64x1024x512, .i32⟩
  | 22 => ⟨S_, .i32⟩
  | 23 => ⟨S64x1024x512, .i32⟩
  | 24 => ⟨S64x1024x512, .i32⟩
  | 25 => ⟨S_, .i32⟩
  | 26 => ⟨S64x1024x512, .i32⟩
  | 27 => ⟨S64x1024x512, .i32⟩
  | 28 => ⟨S64x1024x512, .i32⟩
  | 29 => ⟨S64x1024x512, .i32⟩
  | 30 => ⟨S_, .i32⟩
  | 31 => ⟨S64x1024x512, .i32⟩
  | 32 => ⟨S64x1024x512, .i32⟩
  | 33 => ⟨S_, .i32⟩
  | 34 => ⟨S64x1024x512, .i32⟩
  | 35 => ⟨S64x1024x512, .i32⟩
  | 36 => ⟨S_, .i32⟩
  | 37 => ⟨S64x1024x512, .i32⟩
  | 38 => ⟨S64x1024x512, .i32⟩
  | 39 => ⟨S64x1024x512, .i32⟩
  | 40 => ⟨S_, .i32⟩
  | 41 => ⟨S64x1024x512, .i32⟩
  | 42 => ⟨S64x1024x512, .i32⟩
  | 43 => ⟨S_, .i32⟩
  | 44 => ⟨S64x1024x512, .i32⟩
  | 45 => ⟨S64x1024x512, .i32⟩
  | 46 => ⟨S64x1024x512, .i32⟩
  | 47 => ⟨S64x1024x512, .i32⟩
  | 48 => ⟨S64x1024x512, .i32⟩
  | 49 => ⟨S_, .i32⟩
  | 50 => ⟨S64x1024x512, .i32⟩
  | 51 => ⟨S64x1024x512, .i32⟩
  | 52 => ⟨S_, .i32⟩
  | 53 => ⟨S64x1024x512, .i32⟩
  | 54 => ⟨S64x1024x512, .i32⟩
  | 55 => ⟨S64x1024x512, .i32⟩
  | 56 => ⟨S64x1024x512, .i32⟩
  | 57 => ⟨S64x1024x512, .i32⟩
  | 58 => ⟨S_, .i32⟩
  | 59 => ⟨S64x1024x512, .i32⟩
  | 60 => ⟨S64x1024x512, .i32⟩
  | 61 => ⟨S_, .i32⟩
  | 62 => ⟨S64x1024x512, .i32⟩
  | 63 => ⟨S64x1024x512, .i32⟩
  | 64 => ⟨S64x1024x512, .i32⟩
  | 65 => ⟨S64x1024x512, .i32⟩
  | 66 => ⟨S64x1024x512, .i32⟩
  | 67 => ⟨S_, .i32⟩
  | 68 => ⟨S64x1024x512, .i32⟩
  | 69 => ⟨S64x1024x512, .i32⟩
  | 70 => ⟨S_, .i32⟩
  | 71 => ⟨S64x1024x512, .i32⟩
  | 72 => ⟨S64x1024x512, .i32⟩
  | 73 => ⟨S64x1024x512, .i32⟩
  | 74 => ⟨S64x1024x512, .i32⟩
  | 75 => ⟨S_, .i32⟩
  | 76 => ⟨S64x1024x512, .i32⟩
  | 77 => ⟨S64x1024x512, .i32⟩
  | 78 => ⟨S_, .i32⟩
  | 79 => ⟨S64x1024x512, .i32⟩
  | 80 => ⟨S64x1024x512, .i32⟩
  | 81 => ⟨S_, .i32⟩
  | 82 => ⟨S64x1024x512, .i32⟩
  | 83 => ⟨S64x1024x512, .i32⟩
  | 84 => ⟨S64x1024x512, .i32⟩
  | 85 => ⟨S_, .i32⟩
  | 86 => ⟨S64x1024x512, .i32⟩
  | 87 => ⟨S64x1024x512, .i32⟩
  | 88 => ⟨S_, .i32⟩
  | 89 => ⟨S64x1024x512, .i32⟩
  | 90 => ⟨S64x1024x512, .i32⟩
  | 91 => ⟨S64x1024x512, .i32⟩
  | 92 => ⟨S64x1024x512, .i32⟩
  | 93 => ⟨S64x1024x512, .i32⟩
  | 94 => ⟨S_, .i32⟩
  | 95 => ⟨S64x1024x512, .i32⟩
  | 96 => ⟨S64x1024x512, .i32⟩
  | 97 => ⟨S_, .i32⟩
  | 98 => ⟨S64x1024x512, .i32⟩
  | 99 => ⟨S64x1024x512, .i32⟩
  | 100 => ⟨S64x1024x512, .i32⟩
  | 101 => ⟨S64x1024x512, .i32⟩
  | 102 => ⟨S64x1024x512, .i32⟩
  | 103 => ⟨S_, .i32⟩
  | 104 => ⟨S64x1024x512, .i32⟩
  | 105 => ⟨S64x1024x512, .i32⟩
  | 106 => ⟨S_, .i32⟩
  | 107 => ⟨S64x1024x512, .i32⟩
  | 108 => ⟨S64x1024x512, .i32⟩
  | 109 => ⟨S64x1024x512, .i32⟩
  | 110 => ⟨S64x1024x512, .i32⟩
  | 111 => ⟨S64x1024x512, .i32⟩
  | 112 => ⟨S_, .i32⟩
  | 113 => ⟨S64x1024x512, .i32⟩
  | 114 => ⟨S64x1024x512, .i32⟩
  | 115 => ⟨S_, .i32⟩
  | 116 => ⟨S64x1024x512, .i32⟩
  | 117 => ⟨S64x1024x512, .i32⟩
  | 118 => ⟨S64x1024x512, .i32⟩
  | 119 => ⟨S64x1024x512, .i32⟩
  | 120 => ⟨S_, .i32⟩
  | 121 => ⟨S64x1024x512, .i32⟩
  | 122 => ⟨S64x1024x512, .i32⟩
  | 123 => ⟨S_, .i32⟩
  | 124 => ⟨S64x1024x512, .i32⟩
  | 125 => ⟨S64x1024x512, .i32⟩
  | 126 => ⟨S_, .i32⟩
  | 127 => ⟨S64x1024x512, .i32⟩
  | _ => ⟨S64x1024, .f32⟩

abbrev hbmTy0_6 (i : Nat) : BufTy := match i % 128 with
  | 0 => ⟨S64x1024x512, .i32⟩
  | 1 => ⟨S64x1024x512, .i32⟩
  | 2 => ⟨S_, .i32⟩
  | 3 => ⟨S64x1024x512, .i32⟩
  | 4 => ⟨S64x1024x512, .i32⟩
  | 5 => ⟨S_, .i32⟩
  | 6 => ⟨S64x1024x512, .i32⟩
  | 7 => ⟨S64x1024x512, .i32⟩
  | 8 => ⟨S64x1024x512, .f32⟩
  | 9 => ⟨S_, .f32⟩
  | 10 => ⟨S64x1024x512, .f32⟩
  | 11 => ⟨S64x1024x512, .f32⟩
  | 12 => ⟨S1x1024x512, .f32⟩
  | 13 => ⟨S64x1024x512, .f32⟩
  | 14 => ⟨S64x1024x512, .i1⟩
  | 15 => ⟨S_, .i1⟩
  | 16 => ⟨S64x1024, .i1⟩
  | 17 => ⟨S64x1024, .i1⟩
  | 18 => ⟨S65536, .i32⟩
  | 19 => ⟨S64x1024, .i32⟩
  | 20 => ⟨S_, .i32⟩
  | 21 => ⟨S64x1024, .i32⟩
  | 22 => ⟨S_, .i32⟩
  | 23 => ⟨S64x1024, .i32⟩
  | 24 => ⟨S64x1024, .i32⟩
  | 25 => ⟨S_, .i32⟩
  | 26 => ⟨S64x1024, .i32⟩
  | 27 => ⟨S64x1024, .i32⟩
  | 28 => ⟨S64x1024, .i32⟩
  | 29 => ⟨S_, .i32⟩
  | 30 => ⟨S64x1024, .i32⟩
  | 31 => ⟨S64x1024, .i32⟩
  | 32 => ⟨S_, .i32⟩
  | 33 => ⟨S64x1024, .i32⟩
  | 34 => ⟨S64x1024, .i32⟩
  | 35 => ⟨S64x1024, .i32⟩
  | 36 => ⟨S64x1024, .i32⟩
  | 37 => ⟨S64x1024, .i32⟩
  | 38 => ⟨S_, .i32⟩
  | 39 => ⟨S64x1024, .i32⟩
  | 40 => ⟨S64x1024, .i32⟩
  | 41 => ⟨S_, .i32⟩
  | 42 => ⟨S64x1024, .i32⟩
  | 43 => ⟨S64x1024, .i32⟩
  | 44 => ⟨S64x1024, .i32⟩
  | 45 => ⟨S64x1024, .i32⟩
  | 46 => ⟨S64x1024, .i32⟩
  | 47 => ⟨S_, .i32⟩
  | 48 => ⟨S64x1024, .i32⟩
  | 49 => ⟨S64x1024, .i32⟩
  | 50 => ⟨S_, .i32⟩
  | 51 => ⟨S64x1024, .i32⟩
  | 52 => ⟨S64x1024, .i32⟩
  | 53 => ⟨S64x1024, .i32⟩
  | 54 => ⟨S64x1024, .i32⟩
  | 55 => ⟨S64x1024, .i32⟩
  | 56 => ⟨S_, .i32⟩
  | 57 => ⟨S64x1024, .i32⟩
  | 58 => ⟨S64x1024, .i32⟩
  | 59 => ⟨S_, .i32⟩
  | 60 => ⟨S64x1024, .i32⟩
  | 61 => ⟨S64x1024, .i32⟩
  | 62 => ⟨S64x1024, .i32⟩
  | 63 => ⟨S64x1024, .i32⟩
  | 64 => ⟨S_, .i32⟩
  | 65 => ⟨S64x1024, .i32⟩
  | 66 => ⟨S64x1024, .i32⟩
  | 67 => ⟨S_, .i32⟩
  | 68 => ⟨S64x1024, .i32⟩
  | 69 => ⟨S64x1024, .i32⟩
  | 70 => ⟨S_, .i32⟩
  | 71 => ⟨S64x1024, .i32⟩
  | 72 => ⟨S64x1024, .i32⟩
  | 73 => ⟨S64x1024, .i32⟩
  | 74 => ⟨S_, .i32⟩
  | 75 => ⟨S64x1024, .i32⟩
  | 76 => ⟨S64x1024, .i32⟩
  | 77 => ⟨S_, .i32⟩
  | 78 => ⟨S64x1024, .i32⟩
  | 79 => ⟨S64x1024, .i32⟩
  | 80 => ⟨S64x1024, .i32⟩
  | 81 => ⟨S64x1024, .i32⟩
  | 82 => ⟨S64x1024, .i32⟩
  | 83 => ⟨S_, .i32⟩
  | 84 => ⟨S64x1024, .i32⟩
  | 85 => ⟨S64x1024, .i32⟩
  | 86 => ⟨S_, .i32⟩
  | 87 => ⟨S64x1024, .i32⟩
  | 88 => ⟨S64x1024, .i32⟩
  | 89 => ⟨S64x1024, .i32⟩
  | 90 => ⟨S64x1024, .i32⟩
  | 91 => ⟨S64x1024, .i32⟩
  | 92 => ⟨S_, .i32⟩
  | 93 => ⟨S64x1024, .i32⟩
  | 94 => ⟨S64x1024, .i32⟩
  | 95 => ⟨S_, .i32⟩
  | 96 => ⟨S64x1024, .i32⟩
  | 97 => ⟨S64x1024, .i32⟩
  | 98 => ⟨S64x1024, .i32⟩
  | 99 => ⟨S64x1024, .i32⟩
  | 100 => ⟨S64x1024, .i32⟩
  | 101 => ⟨S_, .i32⟩
  | 102 => ⟨S64x1024, .i32⟩
  | 103 => ⟨S64x1024, .i32⟩
  | 104 => ⟨S_, .i32⟩
  | 105 => ⟨S64x1024, .i32⟩
  | 106 => ⟨S64x1024, .i32⟩
  | 107 => ⟨S64x1024, .i32⟩
  | 108 => ⟨S64x1024, .i32⟩
  | 109 => ⟨S_, .i32⟩
  | 110 => ⟨S64x1024, .i32⟩
  | 111 => ⟨S64x1024, .i32⟩
  | 112 => ⟨S_, .i32⟩
  | 113 => ⟨S64x1024, .i32⟩
  | 114 => ⟨S64x1024, .i32⟩
  | 115 => ⟨S_, .i32⟩
  | 116 => ⟨S64x1024, .i32⟩
  | 117 => ⟨S64x1024, .i32⟩
  | 118 => ⟨S64x1024, .i32⟩
  | 119 => ⟨S_, .i32⟩
  | 120 => ⟨S64x1024, .i32⟩
  | 121 => ⟨S64x1024, .i32⟩
  | 122 => ⟨S_, .i32⟩
  | 123 => ⟨S64x1024, .i32⟩
  | 124 => ⟨S64x1024, .i32⟩
  | 125 => ⟨S64x1024, .i32⟩
  | 126 => ⟨S64x1024, .i32⟩
  | 127 => ⟨S64x1024, .i32⟩
  | _ => ⟨S64x1024, .f32⟩

abbrev hbmTy0_7 (i : Nat) : BufTy := match i % 128 with
  | 0 => ⟨S_, .i32⟩
  | 1 => ⟨S64x1024, .i32⟩
  | 2 => ⟨S64x1024, .i32⟩
  | 3 => ⟨S_, .i32⟩
  | 4 => ⟨S64x1024, .i32⟩
  | 5 => ⟨S64x1024, .i32⟩
  | 6 => ⟨S64x1024, .i32⟩
  | 7 => ⟨S64x1024, .i32⟩
  | 8 => ⟨S64x1024, .i32⟩
  | 9 => ⟨S_, .i32⟩
  | 10 => ⟨S64x1024, .i32⟩
  | 11 => ⟨S64x1024, .i32⟩
  | 12 => ⟨S_, .i32⟩
  | 13 => ⟨S64x1024, .i32⟩
  | 14 => ⟨S64x1024, .i32⟩
  | 15 => ⟨S64x1024, .i32⟩
  | 16 => ⟨S64x1024, .i32⟩
  | 17 => ⟨S64x1024, .i32⟩
  | 18 => ⟨S_, .i32⟩
  | 19 => ⟨S64x1024, .i32⟩
  | 20 => ⟨S64x1024, .i32⟩
  | 21 => ⟨S_, .i32⟩
  | 22 => ⟨S64x1024, .i32⟩
  | 23 => ⟨S64x1024, .i32⟩
  | 24 => ⟨S64x1024, .i32⟩
  | 25 => ⟨S64x1024, .i32⟩
  | 26 => ⟨S_, .i32⟩
  | 27 => ⟨S64x1024, .i32⟩
  | 28 => ⟨S64x1024, .i32⟩
  | 29 => ⟨S_, .i32⟩
  | 30 => ⟨S64x1024, .i32⟩
  | 31 => ⟨S64x1024, .i32⟩
  | 32 => ⟨S_, .i32⟩
  | 33 => ⟨S64x1024, .i32⟩
  | 34 => ⟨S64x1024, .i32⟩
  | 35 => ⟨S64x1024, .i32⟩
  | 36 => ⟨S_, .i32⟩
  | 37 => ⟨S64x1024, .i32⟩
  | 38 => ⟨S64x1024, .i32⟩
  | 39 => ⟨S_, .i32⟩
  | 40 => ⟨S64x1024, .i32⟩
  | 41 => ⟨S64x1024, .i32⟩
  | 42 => ⟨S64x1024, .i32⟩
  | 43 => ⟨S64x1024, .i32⟩
  | 44 => ⟨S64x1024, .i32⟩
  | 45 => ⟨S_, .i32⟩
  | 46 => ⟨S64x1024, .i32⟩
  | 47 => ⟨S64x1024, .i32⟩
  | 48 => ⟨S_, .i32⟩
  | 49 => ⟨S64x1024, .i32⟩
  | 50 => ⟨S64x1024, .i32⟩
  | 51 => ⟨S64x1024, .i32⟩
  | 52 => ⟨S64x1024, .i32⟩
  | 53 => ⟨S64x1024, .i32⟩
  | 54 => ⟨S_, .i32⟩
  | 55 => ⟨S64x1024, .i32⟩
  | 56 => ⟨S64x1024, .i32⟩
  | 57 => ⟨S_, .i32⟩
  | 58 => ⟨S64x1024, .i32⟩
  | 59 => ⟨S64x1024, .i32⟩
  | 60 => ⟨S64x1024, .i32⟩
  | 61 => ⟨S64x1024, .i32⟩
  | 62 => ⟨S64x1024, .i32⟩
  | 63 => ⟨S_, .i32⟩
  | 64 => ⟨S64x1024, .i32⟩
  | 65 => ⟨S64x1024, .i32⟩
  | 66 => ⟨S_, .i32⟩
  | 67 => ⟨S64x1024, .i32⟩
  | 68 => ⟨S64x1024, .i32⟩
  | 69 => ⟨S64x1024, .i32⟩
  | 70 => ⟨S64x1024, .i32⟩
  | 71 => ⟨S_, .i32⟩
  | 72 => ⟨S64x1024, .i32⟩
  | 73 => ⟨S64x1024, .i32⟩
  | 74 => ⟨S_, .i32⟩
  | 75 => ⟨S64x1024, .i32⟩
  | 76 => ⟨S64x1024, .i32⟩
  | 77 => ⟨S_, .i32⟩
  | 78 => ⟨S64x1024, .i32⟩
  | 79 => ⟨S64x1024, .i32⟩
  | 80 => ⟨S64x1024, .i32⟩
  | 81 => ⟨S_, .i32⟩
  | 82 => ⟨S64x1024, .i32⟩
  | 83 => ⟨S64x1024, .i32⟩
  | 84 => ⟨S_, .i32⟩
  | 85 => ⟨S64x1024, .i32⟩
  | 86 => ⟨S64x1024, .i32⟩
  | 87 => ⟨S64x1024, .i32⟩
  | 88 => ⟨S64x1024, .i32⟩
  | 89 => ⟨S64x1024, .i32⟩
  | 90 => ⟨S_, .i32⟩
  | 91 => ⟨S64x1024, .i32⟩
  | 92 => ⟨S64x1024, .i32⟩
  | 93 => ⟨S_, .i32⟩
  | 94 => ⟨S64x1024, .i32⟩
  | 95 => ⟨S64x1024, .i32⟩
  | 96 => ⟨S64x1024, .i32⟩
  | 97 => ⟨S64x1024, .i32⟩
  | 98 => ⟨S64x1024, .i32⟩
  | 99 => ⟨S_, .i32⟩
  | 100 => ⟨S64x1024, .i32⟩
  | 101 => ⟨S64x1024, .i32⟩
  | 102 => ⟨S_, .i32⟩
  | 103 => ⟨S64x1024, .i32⟩
  | 104 => ⟨S64x1024, .i32⟩
  | 105 => ⟨S64x1024, .i32⟩
  | 106 => ⟨S64x1024, .i32⟩
  | 107 => ⟨S64x1024, .i32⟩
  | 108 => ⟨S_, .i32⟩
  | 109 => ⟨S64x1024, .i32⟩
  | 110 => ⟨S64x1024, .i32⟩
  | 111 => ⟨S_, .i32⟩
  | 112 => ⟨S64x1024, .i32⟩
  | 113 => ⟨S64x1024, .i32⟩
  | 114 => ⟨S64x1024, .i32⟩
  | 115 => ⟨S64x1024, .i32⟩
  | 116 => ⟨S_, .i32⟩
  | 117 => ⟨S64x1024, .i32⟩
  | 118 => ⟨S64x1024, .i32⟩
  | 119 => ⟨S_, .i32⟩
  | 120 => ⟨S64x1024, .i32⟩
  | 121 => ⟨S64x1024, .i32⟩
  | 122 => ⟨S_, .i32⟩
  | 123 => ⟨S64x1024, .i32⟩
  | 124 => ⟨S64x1024, .i32⟩
  | 125 => ⟨S64x1024, .i32⟩
  | 126 => ⟨S_, .i32⟩
  | 127 => ⟨S64x1024, .i32⟩
  | _ => ⟨S64x1024, .f32⟩

abbrev hbmTy0_8 (i : Nat) : BufTy := match i % 128 with
  | 0 => ⟨S64x1024, .i32⟩
  | 1 => ⟨S64x1024, .i32⟩
  | 2 => ⟨S512, .i32⟩
  | 3 => ⟨S1x1x512, .i32⟩
  | 4 => ⟨S64x1024x1, .i32⟩
  | 5 => ⟨S64x1024x512, .i32⟩
  | 6 => ⟨S64x1024x512, .i32⟩
  | 7 => ⟨S64x1024x512, .i1⟩
  | 8 => ⟨S64x1024x1, .i1⟩
  | 9 => ⟨S64x1024x512, .i1⟩
  | 10 => ⟨S64x1024x512, .i1⟩
  | 11 => ⟨S64x1024x512, .i1⟩
  | 12 => ⟨S_, .f32⟩
  | 13 => ⟨S1024, .f32⟩
  | 14 => ⟨S_, .f32⟩
  | 15 => ⟨S1024, .f32⟩
  | 16 => ⟨S1024, .f32⟩
  | 17 => ⟨S64x1x512, .f32⟩
  | 18 => ⟨S1x1024x1, .f32⟩
  | 19 => ⟨S64x1024x512, .f32⟩
  | 20 => ⟨S64x1024x512, .f32⟩
  | 21 => ⟨S64x1024x512, .f32⟩
  | 22 => ⟨S_, .f32⟩
  | 23 => ⟨S64x1024, .f32⟩
  | 24 => ⟨S_, .f32⟩
  | 25 => ⟨S64x1024, .f32⟩
  | 26 => ⟨S1x1024, .i1⟩
  | 27 => ⟨S64x1024, .i1⟩
  | 28 => ⟨S64x1024, .f32⟩
  | _ => ⟨S64x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_13 : Ref sig .tc := ⟨.hbm, 66, rfl⟩
abbrev main_v46 : Ref sig .tc := ⟨.hbm, 67, rfl⟩
abbrev main_v47 : Ref sig .tc := ⟨.hbm, 68, rfl⟩
abbrev main_c_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_15 : Ref sig .tc := ⟨.hbm, 75, rfl⟩
abbrev main_v53 : Ref sig .tc := ⟨.hbm, 76, rfl⟩
abbrev main_v54 : Ref sig .tc := ⟨.hbm, 77, rfl⟩
abbrev main_c_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_17 : Ref sig .tc := ⟨.hbm, 84, rfl⟩
abbrev main_v60 : Ref sig .tc := ⟨.hbm, 85, rfl⟩
abbrev main_v61 : Ref sig .tc := ⟨.hbm, 86, rfl⟩
abbrev main_c_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_19 : Ref sig .tc := ⟨.hbm, 93, rfl⟩
abbrev main_v67 : Ref sig .tc := ⟨.hbm, 94, rfl⟩
abbrev main_v68 : Ref sig .tc := ⟨.hbm, 95, rfl⟩
abbrev main_c_20 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_21 : Ref sig .tc := ⟨.hbm, 101, rfl⟩
abbrev main_v73 : Ref sig .tc := ⟨.hbm, 102, rfl⟩
abbrev main_v74 : Ref sig .tc := ⟨.hbm, 103, rfl⟩
abbrev main_c_22 : Ref sig .tc := ⟨.hbm, 104, rfl⟩
abbrev main_v75 : Ref sig .tc := ⟨.hbm, 105, rfl⟩
abbrev main_v76 : Ref sig .tc := ⟨.hbm, 106, rfl⟩
abbrev main_c_23 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_24 : Ref sig .tc := ⟨.hbm, 111, rfl⟩
abbrev main_v80 : Ref sig .tc := ⟨.hbm, 112, rfl⟩
abbrev main_v81 : Ref sig .tc := ⟨.hbm, 113, rfl⟩
abbrev main_c_25 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_26 : Ref sig .tc := ⟨.hbm, 120, rfl⟩
abbrev main_v87 : Ref sig .tc := ⟨.hbm, 121, rfl⟩
abbrev main_v88 : Ref sig .tc := ⟨.hbm, 122, rfl⟩
abbrev main_c_27 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_28 : Ref sig .tc := ⟨.hbm, 129, rfl⟩
abbrev main_v94 : Ref sig .tc := ⟨.hbm, 130, rfl⟩
abbrev main_v95 : Ref sig .tc := ⟨.hbm, 131, rfl⟩
abbrev main_c_29 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_30 : Ref sig .tc := ⟨.hbm, 138, rfl⟩
abbrev main_v101 : Ref sig .tc := ⟨.hbm, 139, rfl⟩
abbrev main_v102 : Ref sig .tc := ⟨.hbm, 140, rfl⟩
abbrev main_c_31 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_32 : Ref sig .tc := ⟨.hbm, 146, rfl⟩
abbrev main_v107 : Ref sig .tc := ⟨.hbm, 147, rfl⟩
abbrev main_v108 : Ref sig .tc := ⟨.hbm, 148, rfl⟩
abbrev main_c_33 : Ref sig .tc := ⟨.hbm, 149, rfl⟩
abbrev main_v109 : Ref sig .tc := ⟨.hbm, 150, rfl⟩
abbrev main_v110 : Ref sig .tc := ⟨.hbm, 151, rfl⟩
abbrev main_c_34 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_35 : Ref sig .tc := ⟨.hbm, 156, rfl⟩
abbrev main_v114 : Ref sig .tc := ⟨.hbm, 157, rfl⟩
abbrev main_v115 : Ref sig .tc := ⟨.hbm, 158, rfl⟩
abbrev main_c_36 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_37 : Ref sig .tc := ⟨.hbm, 165, rfl⟩
abbrev main_v121 : Ref sig .tc := ⟨.hbm, 166, rfl⟩
abbrev main_v122 : Ref sig .tc := ⟨.hbm, 167, rfl⟩
abbrev main_c_38 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_c_39 : Ref sig .tc := ⟨.hbm, 174, rfl⟩
abbrev main_v128 : Ref sig .tc := ⟨.hbm, 175, rfl⟩
abbrev main_v129 : Ref sig .tc := ⟨.hbm, 176, rfl⟩
abbrev main_c_40 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_41 : Ref sig .tc := ⟨.hbm, 183, rfl⟩
abbrev main_v135 : Ref sig .tc := ⟨.hbm, 184, rfl⟩
abbrev main_v136 : Ref sig .tc := ⟨.hbm, 185, rfl⟩
abbrev main_c_42 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_43 : Ref sig .tc := ⟨.hbm, 191, rfl⟩
abbrev main_v141 : Ref sig .tc := ⟨.hbm, 192, rfl⟩
abbrev main_v142 : Ref sig .tc := ⟨.hbm, 193, rfl⟩
abbrev main_c_44 : Ref sig .tc := ⟨.hbm, 194, rfl⟩
abbrev main_v143 : Ref sig .tc := ⟨.hbm, 195, rfl⟩
abbrev main_v144 : Ref sig .tc := ⟨.hbm, 196, rfl⟩
abbrev main_c_45 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_c_46 : Ref sig .tc := ⟨.hbm, 201, rfl⟩
abbrev main_v148 : Ref sig .tc := ⟨.hbm, 202, rfl⟩
abbrev main_v149 : Ref sig .tc := ⟨.hbm, 203, rfl⟩
abbrev main_c_47 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_48 : Ref sig .tc := ⟨.hbm, 210, rfl⟩
abbrev main_v155 : Ref sig .tc := ⟨.hbm, 211, rfl⟩
abbrev main_v156 : Ref sig .tc := ⟨.hbm, 212, rfl⟩
abbrev main_c_49 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_c_50 : Ref sig .tc := ⟨.hbm, 219, rfl⟩
abbrev main_v162 : Ref sig .tc := ⟨.hbm, 220, rfl⟩
abbrev main_v163 : Ref sig .tc := ⟨.hbm, 221, rfl⟩
abbrev main_c_51 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_c_52 : Ref sig .tc := ⟨.hbm, 228, rfl⟩
abbrev main_v169 : Ref sig .tc := ⟨.hbm, 229, rfl⟩
abbrev main_v170 : Ref sig .tc := ⟨.hbm, 230, rfl⟩
abbrev main_c_53 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_c_54 : Ref sig .tc := ⟨.hbm, 236, rfl⟩
abbrev main_v175 : Ref sig .tc := ⟨.hbm, 237, rfl⟩
abbrev main_v176 : Ref sig .tc := ⟨.hbm, 238, rfl⟩
abbrev main_c_55 : Ref sig .tc := ⟨.hbm, 239, rfl⟩
abbrev main_v177 : Ref sig .tc := ⟨.hbm, 240, rfl⟩
abbrev main_v178 : Ref sig .tc := ⟨.hbm, 241, rfl⟩
abbrev main_c_56 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_c_57 : Ref sig .tc := ⟨.hbm, 246, rfl⟩
abbrev main_v182 : Ref sig .tc := ⟨.hbm, 247, rfl⟩
abbrev main_v183 : Ref sig .tc := ⟨.hbm, 248, rfl⟩
abbrev main_c_58 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_cst_59 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_c_60 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_c_61 : Ref sig .tc := ⟨.hbm, 264, rfl⟩
abbrev main_v196 : Ref sig .tc := ⟨.hbm, 265, rfl⟩
abbrev main_c_62 : Ref sig .tc := ⟨.hbm, 266, rfl⟩
abbrev main_v197 : Ref sig .tc := ⟨.hbm, 267, rfl⟩
abbrev main_v198 : Ref sig .tc := ⟨.hbm, 268, rfl⟩
abbrev main_c_63 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_c_64 : Ref sig .tc := ⟨.hbm, 273, rfl⟩
abbrev main_v202 : Ref sig .tc := ⟨.hbm, 274, rfl⟩
abbrev main_v203 : Ref sig .tc := ⟨.hbm, 275, rfl⟩
abbrev main_c_65 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_c_66 : Ref sig .tc := ⟨.hbm, 282, rfl⟩
abbrev main_v209 : Ref sig .tc := ⟨.hbm, 283, rfl⟩
abbrev main_v210 : Ref sig .tc := ⟨.hbm, 284, rfl⟩
abbrev main_c_67 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_c_68 : Ref sig .tc := ⟨.hbm, 291, rfl⟩
abbrev main_v216 : Ref sig .tc := ⟨.hbm, 292, rfl⟩
abbrev main_v217 : Ref sig .tc := ⟨.hbm, 293, rfl⟩
abbrev main_c_69 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_c_70 : Ref sig .tc := ⟨.hbm, 300, rfl⟩
abbrev main_v223 : Ref sig .tc := ⟨.hbm, 301, rfl⟩
abbrev main_v224 : Ref sig .tc := ⟨.hbm, 302, rfl⟩
abbrev main_c_71 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_c_72 : Ref sig .tc := ⟨.hbm, 308, rfl⟩
abbrev main_v229 : Ref sig .tc := ⟨.hbm, 309, rfl⟩
abbrev main_v230 : Ref sig .tc := ⟨.hbm, 310, rfl⟩
abbrev main_c_73 : Ref sig .tc := ⟨.hbm, 311, rfl⟩
abbrev main_v231 : Ref sig .tc := ⟨.hbm, 312, rfl⟩
abbrev main_v232 : Ref sig .tc := ⟨.hbm, 313, rfl⟩
abbrev main_c_74 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_c_75 : Ref sig .tc := ⟨.hbm, 318, rfl⟩
abbrev main_v236 : Ref sig .tc := ⟨.hbm, 319, rfl⟩
abbrev main_v237 : Ref sig .tc := ⟨.hbm, 320, rfl⟩
abbrev main_c_76 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_c_77 : Ref sig .tc := ⟨.hbm, 327, rfl⟩
abbrev main_v243 : Ref sig .tc := ⟨.hbm, 328, rfl⟩
abbrev main_v244 : Ref sig .tc := ⟨.hbm, 329, rfl⟩
abbrev main_c_78 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_c_79 : Ref sig .tc := ⟨.hbm, 336, rfl⟩
abbrev main_v250 : Ref sig .tc := ⟨.hbm, 337, rfl⟩
abbrev main_v251 : Ref sig .tc := ⟨.hbm, 338, rfl⟩
abbrev main_c_80 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_c_81 : Ref sig .tc := ⟨.hbm, 345, rfl⟩
abbrev main_v257 : Ref sig .tc := ⟨.hbm, 346, rfl⟩
abbrev main_v258 : Ref sig .tc := ⟨.hbm, 347, rfl⟩
abbrev main_c_82 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_c_83 : Ref sig .tc := ⟨.hbm, 353, rfl⟩
abbrev main_v263 : Ref sig .tc := ⟨.hbm, 354, rfl⟩
abbrev main_v264 : Ref sig .tc := ⟨.hbm, 355, rfl⟩
abbrev main_c_84 : Ref sig .tc := ⟨.hbm, 356, rfl⟩
abbrev main_v265 : Ref sig .tc := ⟨.hbm, 357, rfl⟩
abbrev main_v266 : Ref sig .tc := ⟨.hbm, 358, rfl⟩
abbrev main_c_85 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_c_86 : Ref sig .tc := ⟨.hbm, 363, rfl⟩
abbrev main_v270 : Ref sig .tc := ⟨.hbm, 364, rfl⟩
abbrev main_v271 : Ref sig .tc := ⟨.hbm, 365, rfl⟩
abbrev main_c_87 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_c_88 : Ref sig .tc := ⟨.hbm, 372, rfl⟩
abbrev main_v277 : Ref sig .tc := ⟨.hbm, 373, rfl⟩
abbrev main_v278 : Ref sig .tc := ⟨.hbm, 374, rfl⟩
abbrev main_c_89 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_c_90 : Ref sig .tc := ⟨.hbm, 381, rfl⟩
abbrev main_v284 : Ref sig .tc := ⟨.hbm, 382, rfl⟩
abbrev main_v285 : Ref sig .tc := ⟨.hbm, 383, rfl⟩
abbrev main_c_91 : Ref sig .tc := ⟨.hbm, 384, rfl⟩
abbrev main_v286 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_c_92 : Ref sig .tc := ⟨.hbm, 390, rfl⟩
abbrev main_v291 : Ref sig .tc := ⟨.hbm, 391, rfl⟩
abbrev main_v292 : Ref sig .tc := ⟨.hbm, 392, rfl⟩
abbrev main_c_93 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_c_94 : Ref sig .tc := ⟨.hbm, 398, rfl⟩
abbrev main_v297 : Ref sig .tc := ⟨.hbm, 399, rfl⟩
abbrev main_v298 : Ref sig .tc := ⟨.hbm, 400, rfl⟩
abbrev main_c_95 : Ref sig .tc := ⟨.hbm, 401, rfl⟩
abbrev main_v299 : Ref sig .tc := ⟨.hbm, 402, rfl⟩
abbrev main_v300 : Ref sig .tc := ⟨.hbm, 403, rfl⟩
abbrev main_c_96 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_c_97 : Ref sig .tc := ⟨.hbm, 408, rfl⟩
abbrev main_v304 : Ref sig .tc := ⟨.hbm, 409, rfl⟩
abbrev main_v305 : Ref sig .tc := ⟨.hbm, 410, rfl⟩
abbrev main_c_98 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_c_99 : Ref sig .tc := ⟨.hbm, 417, rfl⟩
abbrev main_v311 : Ref sig .tc := ⟨.hbm, 418, rfl⟩
abbrev main_v312 : Ref sig .tc := ⟨.hbm, 419, rfl⟩
abbrev main_c_100 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_c_101 : Ref sig .tc := ⟨.hbm, 426, rfl⟩
abbrev main_v318 : Ref sig .tc := ⟨.hbm, 427, rfl⟩
abbrev main_v319 : Ref sig .tc := ⟨.hbm, 428, rfl⟩
abbrev main_c_102 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩
abbrev main_v324 : Ref sig .tc := ⟨.hbm, 434, rfl⟩
abbrev main_c_103 : Ref sig .tc := ⟨.hbm, 435, rfl⟩
abbrev main_v325 : Ref sig .tc := ⟨.hbm, 436, rfl⟩
abbrev main_v326 : Ref sig .tc := ⟨.hbm, 437, rfl⟩
abbrev main_c_104 : Ref sig .tc := ⟨.hbm, 438, rfl⟩
abbrev main_v327 : Ref sig .tc := ⟨.hbm, 439, rfl⟩
abbrev main_v328 : Ref sig .tc := ⟨.hbm, 440, rfl⟩
abbrev main_v329 : Ref sig .tc := ⟨.hbm, 441, rfl⟩
abbrev main_v330 : Ref sig .tc := ⟨.hbm, 442, rfl⟩
abbrev main_c_105 : Ref sig .tc := ⟨.hbm, 443, rfl⟩
abbrev main_v331 : Ref sig .tc := ⟨.hbm, 444, rfl⟩
abbrev main_v332 : Ref sig .tc := ⟨.hbm, 445, rfl⟩
abbrev main_c_106 : Ref sig .tc := ⟨.hbm, 446, rfl⟩
abbrev main_v333 : Ref sig .tc := ⟨.hbm, 447, rfl⟩
abbrev main_v334 : Ref sig .tc := ⟨.hbm, 448, rfl⟩
abbrev main_c_107 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_c_108 : Ref sig .tc := ⟨.hbm, 453, rfl⟩
abbrev main_v338 : Ref sig .tc := ⟨.hbm, 454, rfl⟩
abbrev main_v339 : Ref sig .tc := ⟨.hbm, 455, rfl⟩
abbrev main_c_109 : Ref sig .tc := ⟨.hbm, 456, rfl⟩
abbrev main_v340 : Ref sig .tc := ⟨.hbm, 457, rfl⟩
abbrev main_v341 : Ref sig .tc := ⟨.hbm, 458, rfl⟩
abbrev main_v342 : Ref sig .tc := ⟨.hbm, 459, rfl⟩
abbrev main_v343 : Ref sig .tc := ⟨.hbm, 460, rfl⟩
abbrev main_v344 : Ref sig .tc := ⟨.hbm, 461, rfl⟩
abbrev main_c_110 : Ref sig .tc := ⟨.hbm, 462, rfl⟩
abbrev main_v345 : Ref sig .tc := ⟨.hbm, 463, rfl⟩
abbrev main_v346 : Ref sig .tc := ⟨.hbm, 464, rfl⟩
abbrev main_c_111 : Ref sig .tc := ⟨.hbm, 465, rfl⟩
abbrev main_v347 : Ref sig .tc := ⟨.hbm, 466, rfl⟩
abbrev main_v348 : Ref sig .tc := ⟨.hbm, 467, rfl⟩
abbrev main_v349 : Ref sig .tc := ⟨.hbm, 468, rfl⟩
abbrev main_v350 : Ref sig .tc := ⟨.hbm, 469, rfl⟩
abbrev main_v351 : Ref sig .tc := ⟨.hbm, 470, rfl⟩
abbrev main_c_112 : Ref sig .tc := ⟨.hbm, 471, rfl⟩
abbrev main_v352 : Ref sig .tc := ⟨.hbm, 472, rfl⟩
abbrev main_v353 : Ref sig .tc := ⟨.hbm, 473, rfl⟩
abbrev main_c_113 : Ref sig .tc := ⟨.hbm, 474, rfl⟩
abbrev main_v354 : Ref sig .tc := ⟨.hbm, 475, rfl⟩
abbrev main_v355 : Ref sig .tc := ⟨.hbm, 476, rfl⟩
abbrev main_v356 : Ref sig .tc := ⟨.hbm, 477, rfl⟩
abbrev main_v357 : Ref sig .tc := ⟨.hbm, 478, rfl⟩
abbrev main_v358 : Ref sig .tc := ⟨.hbm, 479, rfl⟩
abbrev main_c_114 : Ref sig .tc := ⟨.hbm, 480, rfl⟩
abbrev main_v359 : Ref sig .tc := ⟨.hbm, 481, rfl⟩
abbrev main_v360 : Ref sig .tc := ⟨.hbm, 482, rfl⟩
abbrev main_c_115 : Ref sig .tc := ⟨.hbm, 483, rfl⟩
abbrev main_v361 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_c_116 : Ref sig .tc := ⟨.hbm, 488, rfl⟩
abbrev main_v365 : Ref sig .tc := ⟨.hbm, 489, rfl⟩
abbrev main_v366 : Ref sig .tc := ⟨.hbm, 490, rfl⟩
abbrev main_c_117 : Ref sig .tc := ⟨.hbm, 491, rfl⟩
abbrev main_v367 : Ref sig .tc := ⟨.hbm, 492, rfl⟩
abbrev main_v368 : Ref sig .tc := ⟨.hbm, 493, rfl⟩
abbrev main_c_118 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_c_119 : Ref sig .tc := ⟨.hbm, 498, rfl⟩
abbrev main_v372 : Ref sig .tc := ⟨.hbm, 499, rfl⟩
abbrev main_v373 : Ref sig .tc := ⟨.hbm, 500, rfl⟩
abbrev main_v374 : Ref sig .tc := ⟨.hbm, 501, rfl⟩
abbrev main_v375 : Ref sig .tc := ⟨.hbm, 502, rfl⟩
abbrev main_v376 : Ref sig .tc := ⟨.hbm, 503, rfl⟩
abbrev main_v377 : Ref sig .tc := ⟨.hbm, 504, rfl⟩
abbrev main_v378 : Ref sig .tc := ⟨.hbm, 505, rfl⟩
abbrev main_v379 : Ref sig .tc := ⟨.hbm, 506, rfl⟩
abbrev main_v380 : Ref sig .tc := ⟨.hbm, 507, rfl⟩
abbrev main_v381 : Ref sig .tc := ⟨.hbm, 508, rfl⟩
abbrev main_v382 : Ref sig .tc := ⟨.hbm, 509, rfl⟩
abbrev main_v383 : Ref sig .tc := ⟨.hbm, 510, rfl⟩
abbrev main_v384 : Ref sig .tc := ⟨.hbm, 511, rfl⟩
abbrev main_cst_120 : Ref sig .tc := ⟨.hbm, 512, rfl⟩
abbrev main_v385 : Ref sig .tc := ⟨.hbm, 513, rfl⟩
abbrev main_cst_121 : Ref sig .tc := ⟨.hbm, 514, rfl⟩
abbrev main_v386 : Ref sig .tc := ⟨.hbm, 515, rfl⟩
abbrev main_v387 : Ref sig .tc := ⟨.hbm, 516, rfl⟩
abbrev main_v388 : Ref sig .tc := ⟨.hbm, 517, rfl⟩
abbrev main_v389 : Ref sig .tc := ⟨.hbm, 518, rfl⟩
abbrev main_v390 : Ref sig .tc := ⟨.hbm, 519, rfl⟩
abbrev main_v391 : Ref sig .tc := ⟨.hbm, 520, rfl⟩
abbrev main_v392 : Ref sig .tc := ⟨.hbm, 521, rfl⟩
abbrev main_cst_122 : Ref sig .tc := ⟨.hbm, 522, rfl⟩
abbrev main_v393 : Ref sig .tc := ⟨.hbm, 523, rfl⟩
abbrev main_cst_123 : Ref sig .tc := ⟨.hbm, 524, rfl⟩
abbrev main_v394 : Ref sig .tc := ⟨.hbm, 525, rfl⟩
abbrev main_v395 : Ref sig .tc := ⟨.hbm, 526, rfl⟩
abbrev main_v396 : Ref sig .tc := ⟨.hbm, 527, rfl⟩
abbrev main_v397 : Ref sig .tc := ⟨.hbm, 528, rfl⟩
abbrev main_v398 : Ref sig .tc := ⟨.hbm, 529, rfl⟩
abbrev main_v399 : Ref sig .tc := ⟨.hbm, 530, rfl⟩
abbrev main_cst_124 : Ref sig .tc := ⟨.hbm, 531, rfl⟩
abbrev main_v400 : Ref sig .tc := ⟨.hbm, 532, rfl⟩
abbrev main_v401 : Ref sig .tc := ⟨.hbm, 533, rfl⟩
abbrev main_v402 : Ref sig .tc := ⟨.hbm, 534, rfl⟩
abbrev main_v403 : Ref sig .tc := ⟨.hbm, 535, rfl⟩
abbrev main_c_125 : Ref sig .tc := ⟨.hbm, 536, rfl⟩
abbrev main_v404 : Ref sig .tc := ⟨.hbm, 537, rfl⟩
abbrev main_c_126 : Ref sig .tc := ⟨.hbm, 538, rfl⟩
abbrev main_v405 : Ref sig .tc := ⟨.hbm, 539, rfl⟩
abbrev main_v406 : Ref sig .tc := ⟨.hbm, 540, rfl⟩
abbrev main_c_127 : Ref sig .tc := ⟨.hbm, 541, rfl⟩
abbrev main_v407 : Ref sig .tc := ⟨.hbm, 542, rfl⟩
abbrev main_v408 : Ref sig .tc := ⟨.hbm, 543, rfl⟩
abbrev main_v409 : Ref sig .tc := ⟨.hbm, 544, rfl⟩
abbrev main_c_128 : Ref sig .tc := ⟨.hbm, 545, rfl⟩
abbrev main_v410 : Ref sig .tc := ⟨.hbm, 546, rfl⟩
abbrev main_v411 : Ref sig .tc := ⟨.hbm, 547, rfl⟩
abbrev main_c_129 : Ref sig .tc := ⟨.hbm, 548, rfl⟩
abbrev main_v412 : Ref sig .tc := ⟨.hbm, 549, rfl⟩
abbrev main_v413 : Ref sig .tc := ⟨.hbm, 550, rfl⟩
abbrev main_v414 : Ref sig .tc := ⟨.hbm, 551, rfl⟩
abbrev main_v415 : Ref sig .tc := ⟨.hbm, 552, rfl⟩
abbrev main_v416 : Ref sig .tc := ⟨.hbm, 553, rfl⟩
abbrev main_c_130 : Ref sig .tc := ⟨.hbm, 554, rfl⟩
abbrev main_v417 : Ref sig .tc := ⟨.hbm, 555, rfl⟩
abbrev main_v418 : Ref sig .tc := ⟨.hbm, 556, rfl⟩
abbrev main_c_131 : Ref sig .tc := ⟨.hbm, 557, rfl⟩
abbrev main_v419 : Ref sig .tc := ⟨.hbm, 558, rfl⟩
abbrev main_v420 : Ref sig .tc := ⟨.hbm, 559, rfl⟩
abbrev main_v421 : Ref sig .tc := ⟨.hbm, 560, rfl⟩
abbrev main_v422 : Ref sig .tc := ⟨.hbm, 561, rfl⟩
abbrev main_v423 : Ref sig .tc := ⟨.hbm, 562, rfl⟩
abbrev main_c_132 : Ref sig .tc := ⟨.hbm, 563, rfl⟩
abbrev main_v424 : Ref sig .tc := ⟨.hbm, 564, rfl⟩
abbrev main_v425 : Ref sig .tc := ⟨.hbm, 565, rfl⟩
abbrev main_c_133 : Ref sig .tc := ⟨.hbm, 566, rfl⟩
abbrev main_v426 : Ref sig .tc := ⟨.hbm, 567, rfl⟩
abbrev main_v427 : Ref sig .tc := ⟨.hbm, 568, rfl⟩
abbrev main_v428 : Ref sig .tc := ⟨.hbm, 569, rfl⟩
abbrev main_v429 : Ref sig .tc := ⟨.hbm, 570, rfl⟩
abbrev main_v430 : Ref sig .tc := ⟨.hbm, 571, rfl⟩
abbrev main_c_134 : Ref sig .tc := ⟨.hbm, 572, rfl⟩
abbrev main_v431 : Ref sig .tc := ⟨.hbm, 573, rfl⟩
abbrev main_v432 : Ref sig .tc := ⟨.hbm, 574, rfl⟩
abbrev main_c_135 : Ref sig .tc := ⟨.hbm, 575, rfl⟩
abbrev main_v433 : Ref sig .tc := ⟨.hbm, 576, rfl⟩
abbrev main_v434 : Ref sig .tc := ⟨.hbm, 577, rfl⟩
abbrev main_v435 : Ref sig .tc := ⟨.hbm, 578, rfl⟩
abbrev main_v436 : Ref sig .tc := ⟨.hbm, 579, rfl⟩
abbrev main_c_136 : Ref sig .tc := ⟨.hbm, 580, rfl⟩
abbrev main_v437 : Ref sig .tc := ⟨.hbm, 581, rfl⟩
abbrev main_v438 : Ref sig .tc := ⟨.hbm, 582, rfl⟩
abbrev main_c_137 : Ref sig .tc := ⟨.hbm, 583, rfl⟩
abbrev main_v439 : Ref sig .tc := ⟨.hbm, 584, rfl⟩
abbrev main_v440 : Ref sig .tc := ⟨.hbm, 585, rfl⟩
abbrev main_c_138 : Ref sig .tc := ⟨.hbm, 586, rfl⟩
abbrev main_v441 : Ref sig .tc := ⟨.hbm, 587, rfl⟩
abbrev main_v442 : Ref sig .tc := ⟨.hbm, 588, rfl⟩
abbrev main_v443 : Ref sig .tc := ⟨.hbm, 589, rfl⟩
abbrev main_c_139 : Ref sig .tc := ⟨.hbm, 590, rfl⟩
abbrev main_v444 : Ref sig .tc := ⟨.hbm, 591, rfl⟩
abbrev main_v445 : Ref sig .tc := ⟨.hbm, 592, rfl⟩
abbrev main_c_140 : Ref sig .tc := ⟨.hbm, 593, rfl⟩
abbrev main_v446 : Ref sig .tc := ⟨.hbm, 594, rfl⟩
abbrev main_v447 : Ref sig .tc := ⟨.hbm, 595, rfl⟩
abbrev main_v448 : Ref sig .tc := ⟨.hbm, 596, rfl⟩
abbrev main_v449 : Ref sig .tc := ⟨.hbm, 597, rfl⟩
abbrev main_v450 : Ref sig .tc := ⟨.hbm, 598, rfl⟩
abbrev main_c_141 : Ref sig .tc := ⟨.hbm, 599, rfl⟩
abbrev main_v451 : Ref sig .tc := ⟨.hbm, 600, rfl⟩
abbrev main_v452 : Ref sig .tc := ⟨.hbm, 601, rfl⟩
abbrev main_c_142 : Ref sig .tc := ⟨.hbm, 602, rfl⟩
abbrev main_v453 : Ref sig .tc := ⟨.hbm, 603, rfl⟩
abbrev main_v454 : Ref sig .tc := ⟨.hbm, 604, rfl⟩
abbrev main_v455 : Ref sig .tc := ⟨.hbm, 605, rfl⟩
abbrev main_v456 : Ref sig .tc := ⟨.hbm, 606, rfl⟩
abbrev main_v457 : Ref sig .tc := ⟨.hbm, 607, rfl⟩
abbrev main_c_143 : Ref sig .tc := ⟨.hbm, 608, rfl⟩
abbrev main_v458 : Ref sig .tc := ⟨.hbm, 609, rfl⟩
abbrev main_v459 : Ref sig .tc := ⟨.hbm, 610, rfl⟩
abbrev main_c_144 : Ref sig .tc := ⟨.hbm, 611, rfl⟩
abbrev main_v460 : Ref sig .tc := ⟨.hbm, 612, rfl⟩
abbrev main_v461 : Ref sig .tc := ⟨.hbm, 613, rfl⟩
abbrev main_v462 : Ref sig .tc := ⟨.hbm, 614, rfl⟩
abbrev main_v463 : Ref sig .tc := ⟨.hbm, 615, rfl⟩
abbrev main_v464 : Ref sig .tc := ⟨.hbm, 616, rfl⟩
abbrev main_c_145 : Ref sig .tc := ⟨.hbm, 617, rfl⟩
abbrev main_v465 : Ref sig .tc := ⟨.hbm, 618, rfl⟩
abbrev main_v466 : Ref sig .tc := ⟨.hbm, 619, rfl⟩
abbrev main_c_146 : Ref sig .tc := ⟨.hbm, 620, rfl⟩
abbrev main_v467 : Ref sig .tc := ⟨.hbm, 621, rfl⟩
abbrev main_v468 : Ref sig .tc := ⟨.hbm, 622, rfl⟩
abbrev main_v469 : Ref sig .tc := ⟨.hbm, 623, rfl⟩
abbrev main_v470 : Ref sig .tc := ⟨.hbm, 624, rfl⟩
abbrev main_c_147 : Ref sig .tc := ⟨.hbm, 625, rfl⟩
abbrev main_v471 : Ref sig .tc := ⟨.hbm, 626, rfl⟩
abbrev main_v472 : Ref sig .tc := ⟨.hbm, 627, rfl⟩
abbrev main_c_148 : Ref sig .tc := ⟨.hbm, 628, rfl⟩
abbrev main_v473 : Ref sig .tc := ⟨.hbm, 629, rfl⟩
abbrev main_v474 : Ref sig .tc := ⟨.hbm, 630, rfl⟩
abbrev main_c_149 : Ref sig .tc := ⟨.hbm, 631, rfl⟩
abbrev main_v475 : Ref sig .tc := ⟨.hbm, 632, rfl⟩
abbrev main_v476 : Ref sig .tc := ⟨.hbm, 633, rfl⟩
abbrev main_v477 : Ref sig .tc := ⟨.hbm, 634, rfl⟩
abbrev main_c_150 : Ref sig .tc := ⟨.hbm, 635, rfl⟩
abbrev main_v478 : Ref sig .tc := ⟨.hbm, 636, rfl⟩
abbrev main_v479 : Ref sig .tc := ⟨.hbm, 637, rfl⟩
abbrev main_c_151 : Ref sig .tc := ⟨.hbm, 638, rfl⟩
abbrev main_v480 : Ref sig .tc := ⟨.hbm, 639, rfl⟩
abbrev main_v481 : Ref sig .tc := ⟨.hbm, 640, rfl⟩
abbrev main_v482 : Ref sig .tc := ⟨.hbm, 641, rfl⟩
abbrev main_v483 : Ref sig .tc := ⟨.hbm, 642, rfl⟩
abbrev main_v484 : Ref sig .tc := ⟨.hbm, 643, rfl⟩
abbrev main_c_152 : Ref sig .tc := ⟨.hbm, 644, rfl⟩
abbrev main_v485 : Ref sig .tc := ⟨.hbm, 645, rfl⟩
abbrev main_v486 : Ref sig .tc := ⟨.hbm, 646, rfl⟩
abbrev main_c_153 : Ref sig .tc := ⟨.hbm, 647, rfl⟩
abbrev main_v487 : Ref sig .tc := ⟨.hbm, 648, rfl⟩
abbrev main_v488 : Ref sig .tc := ⟨.hbm, 649, rfl⟩
abbrev main_v489 : Ref sig .tc := ⟨.hbm, 650, rfl⟩
abbrev main_v490 : Ref sig .tc := ⟨.hbm, 651, rfl⟩
abbrev main_v491 : Ref sig .tc := ⟨.hbm, 652, rfl⟩
abbrev main_c_154 : Ref sig .tc := ⟨.hbm, 653, rfl⟩
abbrev main_v492 : Ref sig .tc := ⟨.hbm, 654, rfl⟩
abbrev main_v493 : Ref sig .tc := ⟨.hbm, 655, rfl⟩
abbrev main_c_155 : Ref sig .tc := ⟨.hbm, 656, rfl⟩
abbrev main_v494 : Ref sig .tc := ⟨.hbm, 657, rfl⟩
abbrev main_v495 : Ref sig .tc := ⟨.hbm, 658, rfl⟩
abbrev main_v496 : Ref sig .tc := ⟨.hbm, 659, rfl⟩
abbrev main_v497 : Ref sig .tc := ⟨.hbm, 660, rfl⟩
abbrev main_v498 : Ref sig .tc := ⟨.hbm, 661, rfl⟩
abbrev main_c_156 : Ref sig .tc := ⟨.hbm, 662, rfl⟩
abbrev main_v499 : Ref sig .tc := ⟨.hbm, 663, rfl⟩
abbrev main_v500 : Ref sig .tc := ⟨.hbm, 664, rfl⟩
abbrev main_c_157 : Ref sig .tc := ⟨.hbm, 665, rfl⟩
abbrev main_v501 : Ref sig .tc := ⟨.hbm, 666, rfl⟩
abbrev main_v502 : Ref sig .tc := ⟨.hbm, 667, rfl⟩
abbrev main_v503 : Ref sig .tc := ⟨.hbm, 668, rfl⟩
abbrev main_v504 : Ref sig .tc := ⟨.hbm, 669, rfl⟩
abbrev main_c_158 : Ref sig .tc := ⟨.hbm, 670, rfl⟩
abbrev main_v505 : Ref sig .tc := ⟨.hbm, 671, rfl⟩
abbrev main_v506 : Ref sig .tc := ⟨.hbm, 672, rfl⟩
abbrev main_c_159 : Ref sig .tc := ⟨.hbm, 673, rfl⟩
abbrev main_v507 : Ref sig .tc := ⟨.hbm, 674, rfl⟩
abbrev main_v508 : Ref sig .tc := ⟨.hbm, 675, rfl⟩
abbrev main_c_160 : Ref sig .tc := ⟨.hbm, 676, rfl⟩
abbrev main_v509 : Ref sig .tc := ⟨.hbm, 677, rfl⟩
abbrev main_v510 : Ref sig .tc := ⟨.hbm, 678, rfl⟩
abbrev main_v511 : Ref sig .tc := ⟨.hbm, 679, rfl⟩
abbrev main_c_161 : Ref sig .tc := ⟨.hbm, 680, rfl⟩
abbrev main_v512 : Ref sig .tc := ⟨.hbm, 681, rfl⟩
abbrev main_v513 : Ref sig .tc := ⟨.hbm, 682, rfl⟩
abbrev main_c_162 : Ref sig .tc := ⟨.hbm, 683, rfl⟩
abbrev main_v514 : Ref sig .tc := ⟨.hbm, 684, rfl⟩
abbrev main_v515 : Ref sig .tc := ⟨.hbm, 685, rfl⟩
abbrev main_v516 : Ref sig .tc := ⟨.hbm, 686, rfl⟩
abbrev main_v517 : Ref sig .tc := ⟨.hbm, 687, rfl⟩
abbrev main_v518 : Ref sig .tc := ⟨.hbm, 688, rfl⟩
abbrev main_c_163 : Ref sig .tc := ⟨.hbm, 689, rfl⟩
abbrev main_v519 : Ref sig .tc := ⟨.hbm, 690, rfl⟩
abbrev main_v520 : Ref sig .tc := ⟨.hbm, 691, rfl⟩
abbrev main_c_164 : Ref sig .tc := ⟨.hbm, 692, rfl⟩
abbrev main_v521 : Ref sig .tc := ⟨.hbm, 693, rfl⟩
abbrev main_v522 : Ref sig .tc := ⟨.hbm, 694, rfl⟩
abbrev main_v523 : Ref sig .tc := ⟨.hbm, 695, rfl⟩
abbrev main_v524 : Ref sig .tc := ⟨.hbm, 696, rfl⟩
abbrev main_v525 : Ref sig .tc := ⟨.hbm, 697, rfl⟩
abbrev main_c_165 : Ref sig .tc := ⟨.hbm, 698, rfl⟩
abbrev main_v526 : Ref sig .tc := ⟨.hbm, 699, rfl⟩
abbrev main_v527 : Ref sig .tc := ⟨.hbm, 700, rfl⟩
abbrev main_c_166 : Ref sig .tc := ⟨.hbm, 701, rfl⟩
abbrev main_v528 : Ref sig .tc := ⟨.hbm, 702, rfl⟩
abbrev main_v529 : Ref sig .tc := ⟨.hbm, 703, rfl⟩
abbrev main_v530 : Ref sig .tc := ⟨.hbm, 704, rfl⟩
abbrev main_v531 : Ref sig .tc := ⟨.hbm, 705, rfl⟩
abbrev main_v532 : Ref sig .tc := ⟨.hbm, 706, rfl⟩
abbrev main_c_167 : Ref sig .tc := ⟨.hbm, 707, rfl⟩
abbrev main_v533 : Ref sig .tc := ⟨.hbm, 708, rfl⟩
abbrev main_v534 : Ref sig .tc := ⟨.hbm, 709, rfl⟩
abbrev main_c_168 : Ref sig .tc := ⟨.hbm, 710, rfl⟩
abbrev main_v535 : Ref sig .tc := ⟨.hbm, 711, rfl⟩
abbrev main_v536 : Ref sig .tc := ⟨.hbm, 712, rfl⟩
abbrev main_v537 : Ref sig .tc := ⟨.hbm, 713, rfl⟩
abbrev main_v538 : Ref sig .tc := ⟨.hbm, 714, rfl⟩
abbrev main_c_169 : Ref sig .tc := ⟨.hbm, 715, rfl⟩
abbrev main_v539 : Ref sig .tc := ⟨.hbm, 716, rfl⟩
abbrev main_v540 : Ref sig .tc := ⟨.hbm, 717, rfl⟩
abbrev main_c_170 : Ref sig .tc := ⟨.hbm, 718, rfl⟩
abbrev main_v541 : Ref sig .tc := ⟨.hbm, 719, rfl⟩
abbrev main_v542 : Ref sig .tc := ⟨.hbm, 720, rfl⟩
abbrev main_c_171 : Ref sig .tc := ⟨.hbm, 721, rfl⟩
abbrev main_v543 : Ref sig .tc := ⟨.hbm, 722, rfl⟩
abbrev main_v544 : Ref sig .tc := ⟨.hbm, 723, rfl⟩
abbrev main_v545 : Ref sig .tc := ⟨.hbm, 724, rfl⟩
abbrev main_c_172 : Ref sig .tc := ⟨.hbm, 725, rfl⟩
abbrev main_v546 : Ref sig .tc := ⟨.hbm, 726, rfl⟩
abbrev main_v547 : Ref sig .tc := ⟨.hbm, 727, rfl⟩
abbrev main_c_173 : Ref sig .tc := ⟨.hbm, 728, rfl⟩
abbrev main_v548 : Ref sig .tc := ⟨.hbm, 729, rfl⟩
abbrev main_v549 : Ref sig .tc := ⟨.hbm, 730, rfl⟩
abbrev main_v550 : Ref sig .tc := ⟨.hbm, 731, rfl⟩
abbrev main_v551 : Ref sig .tc := ⟨.hbm, 732, rfl⟩
abbrev main_v552 : Ref sig .tc := ⟨.hbm, 733, rfl⟩
abbrev main_c_174 : Ref sig .tc := ⟨.hbm, 734, rfl⟩
abbrev main_v553 : Ref sig .tc := ⟨.hbm, 735, rfl⟩
abbrev main_v554 : Ref sig .tc := ⟨.hbm, 736, rfl⟩
abbrev main_c_175 : Ref sig .tc := ⟨.hbm, 737, rfl⟩
abbrev main_v555 : Ref sig .tc := ⟨.hbm, 738, rfl⟩
abbrev main_v556 : Ref sig .tc := ⟨.hbm, 739, rfl⟩
abbrev main_v557 : Ref sig .tc := ⟨.hbm, 740, rfl⟩
abbrev main_v558 : Ref sig .tc := ⟨.hbm, 741, rfl⟩
abbrev main_v559 : Ref sig .tc := ⟨.hbm, 742, rfl⟩
abbrev main_c_176 : Ref sig .tc := ⟨.hbm, 743, rfl⟩
abbrev main_v560 : Ref sig .tc := ⟨.hbm, 744, rfl⟩
abbrev main_v561 : Ref sig .tc := ⟨.hbm, 745, rfl⟩
abbrev main_c_177 : Ref sig .tc := ⟨.hbm, 746, rfl⟩
abbrev main_v562 : Ref sig .tc := ⟨.hbm, 747, rfl⟩
abbrev main_v563 : Ref sig .tc := ⟨.hbm, 748, rfl⟩
abbrev main_v564 : Ref sig .tc := ⟨.hbm, 749, rfl⟩
abbrev main_v565 : Ref sig .tc := ⟨.hbm, 750, rfl⟩
abbrev main_v566 : Ref sig .tc := ⟨.hbm, 751, rfl⟩
abbrev main_c_178 : Ref sig .tc := ⟨.hbm, 752, rfl⟩
abbrev main_v567 : Ref sig .tc := ⟨.hbm, 753, rfl⟩
abbrev main_v568 : Ref sig .tc := ⟨.hbm, 754, rfl⟩
abbrev main_c_179 : Ref sig .tc := ⟨.hbm, 755, rfl⟩
abbrev main_v569 : Ref sig .tc := ⟨.hbm, 756, rfl⟩
abbrev main_v570 : Ref sig .tc := ⟨.hbm, 757, rfl⟩
abbrev main_v571 : Ref sig .tc := ⟨.hbm, 758, rfl⟩
abbrev main_v572 : Ref sig .tc := ⟨.hbm, 759, rfl⟩
abbrev main_c_180 : Ref sig .tc := ⟨.hbm, 760, rfl⟩
abbrev main_v573 : Ref sig .tc := ⟨.hbm, 761, rfl⟩
abbrev main_v574 : Ref sig .tc := ⟨.hbm, 762, rfl⟩
abbrev main_c_181 : Ref sig .tc := ⟨.hbm, 763, rfl⟩
abbrev main_v575 : Ref sig .tc := ⟨.hbm, 764, rfl⟩
abbrev main_v576 : Ref sig .tc := ⟨.hbm, 765, rfl⟩
abbrev main_c_182 : Ref sig .tc := ⟨.hbm, 766, rfl⟩
abbrev main_v577 : Ref sig .tc := ⟨.hbm, 767, rfl⟩
abbrev main_v578 : Ref sig .tc := ⟨.hbm, 768, rfl⟩
abbrev main_v579 : Ref sig .tc := ⟨.hbm, 769, rfl⟩
abbrev main_c_183 : Ref sig .tc := ⟨.hbm, 770, rfl⟩
abbrev main_v580 : Ref sig .tc := ⟨.hbm, 771, rfl⟩
abbrev main_v581 : Ref sig .tc := ⟨.hbm, 772, rfl⟩
abbrev main_c_184 : Ref sig .tc := ⟨.hbm, 773, rfl⟩
abbrev main_v582 : Ref sig .tc := ⟨.hbm, 774, rfl⟩
abbrev main_v583 : Ref sig .tc := ⟨.hbm, 775, rfl⟩
abbrev main_v584 : Ref sig .tc := ⟨.hbm, 776, rfl⟩
abbrev main_cst_185 : Ref sig .tc := ⟨.hbm, 777, rfl⟩
abbrev main_v585 : Ref sig .tc := ⟨.hbm, 778, rfl⟩
abbrev main_v586 : Ref sig .tc := ⟨.hbm, 779, rfl⟩
abbrev main_v587 : Ref sig .tc := ⟨.hbm, 780, rfl⟩
abbrev main_v588 : Ref sig .tc := ⟨.hbm, 781, rfl⟩
abbrev main_v589 : Ref sig .tc := ⟨.hbm, 782, rfl⟩
abbrev main_c_186 : Ref sig .tc := ⟨.hbm, 783, rfl⟩
abbrev main_v590 : Ref sig .tc := ⟨.hbm, 784, rfl⟩
abbrev main_v591 : Ref sig .tc := ⟨.hbm, 785, rfl⟩
abbrev main_v592 : Ref sig .tc := ⟨.hbm, 786, rfl⟩
abbrev main_v593 : Ref sig .tc := ⟨.hbm, 787, rfl⟩
abbrev main_c_187 : Ref sig .tc := ⟨.hbm, 788, rfl⟩
abbrev main_v594 : Ref sig .tc := ⟨.hbm, 789, rfl⟩
abbrev main_c_188 : Ref sig .tc := ⟨.hbm, 790, rfl⟩
abbrev main_v595 : Ref sig .tc := ⟨.hbm, 791, rfl⟩
abbrev main_v596 : Ref sig .tc := ⟨.hbm, 792, rfl⟩
abbrev main_c_189 : Ref sig .tc := ⟨.hbm, 793, rfl⟩
abbrev main_v597 : Ref sig .tc := ⟨.hbm, 794, rfl⟩
abbrev main_v598 : Ref sig .tc := ⟨.hbm, 795, rfl⟩
abbrev main_v599 : Ref sig .tc := ⟨.hbm, 796, rfl⟩
abbrev main_c_190 : Ref sig .tc := ⟨.hbm, 797, rfl⟩
abbrev main_v600 : Ref sig .tc := ⟨.hbm, 798, rfl⟩
abbrev main_v601 : Ref sig .tc := ⟨.hbm, 799, rfl⟩
abbrev main_c_191 : Ref sig .tc := ⟨.hbm, 800, rfl⟩
abbrev main_v602 : Ref sig .tc := ⟨.hbm, 801, rfl⟩
abbrev main_v603 : Ref sig .tc := ⟨.hbm, 802, rfl⟩
abbrev main_v604 : Ref sig .tc := ⟨.hbm, 803, rfl⟩
abbrev main_v605 : Ref sig .tc := ⟨.hbm, 804, rfl⟩
abbrev main_v606 : Ref sig .tc := ⟨.hbm, 805, rfl⟩
abbrev main_c_192 : Ref sig .tc := ⟨.hbm, 806, rfl⟩
abbrev main_v607 : Ref sig .tc := ⟨.hbm, 807, rfl⟩
abbrev main_v608 : Ref sig .tc := ⟨.hbm, 808, rfl⟩
abbrev main_c_193 : Ref sig .tc := ⟨.hbm, 809, rfl⟩
abbrev main_v609 : Ref sig .tc := ⟨.hbm, 810, rfl⟩
abbrev main_v610 : Ref sig .tc := ⟨.hbm, 811, rfl⟩
abbrev main_v611 : Ref sig .tc := ⟨.hbm, 812, rfl⟩
abbrev main_v612 : Ref sig .tc := ⟨.hbm, 813, rfl⟩
abbrev main_v613 : Ref sig .tc := ⟨.hbm, 814, rfl⟩
abbrev main_c_194 : Ref sig .tc := ⟨.hbm, 815, rfl⟩
abbrev main_v614 : Ref sig .tc := ⟨.hbm, 816, rfl⟩
abbrev main_v615 : Ref sig .tc := ⟨.hbm, 817, rfl⟩
abbrev main_c_195 : Ref sig .tc := ⟨.hbm, 818, rfl⟩
abbrev main_v616 : Ref sig .tc := ⟨.hbm, 819, rfl⟩
abbrev main_v617 : Ref sig .tc := ⟨.hbm, 820, rfl⟩
abbrev main_v618 : Ref sig .tc := ⟨.hbm, 821, rfl⟩
abbrev main_v619 : Ref sig .tc := ⟨.hbm, 822, rfl⟩
abbrev main_v620 : Ref sig .tc := ⟨.hbm, 823, rfl⟩
abbrev main_c_196 : Ref sig .tc := ⟨.hbm, 824, rfl⟩
abbrev main_v621 : Ref sig .tc := ⟨.hbm, 825, rfl⟩
abbrev main_v622 : Ref sig .tc := ⟨.hbm, 826, rfl⟩
abbrev main_c_197 : Ref sig .tc := ⟨.hbm, 827, rfl⟩
abbrev main_v623 : Ref sig .tc := ⟨.hbm, 828, rfl⟩
abbrev main_v624 : Ref sig .tc := ⟨.hbm, 829, rfl⟩
abbrev main_v625 : Ref sig .tc := ⟨.hbm, 830, rfl⟩
abbrev main_v626 : Ref sig .tc := ⟨.hbm, 831, rfl⟩
abbrev main_c_198 : Ref sig .tc := ⟨.hbm, 832, rfl⟩
abbrev main_v627 : Ref sig .tc := ⟨.hbm, 833, rfl⟩
abbrev main_v628 : Ref sig .tc := ⟨.hbm, 834, rfl⟩
abbrev main_c_199 : Ref sig .tc := ⟨.hbm, 835, rfl⟩
abbrev main_v629 : Ref sig .tc := ⟨.hbm, 836, rfl⟩
abbrev main_v630 : Ref sig .tc := ⟨.hbm, 837, rfl⟩
abbrev main_c_200 : Ref sig .tc := ⟨.hbm, 838, rfl⟩
abbrev main_v631 : Ref sig .tc := ⟨.hbm, 839, rfl⟩
abbrev main_v632 : Ref sig .tc := ⟨.hbm, 840, rfl⟩
abbrev main_v633 : Ref sig .tc := ⟨.hbm, 841, rfl⟩
abbrev main_c_201 : Ref sig .tc := ⟨.hbm, 842, rfl⟩
abbrev main_v634 : Ref sig .tc := ⟨.hbm, 843, rfl⟩
abbrev main_v635 : Ref sig .tc := ⟨.hbm, 844, rfl⟩
abbrev main_c_202 : Ref sig .tc := ⟨.hbm, 845, rfl⟩
abbrev main_v636 : Ref sig .tc := ⟨.hbm, 846, rfl⟩
abbrev main_v637 : Ref sig .tc := ⟨.hbm, 847, rfl⟩
abbrev main_v638 : Ref sig .tc := ⟨.hbm, 848, rfl⟩
abbrev main_v639 : Ref sig .tc := ⟨.hbm, 849, rfl⟩
abbrev main_v640 : Ref sig .tc := ⟨.hbm, 850, rfl⟩
abbrev main_c_203 : Ref sig .tc := ⟨.hbm, 851, rfl⟩
abbrev main_v641 : Ref sig .tc := ⟨.hbm, 852, rfl⟩
abbrev main_v642 : Ref sig .tc := ⟨.hbm, 853, rfl⟩
abbrev main_c_204 : Ref sig .tc := ⟨.hbm, 854, rfl⟩
abbrev main_v643 : Ref sig .tc := ⟨.hbm, 855, rfl⟩
abbrev main_v644 : Ref sig .tc := ⟨.hbm, 856, rfl⟩
abbrev main_v645 : Ref sig .tc := ⟨.hbm, 857, rfl⟩
abbrev main_v646 : Ref sig .tc := ⟨.hbm, 858, rfl⟩
abbrev main_v647 : Ref sig .tc := ⟨.hbm, 859, rfl⟩
abbrev main_c_205 : Ref sig .tc := ⟨.hbm, 860, rfl⟩
abbrev main_v648 : Ref sig .tc := ⟨.hbm, 861, rfl⟩
abbrev main_v649 : Ref sig .tc := ⟨.hbm, 862, rfl⟩
abbrev main_c_206 : Ref sig .tc := ⟨.hbm, 863, rfl⟩
abbrev main_v650 : Ref sig .tc := ⟨.hbm, 864, rfl⟩
abbrev main_v651 : Ref sig .tc := ⟨.hbm, 865, rfl⟩
abbrev main_v652 : Ref sig .tc := ⟨.hbm, 866, rfl⟩
abbrev main_v653 : Ref sig .tc := ⟨.hbm, 867, rfl⟩
abbrev main_v654 : Ref sig .tc := ⟨.hbm, 868, rfl⟩
abbrev main_c_207 : Ref sig .tc := ⟨.hbm, 869, rfl⟩
abbrev main_v655 : Ref sig .tc := ⟨.hbm, 870, rfl⟩
abbrev main_v656 : Ref sig .tc := ⟨.hbm, 871, rfl⟩
abbrev main_c_208 : Ref sig .tc := ⟨.hbm, 872, rfl⟩
abbrev main_v657 : Ref sig .tc := ⟨.hbm, 873, rfl⟩
abbrev main_v658 : Ref sig .tc := ⟨.hbm, 874, rfl⟩
abbrev main_v659 : Ref sig .tc := ⟨.hbm, 875, rfl⟩
abbrev main_v660 : Ref sig .tc := ⟨.hbm, 876, rfl⟩
abbrev main_c_209 : Ref sig .tc := ⟨.hbm, 877, rfl⟩
abbrev main_v661 : Ref sig .tc := ⟨.hbm, 878, rfl⟩
abbrev main_v662 : Ref sig .tc := ⟨.hbm, 879, rfl⟩
abbrev main_c_210 : Ref sig .tc := ⟨.hbm, 880, rfl⟩
abbrev main_v663 : Ref sig .tc := ⟨.hbm, 881, rfl⟩
abbrev main_v664 : Ref sig .tc := ⟨.hbm, 882, rfl⟩
abbrev main_c_211 : Ref sig .tc := ⟨.hbm, 883, rfl⟩
abbrev main_v665 : Ref sig .tc := ⟨.hbm, 884, rfl⟩
abbrev main_v666 : Ref sig .tc := ⟨.hbm, 885, rfl⟩
abbrev main_v667 : Ref sig .tc := ⟨.hbm, 886, rfl⟩
abbrev main_c_212 : Ref sig .tc := ⟨.hbm, 887, rfl⟩
abbrev main_v668 : Ref sig .tc := ⟨.hbm, 888, rfl⟩
abbrev main_v669 : Ref sig .tc := ⟨.hbm, 889, rfl⟩
abbrev main_c_213 : Ref sig .tc := ⟨.hbm, 890, rfl⟩
abbrev main_v670 : Ref sig .tc := ⟨.hbm, 891, rfl⟩
abbrev main_v671 : Ref sig .tc := ⟨.hbm, 892, rfl⟩
abbrev main_v672 : Ref sig .tc := ⟨.hbm, 893, rfl⟩
abbrev main_v673 : Ref sig .tc := ⟨.hbm, 894, rfl⟩
abbrev main_v674 : Ref sig .tc := ⟨.hbm, 895, rfl⟩
abbrev main_c_214 : Ref sig .tc := ⟨.hbm, 896, rfl⟩
abbrev main_v675 : Ref sig .tc := ⟨.hbm, 897, rfl⟩
abbrev main_v676 : Ref sig .tc := ⟨.hbm, 898, rfl⟩
abbrev main_c_215 : Ref sig .tc := ⟨.hbm, 899, rfl⟩
abbrev main_v677 : Ref sig .tc := ⟨.hbm, 900, rfl⟩
abbrev main_v678 : Ref sig .tc := ⟨.hbm, 901, rfl⟩
abbrev main_v679 : Ref sig .tc := ⟨.hbm, 902, rfl⟩
abbrev main_v680 : Ref sig .tc := ⟨.hbm, 903, rfl⟩
abbrev main_v681 : Ref sig .tc := ⟨.hbm, 904, rfl⟩
abbrev main_c_216 : Ref sig .tc := ⟨.hbm, 905, rfl⟩
abbrev main_v682 : Ref sig .tc := ⟨.hbm, 906, rfl⟩
abbrev main_v683 : Ref sig .tc := ⟨.hbm, 907, rfl⟩
abbrev main_c_217 : Ref sig .tc := ⟨.hbm, 908, rfl⟩
abbrev main_v684 : Ref sig .tc := ⟨.hbm, 909, rfl⟩
abbrev main_v685 : Ref sig .tc := ⟨.hbm, 910, rfl⟩
abbrev main_v686 : Ref sig .tc := ⟨.hbm, 911, rfl⟩
abbrev main_v687 : Ref sig .tc := ⟨.hbm, 912, rfl⟩
abbrev main_v688 : Ref sig .tc := ⟨.hbm, 913, rfl⟩
abbrev main_c_218 : Ref sig .tc := ⟨.hbm, 914, rfl⟩
abbrev main_v689 : Ref sig .tc := ⟨.hbm, 915, rfl⟩
abbrev main_v690 : Ref sig .tc := ⟨.hbm, 916, rfl⟩
abbrev main_c_219 : Ref sig .tc := ⟨.hbm, 917, rfl⟩
abbrev main_v691 : Ref sig .tc := ⟨.hbm, 918, rfl⟩
abbrev main_v692 : Ref sig .tc := ⟨.hbm, 919, rfl⟩
abbrev main_v693 : Ref sig .tc := ⟨.hbm, 920, rfl⟩
abbrev main_v694 : Ref sig .tc := ⟨.hbm, 921, rfl⟩
abbrev main_c_220 : Ref sig .tc := ⟨.hbm, 922, rfl⟩
abbrev main_v695 : Ref sig .tc := ⟨.hbm, 923, rfl⟩
abbrev main_v696 : Ref sig .tc := ⟨.hbm, 924, rfl⟩
abbrev main_c_221 : Ref sig .tc := ⟨.hbm, 925, rfl⟩
abbrev main_v697 : Ref sig .tc := ⟨.hbm, 926, rfl⟩
abbrev main_v698 : Ref sig .tc := ⟨.hbm, 927, rfl⟩
abbrev main_c_222 : Ref sig .tc := ⟨.hbm, 928, rfl⟩
abbrev main_v699 : Ref sig .tc := ⟨.hbm, 929, rfl⟩
abbrev main_v700 : Ref sig .tc := ⟨.hbm, 930, rfl⟩
abbrev main_v701 : Ref sig .tc := ⟨.hbm, 931, rfl⟩
abbrev main_c_223 : Ref sig .tc := ⟨.hbm, 932, rfl⟩
abbrev main_v702 : Ref sig .tc := ⟨.hbm, 933, rfl⟩
abbrev main_v703 : Ref sig .tc := ⟨.hbm, 934, rfl⟩
abbrev main_c_224 : Ref sig .tc := ⟨.hbm, 935, rfl⟩
abbrev main_v704 : Ref sig .tc := ⟨.hbm, 936, rfl⟩
abbrev main_v705 : Ref sig .tc := ⟨.hbm, 937, rfl⟩
abbrev main_v706 : Ref sig .tc := ⟨.hbm, 938, rfl⟩
abbrev main_v707 : Ref sig .tc := ⟨.hbm, 939, rfl⟩
abbrev main_v708 : Ref sig .tc := ⟨.hbm, 940, rfl⟩
abbrev main_c_225 : Ref sig .tc := ⟨.hbm, 941, rfl⟩
abbrev main_v709 : Ref sig .tc := ⟨.hbm, 942, rfl⟩
abbrev main_v710 : Ref sig .tc := ⟨.hbm, 943, rfl⟩
abbrev main_c_226 : Ref sig .tc := ⟨.hbm, 944, rfl⟩
abbrev main_v711 : Ref sig .tc := ⟨.hbm, 945, rfl⟩
abbrev main_v712 : Ref sig .tc := ⟨.hbm, 946, rfl⟩
abbrev main_v713 : Ref sig .tc := ⟨.hbm, 947, rfl⟩
abbrev main_v714 : Ref sig .tc := ⟨.hbm, 948, rfl⟩
abbrev main_v715 : Ref sig .tc := ⟨.hbm, 949, rfl⟩
abbrev main_c_227 : Ref sig .tc := ⟨.hbm, 950, rfl⟩
abbrev main_v716 : Ref sig .tc := ⟨.hbm, 951, rfl⟩
abbrev main_v717 : Ref sig .tc := ⟨.hbm, 952, rfl⟩
abbrev main_c_228 : Ref sig .tc := ⟨.hbm, 953, rfl⟩
abbrev main_v718 : Ref sig .tc := ⟨.hbm, 954, rfl⟩
abbrev main_v719 : Ref sig .tc := ⟨.hbm, 955, rfl⟩
abbrev main_v720 : Ref sig .tc := ⟨.hbm, 956, rfl⟩
abbrev main_v721 : Ref sig .tc := ⟨.hbm, 957, rfl⟩
abbrev main_v722 : Ref sig .tc := ⟨.hbm, 958, rfl⟩
abbrev main_c_229 : Ref sig .tc := ⟨.hbm, 959, rfl⟩
abbrev main_v723 : Ref sig .tc := ⟨.hbm, 960, rfl⟩
abbrev main_v724 : Ref sig .tc := ⟨.hbm, 961, rfl⟩
abbrev main_c_230 : Ref sig .tc := ⟨.hbm, 962, rfl⟩
abbrev main_v725 : Ref sig .tc := ⟨.hbm, 963, rfl⟩
abbrev main_v726 : Ref sig .tc := ⟨.hbm, 964, rfl⟩
abbrev main_v727 : Ref sig .tc := ⟨.hbm, 965, rfl⟩
abbrev main_v728 : Ref sig .tc := ⟨.hbm, 966, rfl⟩
abbrev main_c_231 : Ref sig .tc := ⟨.hbm, 967, rfl⟩
abbrev main_v729 : Ref sig .tc := ⟨.hbm, 968, rfl⟩
abbrev main_v730 : Ref sig .tc := ⟨.hbm, 969, rfl⟩
abbrev main_c_232 : Ref sig .tc := ⟨.hbm, 970, rfl⟩
abbrev main_v731 : Ref sig .tc := ⟨.hbm, 971, rfl⟩
abbrev main_v732 : Ref sig .tc := ⟨.hbm, 972, rfl⟩
abbrev main_c_233 : Ref sig .tc := ⟨.hbm, 973, rfl⟩
abbrev main_v733 : Ref sig .tc := ⟨.hbm, 974, rfl⟩
abbrev main_v734 : Ref sig .tc := ⟨.hbm, 975, rfl⟩
abbrev main_v735 : Ref sig .tc := ⟨.hbm, 976, rfl⟩
abbrev main_c_234 : Ref sig .tc := ⟨.hbm, 977, rfl⟩
abbrev main_v736 : Ref sig .tc := ⟨.hbm, 978, rfl⟩
abbrev main_v737 : Ref sig .tc := ⟨.hbm, 979, rfl⟩
abbrev main_c_235 : Ref sig .tc := ⟨.hbm, 980, rfl⟩
abbrev main_v738 : Ref sig .tc := ⟨.hbm, 981, rfl⟩
abbrev main_v739 : Ref sig .tc := ⟨.hbm, 982, rfl⟩
abbrev main_v740 : Ref sig .tc := ⟨.hbm, 983, rfl⟩
abbrev main_v741 : Ref sig .tc := ⟨.hbm, 984, rfl⟩
abbrev main_v742 : Ref sig .tc := ⟨.hbm, 985, rfl⟩
abbrev main_c_236 : Ref sig .tc := ⟨.hbm, 986, rfl⟩
abbrev main_v743 : Ref sig .tc := ⟨.hbm, 987, rfl⟩
abbrev main_v744 : Ref sig .tc := ⟨.hbm, 988, rfl⟩
abbrev main_c_237 : Ref sig .tc := ⟨.hbm, 989, rfl⟩
abbrev main_v745 : Ref sig .tc := ⟨.hbm, 990, rfl⟩
abbrev main_v746 : Ref sig .tc := ⟨.hbm, 991, rfl⟩
abbrev main_v747 : Ref sig .tc := ⟨.hbm, 992, rfl⟩
abbrev main_v748 : Ref sig .tc := ⟨.hbm, 993, rfl⟩
abbrev main_v749 : Ref sig .tc := ⟨.hbm, 994, rfl⟩
abbrev main_c_238 : Ref sig .tc := ⟨.hbm, 995, rfl⟩
abbrev main_v750 : Ref sig .tc := ⟨.hbm, 996, rfl⟩
abbrev main_v751 : Ref sig .tc := ⟨.hbm, 997, rfl⟩
abbrev main_c_239 : Ref sig .tc := ⟨.hbm, 998, rfl⟩
abbrev main_v752 : Ref sig .tc := ⟨.hbm, 999, rfl⟩
abbrev main_v753 : Ref sig .tc := ⟨.hbm, 1000, rfl⟩
abbrev main_v754 : Ref sig .tc := ⟨.hbm, 1001, rfl⟩
abbrev main_v755 : Ref sig .tc := ⟨.hbm, 1002, rfl⟩
abbrev main_v756 : Ref sig .tc := ⟨.hbm, 1003, rfl⟩
abbrev main_c_240 : Ref sig .tc := ⟨.hbm, 1004, rfl⟩
abbrev main_v757 : Ref sig .tc := ⟨.hbm, 1005, rfl⟩
abbrev main_v758 : Ref sig .tc := ⟨.hbm, 1006, rfl⟩
abbrev main_c_241 : Ref sig .tc := ⟨.hbm, 1007, rfl⟩
abbrev main_v759 : Ref sig .tc := ⟨.hbm, 1008, rfl⟩
abbrev main_v760 : Ref sig .tc := ⟨.hbm, 1009, rfl⟩
abbrev main_v761 : Ref sig .tc := ⟨.hbm, 1010, rfl⟩
abbrev main_v762 : Ref sig .tc := ⟨.hbm, 1011, rfl⟩
abbrev main_c_242 : Ref sig .tc := ⟨.hbm, 1012, rfl⟩
abbrev main_v763 : Ref sig .tc := ⟨.hbm, 1013, rfl⟩
abbrev main_v764 : Ref sig .tc := ⟨.hbm, 1014, rfl⟩
abbrev main_c_243 : Ref sig .tc := ⟨.hbm, 1015, rfl⟩
abbrev main_v765 : Ref sig .tc := ⟨.hbm, 1016, rfl⟩
abbrev main_v766 : Ref sig .tc := ⟨.hbm, 1017, rfl⟩
abbrev main_c_244 : Ref sig .tc := ⟨.hbm, 1018, rfl⟩
abbrev main_v767 : Ref sig .tc := ⟨.hbm, 1019, rfl⟩
abbrev main_v768 : Ref sig .tc := ⟨.hbm, 1020, rfl⟩
abbrev main_v769 : Ref sig .tc := ⟨.hbm, 1021, rfl⟩
abbrev main_c_245 : Ref sig .tc := ⟨.hbm, 1022, rfl⟩
abbrev main_v770 : Ref sig .tc := ⟨.hbm, 1023, rfl⟩
abbrev main_v771 : Ref sig .tc := ⟨.hbm, 1024, rfl⟩
abbrev main_v772 : Ref sig .tc := ⟨.hbm, 1025, rfl⟩
abbrev main_v773 : Ref sig .tc := ⟨.hbm, 1026, rfl⟩
abbrev main_v774 : Ref sig .tc := ⟨.hbm, 1027, rfl⟩
abbrev main_v775 : Ref sig .tc := ⟨.hbm, 1028, rfl⟩
abbrev main_v776 : Ref sig .tc := ⟨.hbm, 1029, rfl⟩
abbrev main_v777 : Ref sig .tc := ⟨.hbm, 1030, rfl⟩
abbrev main_v778 : Ref sig .tc := ⟨.hbm, 1031, rfl⟩
abbrev main_v779 : Ref sig .tc := ⟨.hbm, 1032, rfl⟩
abbrev main_v780 : Ref sig .tc := ⟨.hbm, 1033, rfl⟩
abbrev main_v781 : Ref sig .tc := ⟨.hbm, 1034, rfl⟩
abbrev main_v782 : Ref sig .tc := ⟨.hbm, 1035, rfl⟩
abbrev main_cst_246 : Ref sig .tc := ⟨.hbm, 1036, rfl⟩
abbrev main_v783 : Ref sig .tc := ⟨.hbm, 1037, rfl⟩
abbrev main_cst_247 : Ref sig .tc := ⟨.hbm, 1038, rfl⟩
abbrev main_v784 : Ref sig .tc := ⟨.hbm, 1039, rfl⟩
abbrev main_v785 : Ref sig .tc := ⟨.hbm, 1040, rfl⟩
abbrev main_v786 : Ref sig .tc := ⟨.hbm, 1041, rfl⟩
abbrev main_v787 : Ref sig .tc := ⟨.hbm, 1042, rfl⟩
abbrev main_v788 : Ref sig .tc := ⟨.hbm, 1043, rfl⟩
abbrev main_v789 : Ref sig .tc := ⟨.hbm, 1044, rfl⟩
abbrev main_v790 : Ref sig .tc := ⟨.hbm, 1045, rfl⟩
abbrev main_cst_248 : Ref sig .tc := ⟨.hbm, 1046, rfl⟩
abbrev main_v791 : Ref sig .tc := ⟨.hbm, 1047, rfl⟩
abbrev main_cst_249 : Ref sig .tc := ⟨.hbm, 1048, rfl⟩
abbrev main_v792 : Ref sig .tc := ⟨.hbm, 1049, rfl⟩
abbrev main_v793 : Ref sig .tc := ⟨.hbm, 1050, rfl⟩
abbrev main_v794 : Ref sig .tc := ⟨.hbm, 1051, rfl⟩
abbrev main_v795 : Ref sig .tc := ⟨.hbm, 1052, rfl⟩

abbrev nD : Nat := 1
abbrev τ : Topo := Topo.v7x

variable {F : FTy → Type} [FloatOps F]
-- ==== Proof.Row.lean ====
module

public import proofs.«01_k».proof.Proof.Gen.KernelIdeal

/-!
# The vector functions of one kernel body

Both launches run the same body on different widths: `O` output features, `I` input features. The
definitions here are that body's arithmetic written once over `O` and `I`: the random words of a
block, one sample's fast row, the count of rows the candidates did not settle, and the dense pass
that recomputes a block.
-/

@[expose] public section
noncomputable section

namespace Cert.Proof

open Idealize.ShloMosaic

abbrev sRow (O : ℕ) : Shape := ⟨2, ![1, O]⟩
abbrev sLane (O : ℕ) : Shape := ⟨1, ![O]⟩
abbrev sBlk (k O : ℕ) : Shape := ⟨2, ![k, O]⟩
abbrev sOut (O : ℕ) : Shape := ⟨3, ![1, 1, O]⟩
abbrev sCand : Shape := ⟨3, ![1, 32, 1]⟩
abbrev sCol (k : ℕ) : Shape := ⟨2, ![k, 1]⟩

/-- The shape relations the body's operations cite, at width `O`. -/
class RowFacts (O : ℕ) : Prop where
  castRow : (sRow O).ShapeCasts (sRow O)
  iotaRow : (sRow O).Iotas .tc 32 [1]
  castCand : sCand.ShapeCasts (sCol 32)
  bRow32 : (sRow O).Broadcasts (sBlk 32 O)
  castCol32 : (sCol 32).ShapeCasts (sCol 32)
  bCol32 : (sCol 32).Broadcasts (sBlk 32 O)
  red32 : (sBlk 32 O).Reduces [0] (sLane O)
  castLane : (sLane O).ShapeCasts (sRow O)
  castOut : (sRow O).ShapeCasts (sOut O)
  redAll : (sOut O).Reduces [1, 2] (⟨1, ![1]⟩ : Shape)
  castOne : (⟨1, ![1]⟩ : Shape).ShapeCasts (⟨3, ![1, 1, 1]⟩ : Shape)
  atOne : ∀ a, (![0, 0, 0] : Fin 3 → Nat) a < (⟨3, ![1, 1, 1]⟩ : Shape).size a
  iotaBlk : (sBlk 16 O).Iotas .tc 32 [0]
  bRow16 : (sRow O).Broadcasts (sBlk 16 O)
  castCol16 : (sCol 16).ShapeCasts (sCol 16)
  bCol16 : (sCol 16).Broadcasts (sBlk 16 O)
  red16 : (sBlk 16 O).Reduces [0] (sLane O)
  posOut : 0 < (sOut O).numel
  posRow : 0 < (sRow O).numel

open RowFacts

/-! ## Random words -/

section Words
variable {S : Shape}

/-- What follows a step takes the two words the step made. -/
abbrev Cont (S : Shape) := IVec S 32 → IVec S 32 → IVec S 32

/-- One mixing step: add, rotate by `r` (`q = 32 - r`), exclusive or. -/
def mixK (r q : BitVec 32) (k : Cont S) : Cont S := fun x0 x1 =>
  k (addi x0 x1) (xori (ori (shli x1 (broadcast S r)) (shrui x1 (broadcast S q))) (addi x0 x1))

/-- One key injection. -/
def injK (a b n : BitVec 32) (k : Cont S) : Cont S := fun x0 x1 =>
  k (addi x0 (broadcast S a)) (addi (addi x1 (broadcast S b)) (broadcast S n))

/-- Four mixing steps with the even rotations. -/
def evenK (k : Cont S) : Cont S :=
  mixK 13#32 19#32 <| mixK 15#32 17#32 <| mixK 26#32 6#32 <| mixK 6#32 26#32 k

/-- Four mixing steps with the odd rotations. -/
def oddK (k : Cont S) : Cont S :=
  mixK 17#32 15#32 <| mixK 29#32 3#32 <| mixK 16#32 16#32 <| mixK 24#32 8#32 k

/-- The random word of the counter pair `(0, lo)` under the key `(a, b)`, with `c` the third key
    word: the two mixed words' exclusive or. -/
def bitsV (a b c : BitVec 32) (lo : IVec S 32) : IVec S 32 :=
  (evenK <| injK b c 1#32 <| oddK <| injK c a 2#32 <| evenK <| injK a b 3#32 <| oddK <|
    injK b c 4#32 <| evenK <| injK c a 5#32 xori)
    (addi (broadcast S 0#32) (broadcast S a)) (addi lo (broadcast S b))

/-- The random word of one counter. -/
def bitsW (a b c lo : BitVec 32) : BitVec 32 := bitsV (S := ⟨0, ![]⟩) a b c (fun _ => lo) (fun i => i.elim0)

theorem bitsV_apply (a b c : BitVec 32) (lo : IVec S 32) (i : S.Idx) :
    bitsV a b c lo i = bitsW a b c (lo i) := rfl

end Words

/-! ## The rows -/

section Rows
variable {F : FTy → Type} [FloatOps F]
variable (O I : ℕ) [RowFacts O]

/-- Which features take a minimum. -/
def minV (v0 : Vec F (sRow O) .i32) : IVec (sRow O) 1 :=
  cmpi .ne (shapeCast (sRow O) v0 castRow) (broadcast (sRow O) 0#32)

/-- The value a masked edge contributes: `10` to a minimum, `-10` to a maximum. -/
def offV (im : IVec (sRow O) 1) : FVec F (sRow O) .f32 :=
  select im (broadcast (sRow O) (Scalar.ofBits .f32 0x41200000#32)) (broadcast (sRow O) (Scalar.ofBits .f32 0xC1200000#32))

/-- The lane numbers of a row. -/
def laneV : IVec (sRow O) 32 := iota .tc (sRow O) 32 [1] iotaRow

/-- The counter of each feature's first edge, for sample `s` of the block at grid argument `g`. -/
def termV (g s : BitVec 32) : IVec (sRow O) 32 :=
  muli (addi (broadcast (sRow O) (Scalar.muli (Scalar.addi (Scalar.muli g 16#32) s) (BitVec.ofNat 32 O))) (laneV O))
    (broadcast (sRow O) (BitVec.ofNat 32 I))

/-- A candidate block: the low half where the feature takes a minimum, the high half elsewhere. -/
def pickV {α : Type} (im : IVec (sRow O) 1) (lo hi : (sCol 32).Idx → α) : (sBlk 32 O).Idx → α :=
  select (broadcastTo (sBlk 32 O) (shapeCast (sRow O) im castRow) bRow32)
    (broadcastTo (sBlk 32 O) (shapeCast (sCol 32) lo (castCol32 O)) bCol32)
    (broadcastTo (sBlk 32 O) (shapeCast (sCol 32) hi (castCol32 O)) bCol32)

/-- Which candidates' edges are normal. -/
def hitV (a b c : BitVec 32) (im : IVec (sRow O) 1) (term : IVec (sRow O) 32) (il ih : Vec F sCand .i32) :
    IVec (sBlk 32 O) 1 :=
  cmpi .ult
    (bitsV a b c (addi (broadcastTo (sBlk 32 O) term bRow32)
      (pickV O im (shapeCast (sCol 32) il (castCand O)) (shapeCast (sCol 32) ih (castCand O)))))
    (broadcast (sBlk 32 O) 2147483648#32)

/-- Whether some candidate's edge is normal. -/
def okV (hit : IVec (sBlk 32 O) 1) : IVec (sRow O) 1 :=
  cmpi .ne
    (select
      (shapeCast (sRow O)
        (cmpf .ogt
          (multiReduction (F := F) .maximumf [0] (sLane O)
            (select hit (broadcast (sBlk 32 O) (Scalar.ofBits .f32 0x3F800000#32)) (broadcast (sBlk 32 O) (Scalar.ofBits .f32 0x00000000#32)))
            0xFF800000#32 red32 (.inl rfl) rfl)
          (broadcast (sLane O) (Scalar.ofBits .f32 0x00000000#32))) castLane)
      (broadcast (sRow O) 1#32) (broadcast (sRow O) 0#32))
    (broadcast (sRow O) 0#32)

/-- The least of the candidate values whose edges are normal, at most `10`. -/
def accV (im : IVec (sRow O) 1) (hit : IVec (sBlk 32 O) 1) (vl vh : Vec F sCand .f32) : FVec F (sRow O) .f32 :=
  minimumf (broadcast (sRow O) (Scalar.ofBits .f32 0x41200000#32))
    (shapeCast (sRow O)
      (multiReduction .minimumf [0] (sLane O)
        (select hit
          (pickV O im (shapeCast (sCol 32) vl (castCand O))
            (subf (broadcast (sCol 32) (Scalar.ofBits .f32 0x00000000#32)) (shapeCast (sCol 32) vh (castCand O))))
          (broadcast (sBlk 32 O) (Scalar.ofBits .f32 0x41200000#32)))
        0x7F800000#32 red32 (.inl rfl) rfl) castLane)

/-- One sample's fast row. -/
def fastV (im : IVec (sRow O) 1) (hit : IVec (sBlk 32 O) 1) (vl vh : Vec F sCand .f32) : FVec F (sOut O) .f32 :=
  shapeCast (sOut O)
    (select (okV (F := F) O hit)
      (select im (accV O im hit vl vh)
        (subf (broadcast (sRow O) (Scalar.ofBits .f32 0x00000000#32)) (accV O im hit vl vh)))
      (broadcast (sRow O) (Scalar.ofBits .f32 0x00000000#32))) castOut

/-- The rows the candidates did not settle, after one more sample. -/
def badV (hit : IVec (sBlk 32 O) 1) (bad : IVec (sRow O) 32) : IVec (sRow O) 32 :=
  select (okV (F := F) O hit) bad (broadcast (sRow O) 1#32)

/-- The decision whether the dense pass runs. -/
def anyBad (bad : IVec (sRow O) 32) : BitVec 1 :=
  Scalar.cmpi .ne (Scalar.extui (Scalar.cmpi .sgt
    (extractAt ![0, 0, 0]
      (shapeCast (⟨3, ![1, 1, 1]⟩ : Shape)
        (multiReductionI .add [1, 2] (⟨1, ![1]⟩ : Shape) (shapeCast (sOut O) bad castOut) 0#32 redAll rfl) (castOne O)) (atOne O)) 0#32)) 0#32

/-! ## The dense pass -/

/-- The running values of the dense pass: least, greatest, whether any edge was normal, and the
    forced edge's value. -/
abbrev Run := FVec F (sRow O) .f32 × FVec F (sRow O) .f32 × IVec (sRow O) 32 × FVec F (sRow O) .f32

def run0 : Run (F := F) O :=
  (broadcast (sRow O) (Scalar.ofBits .f32 0x41200000#32), broadcast (sRow O) (Scalar.ofBits .f32 0xC1200000#32),
    broadcast (sRow O) 0#32, broadcast (sRow O) (Scalar.ofBits .f32 0x00000000#32))

/-- The forced edge of each feature, for sample `s`. -/
def forcedV (a b c : BitVec 32) (g s : BitVec 32) : IVec (sRow O) 32 :=
  andi (bitsV a b c (addi (laneV O) (broadcast (sRow O) (Scalar.muli (Scalar.addi (Scalar.muli g 16#32) s) (BitVec.ofNat 32 O)))))
    (broadcast (sRow O) (BitVec.ofNat 32 (I - 1)))

/-- Which of the chunk's sixteen edges are normal. -/
def normalV (a b c : BitVec 32) (term : IVec (sRow O) 32) (j : BitVec 32) : IVec (sBlk 16 O) 1 :=
  cmpi .ult
    (bitsV a b c (addi (broadcastTo (sBlk 16 O) term bRow16)
      (addi (iota .tc (sBlk 16 O) 32 [0] iotaBlk) (broadcast (sBlk 16 O) (Scalar.muli j 16#32)))))
    (broadcast (sBlk 16 O) 2147483648#32)

/-- One chunk of the dense pass. -/
def stepV (off : FVec F (sRow O) .f32) (nrm : IVec (sBlk 16 O) 1) (fid : IVec (sRow O) 32) (j : BitVec 32)
    (x : Vec F (sCol 16) .f32) (r : Run (F := F) O) : Run (F := F) O :=
  (minimumf r.1
    (shapeCast (sRow O) (multiReduction .minimumf [0] (sLane O)
      (select nrm (broadcastTo (sBlk 16 O) (shapeCast (sCol 16) x (castCol16 O)) bCol16)
        (broadcastTo (sBlk 16 O) (shapeCast (sRow O) off castRow) bRow16)) 0x7F800000#32 red16 (.inl rfl) rfl) castLane),
   maximumf r.2.1
    (shapeCast (sRow O) (multiReduction .maximumf [0] (sLane O)
      (select nrm (broadcastTo (sBlk 16 O) (shapeCast (sCol 16) x (castCol16 O)) bCol16)
        (broadcastTo (sBlk 16 O) (shapeCast (sRow O) off castRow) bRow16)) 0xFF800000#32 red16 (.inl rfl) rfl) castLane),
   select
      (shapeCast (sRow O)
        (cmpf .ogt
          (multiReduction (F := F) .maximumf [0] (sLane O)
            (select nrm (broadcast (sBlk 16 O) (Scalar.ofBits .f32 0x3F800000#32)) (broadcast (sBlk 16 O) (Scalar.ofBits .f32 0x00000000#32)))
            0xFF800000#32 red16 (.inl rfl) rfl)
          (broadcast (sLane O) (Scalar.ofBits .f32 0x00000000#32))) castLane)
      (broadcast (sRow O) 1#32) r.2.2.1,
   addf r.2.2.2
    (shapeCast (sRow O) (multiReduction .add [0] (sLane O)
      (select (cmpi .eq (addi (iota .tc (sBlk 16 O) 32 [0] iotaBlk) (broadcast (sBlk 16 O) (Scalar.muli j 16#32)))
          (broadcastTo (sBlk 16 O) fid bRow16))
        (broadcastTo (sBlk 16 O) (shapeCast (sCol 16) x (castCol16 O)) bCol16)
        (broadcast (sBlk 16 O) (Scalar.ofBits .f32 0x00000000#32))) 0x00000000#32 red16 (.inl rfl) rfl) castLane))

/-- The dense pass's row. -/
def denseV (im : IVec (sRow O) 1) (r : Run (F := F) O) : FVec F (sOut O) .f32 :=
  shapeCast (sOut O)
    (select (cmpi .ne r.2.2.1 (broadcast (sRow O) 0#32)) (select im r.1 r.2.1)
      (select im (minimumf r.2.2.2 (broadcast (sRow O) (Scalar.ofBits .f32 0x41200000#32)))
        (maximumf r.2.2.2 (broadcast (sRow O) (Scalar.ofBits .f32 0xC1200000#32))))) castOut

end Rows

section Instances
open Cert.KernelIdeal Cert.KernelIdeal.Facts₀

instance : RowFacts 512 where
  castRow := shapeCasts_S1x512_S1x512
  iotaRow := iota_S1x512_d1_w32
  castCand := shapeCasts_S1x32x1_S32x1
  bRow32 := broadcasts_S1x512_S32x512
  castCol32 := shapeCasts_S32x1_S32x1
  bCol32 := broadcasts_S32x1_S32x512
  red32 := reduces_S32x512_S512
  castLane := shapeCasts_S512_S1x512
  castOut := shapeCasts_S1x512_S1x1x512
  redAll := reduces_S1x1x512_S1
  castOne := shapeCasts_S1_S1x1x1
  atOne := inpos_S1x1x1_p0_0_0
  iotaBlk := iota_S16x512_d0_w32
  bRow16 := broadcasts_S1x512_S16x512
  castCol16 := shapeCasts_S16x1_S16x1
  bCol16 := broadcasts_S16x1_S16x512
  red16 := reduces_S16x512_S512
  posOut := h_S1x1x512
  posRow := h_S1x512

instance : RowFacts 1024 where
  castRow := shapeCasts_S1x1024_S1x1024
  iotaRow := iota_S1x1024_d1_w32
  castCand := shapeCasts_S1x32x1_S32x1
  bRow32 := broadcasts_S1x1024_S32x1024
  castCol32 := shapeCasts_S32x1_S32x1
  bCol32 := broadcasts_S32x1_S32x1024
  red32 := reduces_S32x1024_S1024
  castLane := shapeCasts_S1024_S1x1024
  castOut := shapeCasts_S1x1024_S1x1x1024
  redAll := reduces_S1x1x1024_S1
  castOne := shapeCasts_S1_S1x1x1
  atOne := inpos_S1x1x1_p0_0_0
  iotaBlk := iota_S16x1024_d0_w32
  bRow16 := broadcasts_S1x1024_S16x1024
  castCol16 := shapeCasts_S16x1_S16x1
  bCol16 := broadcasts_S16x1_S16x1024
  red16 := reduces_S16x1024_S1024
  posOut := h_S1x1x1024
  posRow := h_S1x1024

end Instances

end Cert.Proof
-- ==== Proof.Body.lean ====
module

public import proofs.«01_k».proof.Proof.Row
public import proofs.«01_k».proof.Proof.Gen.KernelIdeal.Skeleton

/-!
# The kernel body over its width

The program both launches run, written once over the two widths: sixteen samples on the fast path,
then, if some row was not settled, a loop over the sixteen samples that fetches the sample's inputs
and recomputes its row chunk by chunk. `body0_eq` and `body1_eq` say the two printed bodies are this
program.
-/

@[expose] public section
noncomputable section

namespace Cert.Proof

open Idealize.ShloMosaic Idealize.SL.Sem
open Cert.KernelIdeal (nD τ sig Λ₀)

abbrev sIn : Shape := ⟨3, ![16, 64, 1]⟩
abbrev sX (I : ℕ) : Shape := ⟨3, ![64, I, 1]⟩
abbrev sXr (I : ℕ) : Shape := ⟨3, ![1, I, 1]⟩
abbrev sRes (O : ℕ) : Shape := ⟨3, ![16, 1, O]⟩
abbrev sS : Shape := ⟨0, ![]⟩

/-- A loop counting from zero to `n`. -/
@[reducible] def upTo (n : BitVec 32) : Scf.Loop 32 := ⟨0#32, Scalar.addi 0#32 n, 1#32⟩

/-- The block row and the rows of the array that loop variables name. -/
def offX (g : ℕ) (k : Fin (upTo 16#32).trips) : Fin 3 → ℕ :=
  ![(Scalar.addi (Scalar.muli (BitVec.ofNat 32 g) 16#32) (Scf.iv 0#32 1#32 k)).toNat, 0, 0]
def offC (C : BitVec 32) (k : Fin (upTo C).trips) : Fin 2 → ℕ :=
  ![(Scalar.indexCast (Scalar.muli (Scf.iv 0#32 1#32 k) 16#32) : Index).toNat, 0]
def offO (k : Fin (upTo 16#32).trips) : Fin 3 → ℕ :=
  ![(Scalar.indexCast (Scf.iv 0#32 1#32 k) : Index).toNat, 0, 0]

/-- The side conditions the body's accesses cite, at widths `O`, `I` with `C` chunks. -/
class BodyFacts (O I : ℕ) (C : BitVec 32) : Prop extends RowFacts O where
  okB : (upTo 16#32).OK
  okC : (upTo C).OK
  inbX : ∀ (g : Fin 4) (k : Fin (upTo 16#32).trips), ∀ a, offX g.val k a + (sXr I).size a ≤ (sX I).size a
  inbC : ∀ (k : Fin (upTo C).trips), ∀ a, offC C k a + (sCol 16).size a ≤ (sCol I).size a
  inbO : ∀ (k : Fin (upTo 16#32).trips), ∀ a, offO k a + (sOut O).size a ≤ (sRes O).size a
  sqz : (sXr I).Squeezes (sCol I)
  tripsB : (upTo 16#32).trips = 16
  tripsC : 16 * (upTo C).trips = I
  eqX : ∀ (g : Fin 4) (k : Fin (upTo 16#32).trips), offX g.val k = ![16 * g.val + k.val, 0, 0]
  eqC : ∀ k : Fin (upTo C).trips, offC C k = ![16 * k.val, 0]
  eqO : ∀ k : Fin (upTo 16#32).trips, offO k = ![k.val, 0, 0]

theorem inb_lo {s : ℕ} (hs : s < 16) : ∀ a, (![s, 0, 0] : Fin 3 → ℕ) a + sCand.size a ≤ sIn.size a := by
  intro a; fin_cases a <;> simp <;> omega

theorem inb_hi {s : ℕ} (hs : s < 16) : ∀ a, (![s, 32, 0] : Fin 3 → ℕ) a + sCand.size a ≤ sIn.size a := by
  intro a; fin_cases a <;> simp <;> omega

theorem inb_out {O s : ℕ} (hs : s < 16) : ∀ a, (![s, 0, 0] : Fin 3 → ℕ) a + (sOut O).size a ≤ (sRes O).size a := by
  intro a; fin_cases a <;> simp <;> omega

theorem inb_row {O : ℕ} : ∀ a, (![0, 0] : Fin 2 → ℕ) a + (sRow O).size a ≤ (sRow O).size a := by
  intro a; fin_cases a <;> simp

theorem pos_cand : 0 < sCand.numel := by decide
theorem pos_col16 : 0 < (sCol 16).numel := by decide

/-- The key words of a launch: the edge key and the forced-edge key. -/
structure Keys where
  a : BitVec 32
  b : BitVec 32
  c : BitVec 32
  fa : BitVec 32
  fb : BitVec 32
  fc : BitVec 32

section Program
variable {F : FTy → Type} [FloatOps F]
variable (O I : ℕ) (C : BitVec 32) [BodyFacts O I C] (K : Keys) (g : Fin 4)
variable (arg1 : Memref sig .tc .vmem sIn .i32) (arg2 : Memref sig .tc .vmem sIn .f32)
  (arg3 : Memref sig .tc .hbm (sX I) .f32) (arg4 : Memref sig .tc .vmem (sRow O) .i32)
  (arg5 : Memref sig .tc .vmem (sRes O) .f32) (arg6 : Memref sig .tc .vmem (sCol I) .f32) (harg6 : arg6.IsWhole)
  (arg7 : DmaSems sig sS)

abbrev BodyProg (F : FTy → Type) (α : Type) := Prog (TpuEff nD τ sig (Elt F) Λ₀ .tc) α

/-- The grid argument as the body reads it. -/
abbrev gw : BitVec 32 := BitVec.ofNat 32 g.val

/-- One sample on the fast path. -/
def sample (s : ℕ) (hs : s < 16) (im : IVec (sRow O) 1) (bad : IVec (sRow O) 32) : BodyProg F (IVec (sRow O) 32) := do
  let il : Vec F sCand .i32 ← Prog.lift (.load arg1 (Rect.unit (s := sIn) ![s, 0, 0] sCand.size (inb_lo hs)).toLoadRect (View.loadsAt_vmem pos_cand))
  let ih : Vec F sCand .i32 ← Prog.lift (.load arg1 (Rect.unit (s := sIn) ![s, 32, 0] sCand.size (inb_hi hs)).toLoadRect (View.loadsAt_vmem pos_cand))
  let vl : Vec F sCand .f32 ← Prog.lift (.load arg2 (Rect.unit (s := sIn) ![s, 0, 0] sCand.size (inb_lo hs)).toLoadRect (View.loadsAt_vmem pos_cand))
  let vh : Vec F sCand .f32 ← Prog.lift (.load arg2 (Rect.unit (s := sIn) ![s, 32, 0] sCand.size (inb_hi hs)).toLoadRect (View.loadsAt_vmem pos_cand))
  let _old : Vec F (sOut O) .f32 ← Prog.lift (.load arg5 (Rect.unit (s := sRes O) ![s, 0, 0] (sOut O).size (inb_out hs)).toLoadRect (View.loadsAt_vmem RowFacts.posOut))
  Prog.lift (.store arg5 (Rect.unit (s := sRes O) ![s, 0, 0] (sOut O).size (inb_out hs))
    (fastV O im (hitV (F := F) O K.a K.b K.c im (termV O I (gw g) (BitVec.ofNat 32 s)) il ih) vl vh)
    Finset.univ (View.stores_vmem_bits_univ RowFacts.posOut rfl) (.inl rfl))
  pure (badV (F := F) O (hitV (F := F) O K.a K.b K.c im (termV O I (gw g) (BitVec.ofNat 32 s)) il ih) bad)

/-- The sixteen samples, one after another. -/
def samples (im : IVec (sRow O) 1) : BodyProg F (IVec (sRow O) 32) := do
  let bad ← sample O I C K g arg1 arg2 arg5 0 (by decide) im (broadcast (sRow O) 0#32)
  let bad ← sample O I C K g arg1 arg2 arg5 1 (by decide) im bad
  let bad ← sample O I C K g arg1 arg2 arg5 2 (by decide) im bad
  let bad ← sample O I C K g arg1 arg2 arg5 3 (by decide) im bad
  let bad ← sample O I C K g arg1 arg2 arg5 4 (by decide) im bad
  let bad ← sample O I C K g arg1 arg2 arg5 5 (by decide) im bad
  let bad ← sample O I C K g arg1 arg2 arg5 6 (by decide) im bad
  let bad ← sample O I C K g arg1 arg2 arg5 7 (by decide) im bad
  let bad ← sample O I C K g arg1 arg2 arg5 8 (by decide) im bad
  let bad ← sample O I C K g arg1 arg2 arg5 9 (by decide) im bad
  let bad ← sample O I C K g arg1 arg2 arg5 10 (by decide) im bad
  let bad ← sample O I C K g arg1 arg2 arg5 11 (by decide) im bad
  let bad ← sample O I C K g arg1 arg2 arg5 12 (by decide) im bad
  let bad ← sample O I C K g arg1 arg2 arg5 13 (by decide) im bad
  let bad ← sample O I C K g arg1 arg2 arg5 14 (by decide) im bad
  sample O I C K g arg1 arg2 arg5 15 (by decide) im bad

/-- One chunk of the dense pass. -/
def chunk (off : FVec F (sRow O) .f32) (term : IVec (sRow O) 32) (fid : IVec (sRow O) 32) :
    Fin (upTo C).trips → Run (F := F) O → BodyProg F (Run (F := F) O) :=
  fun k r => do
    let x : Vec F (sCol 16) .f32 ← Prog.lift (.load arg6 (Rect.unit (s := sCol I) (offC C k) (sCol 16).size (BodyFacts.inbC O k)).toLoadRect (View.loadsAt_vmem pos_col16))
    pure (stepV O off (normalV O K.a K.b K.c term (Scf.iv 0#32 1#32 k)) fid (Scf.iv 0#32 1#32 k) x r)

/-- The row of the array a trip of the dense loop fetches. -/
abbrev rowOf (k : Fin (upTo 16#32).trips) : Memref sig .tc .hbm (sCol I) .f32 :=
  (arg3.slice (Rect.unit (s := sX I) (offX g.val k) (sXr I).size (BodyFacts.inbX O C g k)) (fun _ => rfl)).squeeze (sCol I) (BodyFacts.sqz O C)

/-- A trip of the dense loop once the sample's inputs are fetched: run the chunks, store the row. -/
def tripRest (im : IVec (sRow O) 1) (k : Fin (upTo 16#32).trips) : BodyProg F Unit := do
  let r ← Scf.Loop.for (upTo C) (BodyFacts.okC O I) (run0 (F := F) O)
    (chunk O I C K arg6 (offV O im) (termV O I (gw g) (Scf.iv 0#32 1#32 k))
      (forcedV O I K.fa K.fb K.fc (gw g) (Scf.iv 0#32 1#32 k)))
  let _old : Vec F (sOut O) .f32 ← Prog.lift (.load arg5 (Rect.unit (s := sRes O) (offO k) (sOut O).size (BodyFacts.inbO I C k)).toLoadRect (View.loadsAt_vmem RowFacts.posOut))
  Prog.lift (.store arg5 (Rect.unit (s := sRes O) (offO k) (sOut O).size (BodyFacts.inbO I C k)) (denseV O im r)
    Finset.univ (View.stores_vmem_bits_univ RowFacts.posOut rfl) (.inl rfl))
  pure ⟨⟩

/-- One trip of the dense loop: fetch the sample's inputs, run the chunks, store the row. -/
def trip (im : IVec (sRow O) 1) : Fin (upTo 16#32).trips → Unit → BodyProg F Unit :=
  fun k _ => do
    Prog.lift (.enqueueDma (rowOf O I C g arg3 k) (.here arg6) (.dma arg7.sem) ((View.wordExact_bits rfl).reshape _ _) harg6.wordExact ⟨Or.inl rfl, trivial⟩)
    Prog.lift (.waitDma2 arg7.sem (rowOf O I C g arg3 k) arg6 ((View.wordExact_bits rfl).reshape _ _) harg6.wordExact)
    tripRest O I C K g arg5 arg6 im k

/-- The body. -/
def body : BodyProg F PUnit := do
  let v0 : Vec F (sRow O) .i32 ← Prog.lift (.load arg4 (Rect.unit (s := sRow O) ![0, 0] (sRow O).size inb_row).toLoadRect (View.loadsAt_vmem RowFacts.posRow))
  let bad ← samples O I C K g arg1 arg2 arg5 (minV O v0)
  if anyBad O bad = 1#1 then do
    Scf.Loop.for (upTo 16#32) (BodyFacts.okB O I C) ⟨⟩ (trip O I C K g arg3 arg5 arg6 harg6 arg7 (minV O v0))
    pure ⟨⟩
  else do
    pure ⟨⟩
  pure ⟨⟩

end Program

section Instances
open Cert.KernelIdeal Cert.KernelIdeal.Facts₀

instance : BodyFacts 512 1024 64#32 where
  okB := k0_t1_ok
  okC := k0_t2_ok
  inbX := fun g k => k0_off1_inb (fun a => match a with | 0 => g) k
  inbC := k0_off2_inb
  inbO := k0_off3_inb
  sqz := squeezes_S1x1024x1_S1024x1
  tripsB := by decide
  tripsC := by decide
  eqX := fun g k => Gen.k0_off1_eq (fun a => match a with | 0 => g) k
  eqC := Gen.k0_off2_eq
  eqO := Gen.k0_off3_eq

instance : BodyFacts 1024 512 32#32 where
  okB := k1_t1_ok
  okC := k1_t2_ok
  inbX := fun g k => k1_off1_inb (fun a => match a with | 0 => g) k
  inbC := k1_off2_inb
  inbO := k1_off3_inb
  sqz := squeezes_S1x512x1_S512x1
  tripsB := by decide
  tripsC := by decide
  eqX := fun g k => Gen.k1_off1_eq (fun a => match a with | 0 => g) k
  eqC := Gen.k1_off2_eq
  eqO := Gen.k1_off3_eq

end Instances

/-- The first launch's key words. -/
def K0 : Keys := ⟨1012194634#32, 3152801799#32, 2624468631#32, 2451885785#32, 2215112154#32, 233978073#32⟩

/-- The second launch's key words. -/
def K1 : Keys := ⟨3187376881#32, 129218101#32, 2711170846#32, 1337563380#32, 4229806652#32, 2826254610#32⟩

end Cert.Proof
-- ==== Proof.Run.lean ====
module

public import proofs.«01_k».proof.Proof.Body
public import Idealize.ShloMosaic.Lib.Pipeline.Frame
public import Idealize.ShloMosaic.Lib.Tactic
public import Idealize.ShloMosaic.Lib.Transfers
public import Idealize.ShloMosaic.Lib.VecWindow

/-!
# What the body leaves in its result block

The values first (`fastOut`, `denseOut`, `blockOut`), as functions of what the operands hold; then the
body's triples over any widths: one sample, the sixteen samples, one chunk loop with its store.
-/

@[expose] public section
noncomputable section

namespace Cert.Proof

open Cert.KernelIdeal (nD τ sig Λ₀)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Values -/

section Values
variable (O I : ℕ) (C : BitVec 32) [BodyFacts O I C] (K : Keys) (g : Fin 4)

/-- Sample `s`'s candidates from position `o` on. -/
def cand {α : Type} (d : sIn.Idx → α) (s o : ℕ) : sCand.Idx → α := fun j =>
  d (fun a => match a with
    | 0 => (⟨s % 16, Nat.mod_lt _ (by decide)⟩ : Fin 16)
    | 1 => (⟨(o + (j 1).val) % 64, Nat.mod_lt _ (by decide)⟩ : Fin 64)
    | 2 => (⟨0, by decide⟩ : Fin 1))

variable (d1 : sIn.Idx → Elt F .i32) (d2 : sIn.Idx → Elt F .f32) (im : IVec (sRow O) 1)

def hitAt (s : ℕ) : IVec (sBlk 32 O) 1 :=
  hitV (F := F) O K.a K.b K.c im (termV O I (gw g) (BitVec.ofNat 32 s)) (cand d1 s 0) (cand d1 s 32)

def fastAt (s : ℕ) : FVec F (sOut O) .f32 := fastV O im (hitAt (F := F) O I C K g d1 im s) (cand d2 s 0) (cand d2 s 32)

/-- The unsettled rows after `n` samples. -/
def badAt : ℕ → IVec (sRow O) 32
  | 0 => broadcast (sRow O) 0#32
  | n + 1 => badV (F := F) O (hitAt (F := F) O I C K g d1 im n) (badAt n)

/-- The block after `n` samples of the fast path. -/
def fastOut (d5 : (sRes O).Idx → Elt F .f32) : ℕ → (sRes O).Idx → Elt F .f32
  | 0 => d5
  | n + 1 => VecWindow.put (fastOut d5 n) ![n, 0, 0] (sOut O).size (fastAt O I C K g d1 d2 im n)

/-- The sixteen inputs of chunk `n`. -/
def chunkAt (d6 : (sCol I).Idx → Elt F .f32) (n : ℕ) : Vec F (sCol 16) .f32 := fun j =>
  if h : 16 * n + (j 0).val < I then d6 (fun a => match a with
    | 0 => (⟨16 * n + (j 0).val, h⟩ : Fin I)
    | 1 => (⟨0, by decide⟩ : Fin 1)) else Scalar.ofBits .f32 0x00000000#32

/-- The running values after `n` chunks. -/
def runAt (d6 : (sCol I).Idx → Elt F .f32) (s : BitVec 32) : ℕ → Run (F := F) O
  | 0 => run0 O
  | n + 1 => stepV O (offV O im) (normalV O K.a K.b K.c (termV O I (gw g) s) (Scf.iv 0#32 1#32 n))
      (forcedV O I K.fa K.fb K.fc (gw g) s) (Scf.iv 0#32 1#32 n) (chunkAt I d6 n) (runAt d6 s n)

/-- The inputs of sample `k` of the block. -/
def rowAt (d3 : (sX I).Idx → Elt F .f32) (k : ℕ) : (sCol I).Idx → Elt F .f32 := fun j =>
  d3 (fun a => match a with
    | 0 => (⟨(16 * g.val + k) % 64, Nat.mod_lt _ (by decide)⟩ : Fin 64)
    | 1 => j 0
    | 2 => (⟨0, by decide⟩ : Fin 1))

def denseAt (d3 : (sX I).Idx → Elt F .f32) (k : ℕ) : FVec F (sOut O) .f32 :=
  denseV O im (runAt O I C K g im (rowAt I g d3 k) (Scf.iv 0#32 1#32 k) (upTo C).trips)

/-- The block after `n` trips of the dense loop. -/
def denseOut (d3 : (sX I).Idx → Elt F .f32) (d5 : (sRes O).Idx → Elt F .f32) : ℕ → (sRes O).Idx → Elt F .f32
  | 0 => d5
  | n + 1 => VecWindow.put (denseOut d3 d5 n) ![n, 0, 0] (sOut O).size (denseAt O I C K g im d3 n)

/-- The block the body leaves. -/
def blockOut (d3 : (sX I).Idx → Elt F .f32) (d4 : (sRow O).Idx → Elt F .i32) (d5 : (sRes O).Idx → Elt F .f32) :
    (sRes O).Idx → Elt F .f32 :=
  if anyBad O (badAt (F := F) O I C K g d1 (minV (F := F) O d4) 16) = 1#1 then
    denseOut O I C K g (minV (F := F) O d4) d3 (fastOut O I C K g d1 d2 (minV (F := F) O d4) d5 16) 16
  else fastOut O I C K g d1 d2 (minV (F := F) O d4) d5 16

end Values

/-! ## Reads through a view -/

section Views
variable {Val : EltTy → Type} {sp : Space} {e : EltTy}

theorem readAt_cand {o : ℕ} (v : View sig .tc sp sIn e) (f : v.ty.Contents Val) {s : ℕ} (hs : s < 16) (ho : o ≤ 32)
    (inb : ∀ a, (![s, o, 0] : Fin 3 → ℕ) a + sCand.size a ≤ sIn.size a) :
    v.readAt Val (Rect.unit (s := sIn) ![s, o, 0] sCand.size inb).toLoadRect f = cand (v.read Val f) s o := by
  rw [View.readAt_unit v f inb rfl inb]
  funext j
  refine congrArg (v.read Val f) (funext fun a => Fin.ext ?_)
  have h0 : (j 0).val < 1 := (j 0).isLt
  have h1 : (j 1).val < 32 := (j 1).isLt
  have h2 : (j 2).val < 1 := (j 2).isLt
  match a with
  | 0 => show s + 1 * (j 0).val = s % 16; omega
  | 1 => show o + 1 * (j 1).val = (o + (j 1).val) % 64; omega
  | 2 => show 0 + 1 * (j 2).val = 0; omega

end Views

/-! ## Triples -/

variable [∀ e, Nonempty (Elt F e)]

local notation "𝕄" => MT nD τ sig Unit (Elt F) ℕ (Pipeline.UD sig nD τ) ℕ

section Triples
variable (O I : ℕ) (C : BitVec 32) [BodyFacts O I C] (K : Keys) (g : Fin 4)
variable (arg1 : Memref sig .tc .vmem sIn .i32) (arg2 : Memref sig .tc .vmem sIn .f32)
  (arg5 : Memref sig .tc .vmem (sRes O) .f32) (arg6 : Memref sig .tc .vmem (sCol I) .f32)

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- One sample: the block gets the sample's row, the count its unsettled lanes. -/
theorem sample_wp (c : Dev nD) (𝒱 : Variants) (s : ℕ) (hs : s < 16) (im : IVec (sRow O) 1) (bad : IVec (sRow O) 32)
    (f1 : Buf (Elt F) (arg1.view.loc (c : Thread nD τ))) (f2 : Buf (Elt F) (arg2.view.loc (c : Thread nD τ))) (f5 : Buf (Elt F) (arg5.view.loc (c : Thread nD τ)))
    (Q : IVec (sRow O) 32 → sProp 𝕄) :
    iprop(pt c arg1 f1 ∗ pt c arg2 f2 ∗ pt c arg5 f5
        ∗ (∀ f5', ⌜arg5.view.read (Elt F) f5' = VecWindow.put (arg5.view.read (Elt F) f5) ![s, 0, 0] (sOut O).size
              (fastAt O I C K g (arg1.view.read (Elt F) f1) (arg2.view.read (Elt F) f2) im s)⌝ -∗
            pt c arg1 f1 -∗ pt c arg2 f2 -∗ pt c arg5 f5' -∗
            Q (badV (F := F) O (hitAt (F := F) O I C K g (arg1.view.read (Elt F) f1) im s) bad)))
      ⊢ wp frame (wpE (Cert.KernelIdeal.defs₀ (F := F)) 𝒱 c none) Set.univ
          (sample O I C K g arg1 arg2 arg5 s hs im bad) Q := by
  unfold sample
  iintro ⟨H1, H2, H5, Hk⟩
  sl_exec
  sl_step
  have e1 := readAt_cand arg1.view f1 hs (o := 0) (by decide) (inb_lo hs)
  have e2 := readAt_cand arg1.view f1 hs (o := 32) (by decide) (inb_hi hs)
  have e3 := readAt_cand arg2.view f2 hs (o := 0) (by decide) (inb_lo hs)
  have e4 := readAt_cand arg2.view f2 hs (o := 32) (by decide) (inb_hi hs)
  simp only [fastAt, hitAt, e1, e2, e3, e4]
  iapply Hk $$ [] H1 H2 H5
  ipureintro
  exact View.read_writes_cons_put arg5.view f5 (inb_out hs) _ [] rfl

/-- One sample in the sequence: from the block after `n` samples to the block after `n + 1`. -/
theorem step_wp (c : Dev nD) (𝒱 : Variants) (n : ℕ) (hn : n < 16) (im : IVec (sRow O) 1)
    (f1 : Buf (Elt F) (arg1.view.loc (c : Thread nD τ))) (f2 : Buf (Elt F) (arg2.view.loc (c : Thread nD τ)))
    (d5 : (sRes O).Idx → Elt F .f32) (Q : IVec (sRow O) 32 → sProp 𝕄) :
    iprop(pt c arg1 f1 ∗ pt c arg2 f2
        ∗ (∃ f5, ⌜arg5.view.read (Elt F) f5 = fastOut O I C K g (arg1.view.read (Elt F) f1) (arg2.view.read (Elt F) f2) im d5 n⌝ ∗ pt c arg5 f5)
        ∗ (pt c arg1 f1 -∗ pt c arg2 f2
            -∗ (∃ f5, ⌜arg5.view.read (Elt F) f5 = fastOut O I C K g (arg1.view.read (Elt F) f1) (arg2.view.read (Elt F) f2) im d5 (n + 1)⌝ ∗ pt c arg5 f5)
            -∗ Q (badAt (F := F) O I C K g (arg1.view.read (Elt F) f1) im (n + 1))))
      ⊢ wp frame (wpE (Cert.KernelIdeal.defs₀ (F := F)) 𝒱 c none) Set.univ
          (sample O I C K g arg1 arg2 arg5 n hn im (badAt (F := F) O I C K g (arg1.view.read (Elt F) f1) im n)) Q := by
  rw [show badAt (F := F) O I C K g (arg1.view.read (Elt F) f1) im (n + 1)
    = badV (F := F) O (hitAt (F := F) O I C K g (arg1.view.read (Elt F) f1) im n) (badAt (F := F) O I C K g (arg1.view.read (Elt F) f1) im n) from rfl]
  iintro ⟨H1, H2, ⟨%f5, %h5, H5⟩, Hk⟩
  iapply sample_wp O I C K g arg1 arg2 arg5 c 𝒱 n hn im _ f1 f2 f5 Q
  isplitl [H1]; · iexact H1
  isplitl [H2]; · iexact H2
  isplitl [H5]; · iexact H5
  iintro %f5' %h5' H1 H2 H5
  rw [h5] at h5'
  iapply Hk $$ H1 H2 [H5]
  iexists f5'
  isplitr
  · ipureintro; exact h5'
  · iexact H5

/-- The load of the per-row flags. -/
theorem minLoad_wp {O : ℕ} [RowFacts O] (arg4 : Memref sig .tc .vmem (sRow O) .i32) (c : Dev nD) (𝒱 : Variants)
    (f4 : Buf (Elt F) (arg4.view.loc (c : Thread nD τ))) (Q : Vec F (sRow O) .i32 → sProp 𝕄) :
    iprop(pt c arg4 f4 ∗ (pt c arg4 f4 -∗ Q (arg4.view.read (Elt F) f4)))
      ⊢ wp frame (wpE (Cert.KernelIdeal.defs₀ (F := F)) 𝒱 c none) Set.univ
          (Prog.lift (.load arg4 (Rect.unit (s := sRow O) ![0, 0] (sRow O).size inb_row).toLoadRect (View.loadsAt_vmem RowFacts.posRow))) Q := by
  iintro ⟨H4, Hk⟩
  sl_exec
  sl_step
  have e4 : arg4.view.readAt (Elt F) (Rect.unit (s := sRow O) ![0, 0] (sRow O).size inb_row).toLoadRect f4 = arg4.view.read (Elt F) f4 := by
    rw [View.readAt_unit arg4.view f4 inb_row (show (![0, 0] : Fin 2 → ℕ) = ![0, 0] from rfl) inb_row]
    funext j
    refine congrArg (arg4.view.read (Elt F) f4) (funext fun a => Fin.ext ?_)
    match a with
    | 0 => show 0 + 1 * (j 0).val = (j 0).val; omega
    | 1 => show 0 + 1 * (j 1).val = (j 1).val; omega
  simp only [e4]
  iapply Hk $$ H4

/-- The sixteen samples. -/
theorem samples_wp (c : Dev nD) (𝒱 : Variants) (im : IVec (sRow O) 1)
    (f1 : Buf (Elt F) (arg1.view.loc (c : Thread nD τ))) (f2 : Buf (Elt F) (arg2.view.loc (c : Thread nD τ)))
    (d5 : (sRes O).Idx → Elt F .f32) (bad : IVec (sRow O) 32) (hbad : bad = badAt (F := F) O I C K g (arg1.view.read (Elt F) f1) im 16)
    (fast : (sRes O).Idx → Elt F .f32) (hfast : fast = fastOut O I C K g (arg1.view.read (Elt F) f1) (arg2.view.read (Elt F) f2) im d5 16)
    (Q : IVec (sRow O) 32 → sProp 𝕄) :
    iprop(pt c arg1 f1 ∗ pt c arg2 f2
        ∗ (∃ f5, ⌜arg5.view.read (Elt F) f5 = d5⌝ ∗ pt c arg5 f5)
        ∗ (pt c arg1 f1 -∗ pt c arg2 f2
            -∗ (∃ f5, ⌜arg5.view.read (Elt F) f5 = fast⌝ ∗ pt c arg5 f5)
            -∗ Q bad))
      ⊢ wp frame (wpE (Cert.KernelIdeal.defs₀ (F := F)) 𝒱 c none) Set.univ
          (samples O I C K g arg1 arg2 arg5 im) Q := by
  subst hbad hfast
  unfold samples
  simp only [wp_bind]
  iintro ⟨H1, H2, H5, Hk⟩
  iterate 15
    iapply step_wp O I C K g arg1 arg2 arg5 c 𝒱 _ _ im f1 f2 d5
    isplitl [H1]; · iexact H1
    isplitl [H2]; · iexact H2
    isplitl [H5]; · iexact H5
    iintro H1 H2 H5
  iapply step_wp O I C K g arg1 arg2 arg5 c 𝒱 15 _ im f1 f2 d5
  isplitl [H1]; · iexact H1
  isplitl [H2]; · iexact H2
  isplitl [H5]; · iexact H5
  iexact Hk

/-- The row a trip fetches. -/
theorem read_row (arg3 : Memref sig .tc .hbm (sX I) .f32) (k : Fin (upTo 16#32).trips) (f : arg3.view.ty.Contents (Elt F)) :
    (rowOf O I C g arg3 k).view.read (Elt F) f = rowAt I g (arg3.view.read (Elt F) f) k.val := by
  funext y
  show arg3.view.read (Elt F) f ((Rect.unit (s := sX I) (offX g.val k) (sXr I).size (BodyFacts.inbX O C g k)).emb
    (Shape.reshapeEquiv (BodyFacts.sqz (I := I) O C).numel_eq y)) = _
  rw [show Shape.reshapeEquiv (BodyFacts.sqz (I := I) O C).numel_eq y = (Fin.cons ⟨0, Nat.one_pos⟩ y : (sXr I).Idx) from
    Shape.reshapeEquiv_cons_one _ y]
  have e := BodyFacts.eqX O I C g k
  have hk : k.val < 16 := lt_of_lt_of_eq k.isLt (BodyFacts.tripsB O I C)
  have hg := g.isLt
  have h1 : (y 1).val < 1 := (y 1).isLt
  refine congrArg (arg3.view.read (Elt F) f) (funext fun a => Fin.ext ?_)
  refine (congrArg (· + 1 * _) (congrFun e a)).trans ?_
  match a with
  | 0 => show 16 * g.val + k.val + 1 * 0 = (16 * g.val + k.val) % 64; omega
  | 1 => show 0 + 1 * (y 0).val = (y 0).val; omega
  | 2 => show 0 + 1 * (y 1).val = 0; omega

/-- A chunk's load. -/
theorem readAt_chunk (n : ℕ) (k : Fin (upTo C).trips) (f : arg6.view.ty.Contents (Elt F)) (hk : k.val = n) :
    arg6.view.readAt (Elt F) (Rect.unit (s := sCol I) (offC C k) (sCol 16).size (BodyFacts.inbC O k)).toLoadRect f
      = chunkAt I (arg6.view.read (Elt F) f) n := by
  subst hk
  rw [View.readAt_unit arg6.view f (BodyFacts.inbC O k) (BodyFacts.eqC O I k) (by rw [← BodyFacts.eqC O I k]; exact BodyFacts.inbC O k)]
  have ht : 16 * (upTo C).trips = I := BodyFacts.tripsC O
  funext j
  have h0 : (j 0).val < 16 := (j 0).isLt
  have h1 : (j 1).val < 1 := (j 1).isLt
  have hk := k.isLt
  unfold chunkAt
  rw [dif_pos (by omega)]
  refine congrArg (arg6.view.read (Elt F) f) (funext fun a => Fin.ext ?_)
  match a with
  | 0 => show 16 * k.val + 1 * (j 0).val = 16 * k.val + (j 0).val; omega
  | 1 => show 0 + 1 * (j 1).val = 0; omega

/-- What the chunk loop keeps. -/
def chunkInv (c : Dev nD) (im : IVec (sRow O) 1) (f6 : Buf (Elt F) (arg6.view.loc (c : Thread nD τ))) (s : BitVec 32)
    (n : ℕ) (r : Run (F := F) O) : sProp 𝕄 :=
  iprop(⌜r = runAt O I C K g im (arg6.view.read (Elt F) f6) s n⌝ ∗ pt c arg6 f6)

/-- The chunks and the store, once the row's inputs are there. -/
theorem tripRest_wp (c : Dev nD) (𝒱 : Variants) (im : IVec (sRow O) 1) (k : Fin (upTo 16#32).trips)
    (f5 : Buf (Elt F) (arg5.view.loc (c : Thread nD τ))) (f6 : Buf (Elt F) (arg6.view.loc (c : Thread nD τ)))
    (Q : Unit → sProp 𝕄) :
    iprop(pt c arg5 f5 ∗ pt c arg6 f6
        ∗ (∀ f5', ⌜arg5.view.read (Elt F) f5' = VecWindow.put (arg5.view.read (Elt F) f5) ![k.val, 0, 0] (sOut O).size
              (denseV O im (runAt O I C K g im (arg6.view.read (Elt F) f6) (Scf.iv 0#32 1#32 k) (upTo C).trips))⌝
            -∗ pt c arg5 f5' -∗ pt c arg6 f6 -∗ Q ⟨⟩))
      ⊢ wp frame (wpE (Cert.KernelIdeal.defs₀ (F := F)) 𝒱 c none) Set.univ
          (tripRest O I C K g arg5 arg6 im k) Q := by
  unfold tripRest
  iintro ⟨H5, H6, Hk⟩
  sl_for (chunkInv O I C K g arg6 c im f6 (Scf.iv 0#32 1#32 k)) $$ [H6]
  case region =>
    intro k' a; unfold chunkInv; iintro ⟨%ha, H6⟩
    sl_exec
    sl_step
    isplitr
    · ipureintro
      rw [readAt_chunk O I C arg6 _ k' f6 rfl, ha]
      rfl
    · iexact H6
  · unfold chunkInv
    isplitr
    · ipureintro; rfl
    · iexact H6
  iintro %a HI; unfold chunkInv; icases HI with ⟨%ha, H6⟩
  sl_exec
  sl_step
  iapply Hk $$ [] H5 H6
  ipureintro
  rw [← ha]
  exact View.read_writes_cons_put arg5.view f5 (BodyFacts.inbO I C k) _ [] (BodyFacts.eqO O I C k)

end Triples

end Cert.Proof
-- ==== Proof.BodyEq.lean ====
module

public import proofs.«01_k».proof.Proof.Body

/-!
# The printed bodies are the program of `Body`
-/

@[expose] public section
noncomputable section

namespace Cert.Proof

open Idealize.ShloMosaic Idealize.SL.Sem
open Cert.KernelIdeal

variable {F : FTy → Type} [FloatOps F]

universe v

/-- Two programs that request the same effect are equal if what follows is, at every response. -/
theorem op_same {E : Type → Type v} {α β : Type} {e e' : E β} {k k' : β → Prog E α} (he : e = e') (h : ∀ x, k x = k' x) :
    Prog.op e k = Prog.op e' k' := by
  cases he; exact congrArg (Prog.op e) (funext h)

theorem bind_same {E : Type → Type v} {α β : Type} {p p' : Prog E α} {k k' : α → Prog E β} (hp : p = p') (h : k = k') :
    Prog.bind p k = Prog.bind p' k' := by
  rw [hp, h]

theorem ret_left {E : Type → Type v} {α β : Type} {a : α} {k : α → Prog E β} {q : Prog E β} (h : k a = q) :
    Prog.bind (.ret a) k = q := h

theorem ret_right {E : Type → Type v} {α β γ : Type} {a : α} {f : α → Prog E β} {b : β} {k : β → Prog E γ} {q : Prog E γ}
    (hf : f a = .ret b) (h : q = k b) : q = Prog.bind (Prog.bind (.ret a) f) k := by
  rw [h]; exact (congrArg (fun z => Prog.bind z k) hf).symm

theorem ite_same {α : Type _} {c c' : BitVec 1} {t t' e e' : α} (hc : c = c') (ht : t = t') (he : e = e') :
    (if c = 1#1 then t else e) = (if c' = 1#1 then t' else e') := by
  rw [hc, ht, he]

theorem for_same {E : Type → Type v} {σ : Type} {lb ub st : BitVec 32} {hok : Scf.OK lb ub st} {init : σ}
    {f f' : Fin (Scf.trips lb ub st) → σ → Prog E σ} (h : ∀ k a, f k a = f' k a) :
    Scf.for lb ub st hok init f = Scf.for lb ub st hok init f' := by
  rw [funext fun k => funext (h k)]

set_option maxRecDepth 65536 in
set_option maxHeartbeats 1000000 in
/-- The first printed body is the program at widths 512 and 1024. -/
theorem body0_eq (i : grid0.Coords) (arg1 : Memref sig .tc .vmem S16x64x1 .i32) (harg1 : arg1.IsWhole) (arg2 : Memref sig .tc .vmem S16x64x1 .f32) (harg2 : arg2.IsWhole) (arg3 : Memref sig .tc .hbm S64x1024x1 .f32) (harg3 : arg3.IsWhole) (arg4 : Memref sig .tc .vmem S1x512 .i32) (harg4 : arg4.IsWhole) (arg5 : Memref sig .tc .vmem S16x1x512 .f32) (harg5 : arg5.IsWhole) (arg6 : Memref sig .tc .vmem S1024x1 .f32) (harg6 : arg6.IsWhole) (arg7 : DmaSems sig S_) :
    cc0_body (F := F) i arg1 harg1 arg2 harg2 arg3 harg3 arg4 harg4 arg5 harg5 arg6 harg6 arg7
      = body 512 1024 64#32 K0 (i 0) arg1 arg2 arg3 arg4 arg5 arg6 harg6 arg7 := by
  iterate 97 (refine op_same ?_ (fun _ => ?_); rfl)
  refine ret_left ?_
  refine ret_right rfl ?_
  refine ite_same rfl ?_ rfl
  refine bind_same (for_same fun k u => ?_) rfl
  refine op_same rfl (fun _ => ?_)
  refine op_same rfl (fun _ => ?_)
  refine bind_same (for_same fun j r => ?_) ?_
  · refine op_same rfl (fun x => ?_)
    rfl
  · refine funext fun r => ?_
    rfl

set_option maxRecDepth 65536 in
set_option maxHeartbeats 1000000 in
/-- The second printed body is the program at widths 1024 and 512. -/
theorem body1_eq (i : grid1.Coords) (arg1 : Memref sig .tc .vmem S16x64x1 .i32) (harg1 : arg1.IsWhole) (arg2 : Memref sig .tc .vmem S16x64x1 .f32) (harg2 : arg2.IsWhole) (arg3 : Memref sig .tc .hbm S64x512x1 .f32) (harg3 : arg3.IsWhole) (arg4 : Memref sig .tc .vmem S1x1024 .i32) (harg4 : arg4.IsWhole) (arg5 : Memref sig .tc .vmem S16x1x1024 .f32) (harg5 : arg5.IsWhole) (arg6 : Memref sig .tc .vmem S512x1 .f32) (harg6 : arg6.IsWhole) (arg7 : DmaSems sig S_) :
    cc1_body (F := F) i arg1 harg1 arg2 harg2 arg3 harg3 arg4 harg4 arg5 harg5 arg6 harg6 arg7
      = body 1024 512 32#32 K1 (i 0) arg1 arg2 arg3 arg4 arg5 arg6 harg6 arg7 := by
  iterate 97 (refine op_same ?_ (fun _ => ?_); rfl)
  refine ret_left ?_
  refine ret_right rfl ?_
  refine ite_same rfl ?_ rfl
  refine bind_same (for_same fun k u => ?_) rfl
  refine op_same rfl (fun _ => ?_)
  refine op_same rfl (fun _ => ?_)
  refine bind_same (for_same fun j r => ?_) ?_
  · refine op_same rfl (fun x => ?_)
    rfl
  · refine funext fun r => ?_
    rfl

end Cert.Proof
-- ==== Proof.Trip.lean ====
module

public import proofs.«01_k».proof.Proof.Run
public import proofs.«01_k».proof.Proof.BodyEq

/-!
# The bodies' triples

One trip of the dense loop at each launch's own widths and buffers, then the two bodies.
-/

@[expose] public section
noncomputable section

set_option maxHeartbeats 2000000

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-! ## The first launch -/

/-- The first launch's inputs and its scratch row. -/
abbrev xM0 : Memref sig .tc .hbm S64x1024x1 .f32 := Memref.whole main_v13
abbrev scM0 : Memref sig .tc .vmem S1024x1 .f32 := Memref.whole cc0_scratch0

/-- One trip: the row's inputs fetched into the scratch row, the chunks run over them, the row stored. -/
theorem trip0_wp (c : Dev nD) (𝒱 : Variants) (g : Fin 4) (arg5 : Memref sig .tc .vmem (sRes 512) .f32) (im : IVec (sRow 512) 1)
    (k : Fin (upTo 16#32).trips) (f3 : Buf (Elt F) (xM0.view.loc (c : Thread nD τ)))
    (f5 : Buf (Elt F) (arg5.view.loc (c : Thread nD τ))) (f6 : Buf (Elt F) (scM0.view.loc (c : Thread nD τ)))
    (W : Waits sig Unit) (Q : Unit → sProp 𝕄) :
    iprop(pt c xM0 f3 ∗ pt c arg5 f5 ∗ pt c scM0 f6 ∗ semVal ((c : Thread nD τ), SemLoc.dma 7) 0 ∗ owes (c : Thread nD τ) 0 W
        ∗ (∀ f5', ⌜arg5.view.read (Elt F) f5' = VecWindow.put (arg5.view.read (Elt F) f5) ![k.val, 0, 0] (sOut 512).size
              (denseAt 512 1024 64#32 K0 g im (xM0.view.read (Elt F) f3) k.val)⌝
            -∗ pt c xM0 f3 -∗ pt c arg5 f5' -∗ (∃ f6, pt c scM0 f6) -∗ semVal ((c : Thread nD τ), SemLoc.dma 7) 0
            -∗ (∃ W', owes (c : Thread nD τ) 0 W') -∗ Q ⟨⟩))
      ⊢ wp frame (wpE (defs₀ (F := F)) 𝒱 c none) Set.univ
          (trip 512 1024 64#32 K0 g xM0 arg5 scM0 (Memref.isWhole_whole _) cc0_scratch1 im k ⟨⟩) Q := by
  unfold trip
  iintro ⟨H3, H5, H6, Hs, HW, Hk⟩
  sl_exec
  iapply tripRest_wp 512 1024 64#32 K0 g arg5 scM0 c 𝒱 im k f5 _ Q
  isplitl [H5]; · iexact H5
  isplitl [H6]; · iexact H6
  iintro %f5' %h5' H5 H6
  rw [View.read_write_univ] at h5'
  iapply Hk $$ [] H3 H5 [H6] [Hs] [HW]
  · ipureintro
    refine h5'.trans ?_
    exact congrArg (fun d => VecWindow.put (arg5.view.read (Elt F) f5) ![k.val, 0, 0] (sOut 512).size (denseV 512 im
      (runAt 512 1024 64#32 K0 g im d (Scf.iv 0#32 1#32 k) (upTo 64#32).trips))) (read_row 512 1024 64#32 g xM0 k f3)
  · iexists _; iexact H6
  · iexact Hs
  · iexists _; iexact HW

/-- What the dense loop keeps: the rows done so far, the inputs, the scratch row at anything, the transfer's cell at zero. -/
def rowsInv0 (c : Dev nD) (g : Fin 4) (arg5 : Memref sig .tc .vmem (sRes 512) .f32) (im : IVec (sRow 512) 1)
    (f3 : Buf (Elt F) (xM0.view.loc (c : Thread nD τ))) (d5 : (sRes 512).Idx → Elt F .f32) (n : ℕ) (_ : Unit) : sProp 𝕄 :=
  iprop(pt c xM0 f3 ∗ (∃ f5, ⌜arg5.view.read (Elt F) f5 = denseOut 512 1024 64#32 K0 g im (xM0.view.read (Elt F) f3) d5 n⌝ ∗ pt c arg5 f5)
    ∗ (∃ f6, pt c scM0 f6) ∗ semVal ((c : Thread nD τ), SemLoc.dma 7) 0 ∗ (∃ W, owes (c : Thread nD τ) 0 W))

/-- The dense loop. -/
theorem rows0_wp (c : Dev nD) (𝒱 : Variants) (g : Fin 4) (arg5 : Memref sig .tc .vmem (sRes 512) .f32) (im : IVec (sRow 512) 1)
    (f3 : Buf (Elt F) (xM0.view.loc (c : Thread nD τ))) (d5 : (sRes 512).Idx → Elt F .f32) (Q : PUnit → sProp 𝕄) :
    iprop(rowsInv0 c g arg5 im f3 d5 0 ⟨⟩ ∗ (rowsInv0 c g arg5 im f3 d5 (upTo 16#32).trips ⟨⟩ -∗ Q ⟨⟩))
      ⊢ wp frame (wpE (defs₀ (F := F)) 𝒱 c none) Set.univ
          (Scf.Loop.for (upTo 16#32) (BodyFacts.okB 512 1024 64#32) ⟨⟩ (trip 512 1024 64#32 K0 g xM0 arg5 scM0 (Memref.isWhole_whole _) cc0_scratch1 im)) Q := by
  iintro ⟨HI, Hk⟩
  sl_for (rowsInv0 c g arg5 im f3 d5) $$ [HI Hk]
  case region =>
    intro k a; unfold rowsInv0; iintro ⟨H3, ⟨%fa, %ha, H5⟩, ⟨%fs, H6⟩, Hs, ⟨%Wa, HW⟩⟩
    iapply trip0_wp c 𝒱 g arg5 im k f3 fa fs Wa
    isplitl [H3]; · iexact H3
    isplitl [H5]; · iexact H5
    isplitl [H6]; · iexact H6
    isplitl [Hs]; · iexact Hs
    isplitl [HW]; · iexact HW
    iintro %fb %hb' H3 H5 H6 Hs HW
    isplitl [H3]; · iexact H3
    isplitl [H5]
    · iexists fb
      isplitr
      · ipureintro; rw [hb', ha]; rfl
      · iexact H5
    isplitl [H6]; · iexact H6
    isplitl [Hs]; · iexact Hs
    iexact HW
  isplitl [HI]; · iexact HI
  iintro %a HI
  iapply Hk $$ [HI]
  iexact HI

/-- What follows the samples: the dense loop when a row is unsettled. -/
theorem tail0_wp (c : Dev nD) (𝒱 : Variants) (g : Fin 4) (arg5 : Memref sig .tc .vmem (sRes 512) .f32) (im : IVec (sRow 512) 1)
    (bad : IVec (sRow 512) 32)
    (f3 : Buf (Elt F) (xM0.view.loc (c : Thread nD τ))) (d5 : (sRes 512).Idx → Elt F .f32) (Q : PUnit → sProp 𝕄) :
    iprop(rowsInv0 c g arg5 im f3 d5 0 ⟨⟩
        ∗ (pt c xM0 f3
          -∗ (∃ f5, ⌜arg5.view.read (Elt F) f5 = if anyBad 512 bad = 1#1 then denseOut 512 1024 64#32 K0 g im (xM0.view.read (Elt F) f3) d5 16 else d5⌝ ∗ pt c arg5 f5)
          -∗ (∃ f6, pt c scM0 f6) -∗ semVal ((c : Thread nD τ), SemLoc.dma 7) 0 -∗ (∃ W, owes (c : Thread nD τ) 0 W) -∗ Q ⟨⟩))
      ⊢ wp frame (wpE (defs₀ (F := F)) 𝒱 c none) Set.univ
          (do
            if anyBad 512 bad = 1#1 then do
              Scf.Loop.for (upTo 16#32) (BodyFacts.okB 512 1024 64#32) ⟨⟩ (trip 512 1024 64#32 K0 g xM0 arg5 scM0 (Memref.isWhole_whole _) cc0_scratch1 im)
              pure ⟨⟩
            else do
              pure ⟨⟩
            pure ⟨⟩) Q := by
  iintro ⟨HI, Hk⟩
  by_cases hb : anyBad 512 bad = 1#1
  · rw [if_pos hb, if_pos hb, wp_bind]
    simp only [wp_bind]
    iapply rows0_wp c 𝒱 g arg5 im f3 d5
    isplitl [HI]; · iexact HI
    unfold rowsInv0
    iintro ⟨H3, ⟨%fa, %ha, H5⟩, H6, Hs, HW⟩
    sl_exec
    sl_step
    rw [BodyFacts.tripsB 512 1024 64#32] at ha
    iapply Hk $$ H3 [H5] H6 Hs HW
    iexists fa
    isplitr
    · ipureintro; exact ha
    · iexact H5
  · rw [if_neg hb, if_neg hb]
    unfold rowsInv0
    icases HI with ⟨H3, ⟨%fa, %ha, H5⟩, H6, Hs, HW⟩
    sl_exec
    sl_step
    iapply Hk $$ H3 [H5] H6 Hs HW
    iexists fa
    isplitr
    · ipureintro; exact ha
    · iexact H5

/-- The body: the block ends at `blockOut` of what the operands hold. -/
theorem body0_wp (c : Dev nD) (𝒱 : Variants) (g : Fin 4)
    (arg1 : Memref sig .tc .vmem sIn .i32) (arg2 : Memref sig .tc .vmem sIn .f32) (arg4 : Memref sig .tc .vmem (sRow 512) .i32)
    (arg5 : Memref sig .tc .vmem (sRes 512) .f32)
    (f1 : Buf (Elt F) (arg1.view.loc (c : Thread nD τ))) (f2 : Buf (Elt F) (arg2.view.loc (c : Thread nD τ)))
    (f3 : Buf (Elt F) (xM0.view.loc (c : Thread nD τ))) (f4 : Buf (Elt F) (arg4.view.loc (c : Thread nD τ)))
    (f5 : Buf (Elt F) (arg5.view.loc (c : Thread nD τ))) (f6 : Buf (Elt F) (scM0.view.loc (c : Thread nD τ)))
    (W : Waits sig Unit) (Q : PUnit → sProp 𝕄) :
    iprop(pt c arg1 f1 ∗ pt c arg2 f2 ∗ pt c xM0 f3 ∗ pt c arg4 f4 ∗ pt c arg5 f5 ∗ pt c scM0 f6
        ∗ semVal ((c : Thread nD τ), SemLoc.dma 7) 0 ∗ owes (c : Thread nD τ) 0 W
        ∗ (pt c arg1 f1 -∗ pt c arg2 f2 -∗ pt c xM0 f3 -∗ pt c arg4 f4
            -∗ (∃ f5', ⌜arg5.view.read (Elt F) f5' = blockOut 512 1024 64#32 K0 g (arg1.view.read (Elt F) f1) (arg2.view.read (Elt F) f2)
                  (xM0.view.read (Elt F) f3) (arg4.view.read (Elt F) f4) (arg5.view.read (Elt F) f5)⌝ ∗ pt c arg5 f5')
            -∗ (∃ f6, pt c scM0 f6) -∗ semVal ((c : Thread nD τ), SemLoc.dma 7) 0
            -∗ (∃ W', owes (c : Thread nD τ) 0 W') -∗ Q ⟨⟩))
      ⊢ wp frame (wpE (defs₀ (F := F)) 𝒱 c none) Set.univ
          (body 512 1024 64#32 K0 g arg1 arg2 xM0 arg4 arg5 scM0 (Memref.isWhole_whole _) cc0_scratch1) Q := by
  unfold body
  obtain ⟨im, him⟩ : ∃ im, im = minV (F := F) 512 (arg4.view.read (Elt F) f4) := ⟨_, rfl⟩
  obtain ⟨bad, hbad⟩ : ∃ bad, bad = badAt (F := F) 512 1024 64#32 K0 g (arg1.view.read (Elt F) f1) im 16 := ⟨_, rfl⟩
  obtain ⟨fast, hfast⟩ : ∃ fast, fast = fastOut 512 1024 64#32 K0 g (arg1.view.read (Elt F) f1) (arg2.view.read (Elt F) f2) im (arg5.view.read (Elt F) f5) 16 := ⟨_, rfl⟩
  rw [show blockOut 512 1024 64#32 K0 g (arg1.view.read (Elt F) f1) (arg2.view.read (Elt F) f2) (xM0.view.read (Elt F) f3)
      (arg4.view.read (Elt F) f4) (arg5.view.read (Elt F) f5)
      = if anyBad 512 bad = 1#1 then denseOut 512 1024 64#32 K0 g im (xM0.view.read (Elt F) f3) fast 16 else fast from by
    unfold blockOut; rw [← him, ← hbad, ← hfast]]
  rw [wp_bind]
  iintro ⟨H1, H2, H3, H4, H5, H6, Hs, HW, Hk⟩
  iapply minLoad_wp arg4 c 𝒱 f4
  isplitl [H4]; · iexact H4
  iintro H4
  rw [← him, wp_bind]
  iapply samples_wp 512 1024 64#32 K0 g arg1 arg2 arg5 c 𝒱 im f1 f2 (arg5.view.read (Elt F) f5) bad hbad fast hfast
  isplitl [H1]; · iexact H1
  isplitl [H2]; · iexact H2
  isplitl [H5]
  · iexists f5
    isplitr
    · ipureintro; rfl
    · iexact H5
  iintro H1 H2 H5
  iapply tail0_wp c 𝒱 g arg5 im bad f3 fast
  isplitl [H3 H5 H6 Hs HW]
  · unfold rowsInv0
    isplitl [H3]; · iexact H3
    isplitl [H5]; · iexact H5
    isplitl [H6]; · iexists _; iexact H6
    isplitl [Hs]; · iexact Hs
    iexists _; iexact HW
  iintro H3 H5 H6 Hs HW
  iapply Hk $$ H1 H2 H3 H4 H5 H6 Hs HW

/-! ## The second launch -/

/-- The second launch's inputs and its scratch row. -/
abbrev xM1 : Memref sig .tc .hbm S64x512x1 .f32 := Memref.whole main_v29
abbrev scM1 : Memref sig .tc .vmem S512x1 .f32 := Memref.whole cc1_scratch0

/-- One trip: the row's inputs fetched into the scratch row, the chunks run over them, the row stored. -/
theorem trip1_wp (c : Dev nD) (𝒱 : Variants) (g : Fin 4) (arg5 : Memref sig .tc .vmem (sRes 1024) .f32) (im : IVec (sRow 1024) 1)
    (k : Fin (upTo 16#32).trips) (f3 : Buf (Elt F) (xM1.view.loc (c : Thread nD τ)))
    (f5 : Buf (Elt F) (arg5.view.loc (c : Thread nD τ))) (f6 : Buf (Elt F) (scM1.view.loc (c : Thread nD τ)))
    (W : Waits sig Unit) (Q : Unit → sProp 𝕄) :
    iprop(pt c xM1 f3 ∗ pt c arg5 f5 ∗ pt c scM1 f6 ∗ semVal ((c : Thread nD τ), SemLoc.dma 15) 0 ∗ owes (c : Thread nD τ) 0 W
        ∗ (∀ f5', ⌜arg5.view.read (Elt F) f5' = VecWindow.put (arg5.view.read (Elt F) f5) ![k.val, 0, 0] (sOut 1024).size
              (denseAt 1024 512 32#32 K1 g im (xM1.view.read (Elt F) f3) k.val)⌝
            -∗ pt c xM1 f3 -∗ pt c arg5 f5' -∗ (∃ f6, pt c scM1 f6) -∗ semVal ((c : Thread nD τ), SemLoc.dma 15) 0
            -∗ (∃ W', owes (c : Thread nD τ) 0 W') -∗ Q ⟨⟩))
      ⊢ wp frame (wpE (defs₀ (F := F)) 𝒱 c none) Set.univ
          (trip 1024 512 32#32 K1 g xM1 arg5 scM1 (Memref.isWhole_whole _) cc1_scratch1 im k ⟨⟩) Q := by
  unfold trip
  iintro ⟨H3, H5, H6, Hs, HW, Hk⟩
  sl_exec
  iapply tripRest_wp 1024 512 32#32 K1 g arg5 scM1 c 𝒱 im k f5 _ Q
  isplitl [H5]; · iexact H5
  isplitl [H6]; · iexact H6
  iintro %f5' %h5' H5 H6
  rw [View.read_write_univ] at h5'
  iapply Hk $$ [] H3 H5 [H6] [Hs] [HW]
  · ipureintro
    refine h5'.trans ?_
    exact congrArg (fun d => VecWindow.put (arg5.view.read (Elt F) f5) ![k.val, 0, 0] (sOut 1024).size (denseV 1024 im
      (runAt 1024 512 32#32 K1 g im d (Scf.iv 0#32 1#32 k) (upTo 32#32).trips))) (read_row 1024 512 32#32 g xM1 k f3)
  · iexists _; iexact H6
  · iexact Hs
  · iexists _; iexact HW

/-- What the dense loop keeps: the rows done so far, the inputs, the scratch row at anything, the transfer's cell at zero. -/
def rowsInv1 (c : Dev nD) (g : Fin 4) (arg5 : Memref sig .tc .vmem (sRes 1024) .f32) (im : IVec (sRow 1024) 1)
    (f3 : Buf (Elt F) (xM1.view.loc (c : Thread nD τ))) (d5 : (sRes 1024).Idx → Elt F .f32) (n : ℕ) (_ : Unit) : sProp 𝕄 :=
  iprop(pt c xM1 f3 ∗ (∃ f5, ⌜arg5.view.read (Elt F) f5 = denseOut 1024 512 32#32 K1 g im (xM1.view.read (Elt F) f3) d5 n⌝ ∗ pt c arg5 f5)
    ∗ (∃ f6, pt c scM1 f6) ∗ semVal ((c : Thread nD τ), SemLoc.dma 15) 0 ∗ (∃ W, owes (c : Thread nD τ) 0 W))

/-- The dense loop. -/
theorem rows1_wp (c : Dev nD) (𝒱 : Variants) (g : Fin 4) (arg5 : Memref sig .tc .vmem (sRes 1024) .f32) (im : IVec (sRow 1024) 1)
    (f3 : Buf (Elt F) (xM1.view.loc (c : Thread nD τ))) (d5 : (sRes 1024).Idx → Elt F .f32) (Q : PUnit → sProp 𝕄) :
    iprop(rowsInv1 c g arg5 im f3 d5 0 ⟨⟩ ∗ (rowsInv1 c g arg5 im f3 d5 (upTo 16#32).trips ⟨⟩ -∗ Q ⟨⟩))
      ⊢ wp frame (wpE (defs₀ (F := F)) 𝒱 c none) Set.univ
          (Scf.Loop.for (upTo 16#32) (BodyFacts.okB 1024 512 32#32) ⟨⟩ (trip 1024 512 32#32 K1 g xM1 arg5 scM1 (Memref.isWhole_whole _) cc1_scratch1 im)) Q := by
  iintro ⟨HI, Hk⟩
  sl_for (rowsInv1 c g arg5 im f3 d5) $$ [HI Hk]
  case region =>
    intro k a; unfold rowsInv1; iintro ⟨H3, ⟨%fa, %ha, H5⟩, ⟨%fs, H6⟩, Hs, ⟨%Wa, HW⟩⟩
    iapply trip1_wp c 𝒱 g arg5 im k f3 fa fs Wa
    isplitl [H3]; · iexact H3
    isplitl [H5]; · iexact H5
    isplitl [H6]; · iexact H6
    isplitl [Hs]; · iexact Hs
    isplitl [HW]; · iexact HW
    iintro %fb %hb' H3 H5 H6 Hs HW
    isplitl [H3]; · iexact H3
    isplitl [H5]
    · iexists fb
      isplitr
      · ipureintro; rw [hb', ha]; rfl
      · iexact H5
    isplitl [H6]; · iexact H6
    isplitl [Hs]; · iexact Hs
    iexact HW
  isplitl [HI]; · iexact HI
  iintro %a HI
  iapply Hk $$ [HI]
  iexact HI

/-- What follows the samples: the dense loop when a row is unsettled. -/
theorem tail1_wp (c : Dev nD) (𝒱 : Variants) (g : Fin 4) (arg5 : Memref sig .tc .vmem (sRes 1024) .f32) (im : IVec (sRow 1024) 1)
    (bad : IVec (sRow 1024) 32)
    (f3 : Buf (Elt F) (xM1.view.loc (c : Thread nD τ))) (d5 : (sRes 1024).Idx → Elt F .f32) (Q : PUnit → sProp 𝕄) :
    iprop(rowsInv1 c g arg5 im f3 d5 0 ⟨⟩
        ∗ (pt c xM1 f3
          -∗ (∃ f5, ⌜arg5.view.read (Elt F) f5 = if anyBad 1024 bad = 1#1 then denseOut 1024 512 32#32 K1 g im (xM1.view.read (Elt F) f3) d5 16 else d5⌝ ∗ pt c arg5 f5)
          -∗ (∃ f6, pt c scM1 f6) -∗ semVal ((c : Thread nD τ), SemLoc.dma 15) 0 -∗ (∃ W, owes (c : Thread nD τ) 0 W) -∗ Q ⟨⟩))
      ⊢ wp frame (wpE (defs₀ (F := F)) 𝒱 c none) Set.univ
          (do
            if anyBad 1024 bad = 1#1 then do
              Scf.Loop.for (upTo 16#32) (BodyFacts.okB 1024 512 32#32) ⟨⟩ (trip 1024 512 32#32 K1 g xM1 arg5 scM1 (Memref.isWhole_whole _) cc1_scratch1 im)
              pure ⟨⟩
            else do
              pure ⟨⟩
            pure ⟨⟩) Q := by
  iintro ⟨HI, Hk⟩
  by_cases hb : anyBad 1024 bad = 1#1
  · rw [if_pos hb, if_pos hb, wp_bind]
    simp only [wp_bind]
    iapply rows1_wp c 𝒱 g arg5 im f3 d5
    isplitl [HI]; · iexact HI
    unfold rowsInv1
    iintro ⟨H3, ⟨%fa, %ha, H5⟩, H6, Hs, HW⟩
    sl_exec
    sl_step
    rw [BodyFacts.tripsB 1024 512 32#32] at ha
    iapply Hk $$ H3 [H5] H6 Hs HW
    iexists fa
    isplitr
    · ipureintro; exact ha
    · iexact H5
  · rw [if_neg hb, if_neg hb]
    unfold rowsInv1
    icases HI with ⟨H3, ⟨%fa, %ha, H5⟩, H6, Hs, HW⟩
    sl_exec
    sl_step
    iapply Hk $$ H3 [H5] H6 Hs HW
    iexists fa
    isplitr
    · ipureintro; exact ha
    · iexact H5

/-- The body: the block ends at `blockOut` of what the operands hold. -/
theorem body1_wp (c : Dev nD) (𝒱 : Variants) (g : Fin 4)
    (arg1 : Memref sig .tc .vmem sIn .i32) (arg2 : Memref sig .tc .vmem sIn .f32) (arg4 : Memref sig .tc .vmem (sRow 1024) .i32)
    (arg5 : Memref sig .tc .vmem (sRes 1024) .f32)
    (f1 : Buf (Elt F) (arg1.view.loc (c : Thread nD τ))) (f2 : Buf (Elt F) (arg2.view.loc (c : Thread nD τ)))
    (f3 : Buf (Elt F) (xM1.view.loc (c : Thread nD τ))) (f4 : Buf (Elt F) (arg4.view.loc (c : Thread nD τ)))
    (f5 : Buf (Elt F) (arg5.view.loc (c : Thread nD τ))) (f6 : Buf (Elt F) (scM1.view.loc (c : Thread nD τ)))
    (W : Waits sig Unit) (Q : PUnit → sProp 𝕄) :
    iprop(pt c arg1 f1 ∗ pt c arg2 f2 ∗ pt c xM1 f3 ∗ pt c arg4 f4 ∗ pt c arg5 f5 ∗ pt c scM1 f6
        ∗ semVal ((c : Thread nD τ), SemLoc.dma 15) 0 ∗ owes (c : Thread nD τ) 0 W
        ∗ (pt c arg1 f1 -∗ pt c arg2 f2 -∗ pt c xM1 f3 -∗ pt c arg4 f4
            -∗ (∃ f5', ⌜arg5.view.read (Elt F) f5' = blockOut 1024 512 32#32 K1 g (arg1.view.read (Elt F) f1) (arg2.view.read (Elt F) f2)
                  (xM1.view.read (Elt F) f3) (arg4.view.read (Elt F) f4) (arg5.view.read (Elt F) f5)⌝ ∗ pt c arg5 f5')
            -∗ (∃ f6, pt c scM1 f6) -∗ semVal ((c : Thread nD τ), SemLoc.dma 15) 0
            -∗ (∃ W', owes (c : Thread nD τ) 0 W') -∗ Q ⟨⟩))
      ⊢ wp frame (wpE (defs₀ (F := F)) 𝒱 c none) Set.univ
          (body 1024 512 32#32 K1 g arg1 arg2 xM1 arg4 arg5 scM1 (Memref.isWhole_whole _) cc1_scratch1) Q := by
  unfold body
  obtain ⟨im, him⟩ : ∃ im, im = minV (F := F) 1024 (arg4.view.read (Elt F) f4) := ⟨_, rfl⟩
  obtain ⟨bad, hbad⟩ : ∃ bad, bad = badAt (F := F) 1024 512 32#32 K1 g (arg1.view.read (Elt F) f1) im 16 := ⟨_, rfl⟩
  obtain ⟨fast, hfast⟩ : ∃ fast, fast = fastOut 1024 512 32#32 K1 g (arg1.view.read (Elt F) f1) (arg2.view.read (Elt F) f2) im (arg5.view.read (Elt F) f5) 16 := ⟨_, rfl⟩
  rw [show blockOut 1024 512 32#32 K1 g (arg1.view.read (Elt F) f1) (arg2.view.read (Elt F) f2) (xM1.view.read (Elt F) f3)
      (arg4.view.read (Elt F) f4) (arg5.view.read (Elt F) f5)
      = if anyBad 1024 bad = 1#1 then denseOut 1024 512 32#32 K1 g im (xM1.view.read (Elt F) f3) fast 16 else fast from by
    unfold blockOut; rw [← him, ← hbad, ← hfast]]
  rw [wp_bind]
  iintro ⟨H1, H2, H3, H4, H5, H6, Hs, HW, Hk⟩
  iapply minLoad_wp arg4 c 𝒱 f4
  isplitl [H4]; · iexact H4
  iintro H4
  rw [← him, wp_bind]
  iapply samples_wp 1024 512 32#32 K1 g arg1 arg2 arg5 c 𝒱 im f1 f2 (arg5.view.read (Elt F) f5) bad hbad fast hfast
  isplitl [H1]; · iexact H1
  isplitl [H2]; · iexact H2
  isplitl [H5]
  · iexists f5
    isplitr
    · ipureintro; rfl
    · iexact H5
  iintro H1 H2 H5
  iapply tail1_wp c 𝒱 g arg5 im bad f3 fast
  isplitl [H3 H5 H6 Hs HW]
  · unfold rowsInv1
    isplitl [H3]; · iexact H3
    isplitl [H5]; · iexact H5
    isplitl [H6]; · iexists _; iexact H6
    isplitl [Hs]; · iexact Hs
    iexists _; iexact HW
  iintro H3 H5 H6 Hs HW
  iapply Hk $$ H1 H2 H3 H4 H5 H6 Hs HW

end Cert.Proof
-- ==== Proof.Rows.lean ====
module

public import proofs.«01_k».proof.Proof.Run

/-!
# The sixteen rows cover the block

A block written row by row holds the rows, whatever it held before.
-/

@[expose] public section
noncomputable section

namespace Cert.Proof

open Idealize.ShloMosaic

variable {F : FTy → Type} [FloatOps F]

/-- The place in a row of a place in the block. -/
def inRow {O : ℕ} (y : (sRes O).Idx) : (sOut O).Idx := fun a => match a with
  | 0 => (⟨0, by decide⟩ : Fin 1)
  | 1 => (⟨0, by decide⟩ : Fin 1)
  | 2 => y 2

theorem put_row {α : Type} {O : ℕ} (x : (sRes O).Idx → α) (n : ℕ) (w : (sOut O).Idx → α) (y : (sRes O).Idx) :
    VecWindow.put x ![n, 0, 0] (sOut O).size w y = if (y 0).val = n then w (inRow y) else x y := by
  have h1 : (y 1).val < 1 := (y 1).isLt
  have h2 : (y 2).val < O := (y 2).isLt
  unfold VecWindow.put
  by_cases h : (y 0).val = n
  · have hh : ∀ a, (![n, 0, 0] : Fin 3 → ℕ) a ≤ (y a).val ∧ (y a).val < (![n, 0, 0] : Fin 3 → ℕ) a + (sOut O).size a := by
      intro a
      match a with
      | 0 => show n ≤ (y 0).val ∧ (y 0).val < n + 1; omega
      | 1 => show 0 ≤ (y 1).val ∧ (y 1).val < 0 + 1; omega
      | 2 => show 0 ≤ (y 2).val ∧ (y 2).val < 0 + O; omega
    rw [dif_pos hh, if_pos h]
    refine congrArg w (funext fun a => Fin.ext ?_)
    match a with
    | 0 => show (y 0).val - n = 0; omega
    | 1 => show (y 1).val - 0 = 0; omega
    | 2 => show (y 2).val - 0 = (y 2).val; omega
  · rw [if_neg h, dif_neg]
    intro hh
    have h0 : n ≤ (y 0).val ∧ (y 0).val < n + 1 := hh 0
    omega

section
variable (O I : ℕ) (C : BitVec 32) [BodyFacts O I C] (K : Keys) (g : Fin 4)
variable (d1 : sIn.Idx → Elt F .i32) (d2 : sIn.Idx → Elt F .f32) (im : IVec (sRow O) 1)

theorem fastOut_row (d5 : (sRes O).Idx → Elt F .f32) (n : ℕ) (y : (sRes O).Idx) :
    fastOut O I C K g d1 d2 im d5 n y = if (y 0).val < n then fastAt O I C K g d1 d2 im (y 0).val (inRow y) else d5 y := by
  induction n with
  | zero => rfl
  | succ n ih =>
    unfold fastOut
    rw [put_row, ih]
    by_cases h : (y 0).val = n
    · rw [if_pos h, if_pos (by omega), h]
    · rw [if_neg h]
      by_cases h' : (y 0).val < n
      · rw [if_pos h', if_pos (by omega)]
      · rw [if_neg h', if_neg (by omega)]

theorem denseOut_row (d3 : (sX I).Idx → Elt F .f32) (d5 : (sRes O).Idx → Elt F .f32) (n : ℕ) (y : (sRes O).Idx) :
    denseOut O I C K g im d3 d5 n y = if (y 0).val < n then denseAt O I C K g im d3 (y 0).val (inRow y) else d5 y := by
  induction n with
  | zero => rfl
  | succ n ih =>
    unfold denseOut
    rw [put_row, ih]
    by_cases h : (y 0).val = n
    · rw [if_pos h, if_pos (by omega), h]
    · rw [if_neg h]
      by_cases h' : (y 0).val < n
      · rw [if_pos h', if_pos (by omega)]
      · rw [if_neg h', if_neg (by omega)]

/-- The block at a place: its row of the dense pass if some row of the block is unsettled, else of the fast path. -/
theorem blockOut_row (d3 : (sX I).Idx → Elt F .f32) (d4 : (sRow O).Idx → Elt F .i32) (d5 : (sRes O).Idx → Elt F .f32)
    (y : (sRes O).Idx) :
    blockOut O I C K g d1 d2 d3 d4 d5 y =
      if anyBad O (badAt (F := F) O I C K g d1 (minV (F := F) O d4) 16) = 1#1 then
        denseAt O I C K g (minV (F := F) O d4) d3 (y 0).val (inRow y)
      else fastAt O I C K g d1 d2 (minV (F := F) O d4) (y 0).val (inRow y) := by
  have h0 : (y 0).val < 16 := (y 0).isLt
  unfold blockOut
  split
  · rw [denseOut_row, if_pos h0]
  · rw [fastOut_row, if_pos h0]

theorem blockOut_old (d3 : (sX I).Idx → Elt F .f32) (d4 : (sRow O).Idx → Elt F .i32) (d5 d5' : (sRes O).Idx → Elt F .f32) :
    blockOut O I C K g d1 d2 d3 d4 d5 = blockOut O I C K g d1 d2 d3 d4 d5' := by
  funext y; rw [blockOut_row, blockOut_row]

end

end Cert.Proof
end
-- ==== Proof.Region0.lean ====
module

public import proofs.«01_k».proof.Proof.Trip
public import proofs.«01_k».proof.Proof.BodyEq
public import proofs.«01_k».proof.Proof.Rows
public import proofs.«01_k».proof.Proof.Gen.KernelIdeal.Launch
public import proofs.«01_k».proof.Proof.Gen.KernelIdeal.Points
public import Idealize.ShloMosaic.Lib.Pipeline.Regions

/-!
# The first launch, from any contents of the buffers

The proof data of one entry, the body obligation, and the segment record.
-/

@[expose] public section
noncomputable section

namespace Cert.Proof.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [∀ e, Nonempty (Elt F e)]

local notation "𝕄" => MT nD τ sig Unit (Elt F) ℕ (Pipeline.UD sig nD τ) ℕ

/-! ## What the kernel holds beside its windows -/

/-- The one semaphore of its own. -/
abbrev osem : Fin 1 → SemLoc sig := fun _ => SemLoc.dma 7
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 7) 0 := by
  rw [Pipeline.ownSems0_eq_of_list c osem [0] (by decide) (by decide)]; rfl

/-- The input rows, read by the kernel's own transfers. -/
def H : Finset (Ref sig .tc) := {main_v13}
theorem H_sub : H ⊆ Pipeline.restRefs sig spec0 := by decide

variable (V : (c : Dev nD) → (b : Ref sig .tc) → Buf (Elt F) ((c : Thread nD τ).loc b))

omit [FloatOps F] in
theorem hbmPts_eq (c : Dev nD) :
    (bigSep H (fun b => ((c : Thread nD τ).loc b) ↦{fullShare} V c b) : sProp 𝕄) = pt c xM0 (V c main_v13) := by
  rw [BI.bigSep_eq_bigSepL_of_eq [main_v13] (by decide) (by decide)]; rfl

/-! ## The proof data -/

/-- The blocks at point `t` of the three staged operands, of the arrays as the launch finds them. -/
abbrev blkI (c : Dev nD) (t : Fin cfg0.N) : sIn.Idx → Elt F .i32 := ((cfg0.win 0).blk t).view.read (Elt F) (V c main_v5)
abbrev blkX (c : Dev nD) (t : Fin cfg0.N) : sIn.Idx → Elt F .f32 := ((cfg0.win 1).blk t).view.read (Elt F) (V c main_v10)
abbrev blkM (c : Dev nD) (t : Fin cfg0.N) : (sRow 512).Idx → Elt F .i32 := ((cfg0.win 2).blk t).view.read (Elt F) (V c main_v12)

/-- The result block of point `t`. -/
def outBlk (c : Dev nD) (t : Fin cfg0.N) : (sRes 512).Idx → Elt F .f32 :=
  blockOut 512 1024 64#32 K0 (grid0.coords t 0) (blkI V c t) (blkX V c t) (V c main_v13) (blkM V c t)
    (fun _ => Scalar.ofBits .f32 0x00000000#32)

def dat (c : Dev nD) : Dat τ (Elt F) Unit ℕ (Pipeline.UD sig nD τ) ℕ cfg0 c where
  A w := V c (Pipeline.arrRef spec0 w)
  after w t := match w with
    | ⟨0, _⟩ => blkI V c t
    | ⟨1, _⟩ => blkX V c t
    | ⟨2, _⟩ => blkM V c t
    | ⟨3, _⟩ => outBlk V c t
  Φ _ := Pipeline.ΦD osem spec0 H V c
  q _ := fullShare
  owed _ := 0

theorem before_0 (c : Dev nD) (t : Fin cfg0.N) (d) : (dat V c).before 0 t d = blkI V c t := by
  rw [Dat.before_in_eq_fetched (dat V c) 0 rfl (fun _ => rfl) (fun _ _ _ => rfl) (fun _ => rfl) t d]; rfl
theorem before_1 (c : Dev nD) (t : Fin cfg0.N) (d) : (dat V c).before 1 t d = blkX V c t := by
  rw [Dat.before_in_eq_fetched (dat V c) 1 rfl (fun _ => rfl) (fun _ _ _ => rfl) (fun _ => rfl) t d]; rfl
theorem before_2 (c : Dev nD) (t : Fin cfg0.N) (d) : (dat V c).before 2 t d = blkM V c t := by
  rw [Dat.before_in_eq_fetched (dat V c) 2 rfl (fun _ => rfl) (fun _ _ _ => rfl) (fun _ => rfl) t d]; rfl

/-! ## The body at a point -/

abbrev ms0 (t : Fin cfg0.N) : Memref sig .tc .vmem sIn .i32 := win0_0.stage (cfg0.slots t 0)
abbrev ms1 (t : Fin cfg0.N) : Memref sig .tc .vmem sIn .f32 := win0_1.stage (cfg0.slots t 1)
abbrev ms2 (t : Fin cfg0.N) : Memref sig .tc .vmem (sRow 512) .i32 := win0_2.stage (cfg0.slots t 2)
abbrev ms3 (t : Fin cfg0.N) : Memref sig .tc .vmem (sRes 512) .f32 := win0_3.stage (cfg0.slots t 3)

/-- Every scoped buffer the pipeline does not stage, but the kernel's scratch: held at something. -/
def others (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
  ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f)
  ∗ (∃ f : Buf (Elt F) ((c : Thread nD τ).loc cc1_stg2_0), ((c : Thread nD τ).loc cc1_stg2_0) ↦{fullShare} f)
  ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)
  ∗ (∃ f : Buf (Elt F) ((c : Thread nD τ).loc cc1_scratch0), ((c : Thread nD τ).loc cc1_scratch0) ↦{fullShare} f))

theorem Phi_eq (c : Dev nD) :
    (Pipeline.ΦD osem spec0 H V c : sProp 𝕄)
      = iprop(iprop((∃ f, pt c scM0 f) ∗ others (F := F) c) ∗ (∃ r, prngReg c r)
          ∗ semVal ((c : Thread nD τ), SemLoc.dma 7) 0 ∗ pt c xM0 (V c main_v13)) := by
  rw [Pipeline.ΦD_eq, scopedRest0_eq, ownSems_eq, hbmPts_eq]; rfl

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

/-- The body from operands owned at blocks: the result owned at the block it computes. -/
theorem run (c : Dev nD) (g : Fin 4) (arg1 : Memref sig .tc .vmem sIn .i32) (arg2 : Memref sig .tc .vmem sIn .f32)
    (arg4 : Memref sig .tc .vmem (sRow 512) .i32) (arg5 : Memref sig .tc .vmem (sRes 512) .f32)
    (w1 : arg1.IsWhole) (w2 : arg2.IsWhole) (w4 : arg4.IsWhole) (w5 : arg5.IsWhole)
    (x1 : sIn.Idx → Elt F .i32) (x2 : sIn.Idx → Elt F .f32) (f3 : Buf (Elt F) (xM0.view.loc (c : Thread nD τ)))
    (x4 : (sRow 512).Idx → Elt F .i32) (x5 : (sRes 512).Idx → Elt F .f32) (x : (sRes 512).Idx → Elt F .f32)
    (hx : blockOut 512 1024 64#32 K0 g x1 x2 (xM0.view.read (Elt F) f3) x4 (fun _ => Scalar.ofBits .f32 0x00000000#32) = x)
    (W : Waits sig Unit) (Q : PUnit → sProp 𝕄) :
    iprop(owns (c : Thread nD τ) arg1 fullShare x1 ∗ owns (c : Thread nD τ) arg2 fullShare x2 ∗ pt c xM0 f3
        ∗ owns (c : Thread nD τ) arg4 fullShare x4 ∗ owns (c : Thread nD τ) arg5 fullShare x5 ∗ (∃ f6, pt c scM0 f6)
        ∗ semVal ((c : Thread nD τ), SemLoc.dma 7) 0 ∗ owes (c : Thread nD τ) 0 W
        ∗ (owns (c : Thread nD τ) arg1 fullShare x1 -∗ owns (c : Thread nD τ) arg2 fullShare x2 -∗ pt c xM0 f3
            -∗ owns (c : Thread nD τ) arg4 fullShare x4 -∗ owns (c : Thread nD τ) arg5 fullShare x -∗ (∃ f6, pt c scM0 f6)
            -∗ semVal ((c : Thread nD τ), SemLoc.dma 7) 0 -∗ (∃ W', owes (c : Thread nD τ) 0 W') -∗ Q ⟨⟩))
      ⊢ wp frame (wpE (defs₀ (F := F)) Variants.none c none) Set.univ
          (body 512 1024 64#32 K0 g arg1 arg2 xM0 arg4 arg5 scM0 (Memref.isWhole_whole _) cc0_scratch1) Q := by
  unfold owns
  rw [w1.set_eq_univ, w2.set_eq_univ, w4.set_eq_univ, w5.set_eq_univ]
  iintro ⟨⟨%f1, %h1, H1⟩, ⟨%f2, %h2, H2⟩, Hx, ⟨%f4, %h4, H4⟩, ⟨%f5, -, H5⟩, ⟨%f6, HS⟩, Hq, HO, Hk⟩
  iapply (body0_wp c Variants.none g arg1 arg2 arg4 arg5 f1 f2 f3 f4 f5 f6 W Q)
  isplitl [H1]; · iexact H1
  isplitl [H2]; · iexact H2
  isplitl [Hx]; · iexact Hx
  isplitl [H4]; · iexact H4
  isplitl [H5]; · iexact H5
  isplitl [HS]; · iexact HS
  isplitl [Hq]; · iexact Hq
  isplitl [HO]; · iexact HO
  iintro H1 H2 Hx H4 ⟨%f5', %h5, H5⟩ HS Hq HO
  iapply Hk $$ [H1] [H2] [Hx] [H4] [H5] [HS] [Hq] [HO]
  · iexists _; isplitr; swap; (· iexact H1); ipureintro; exact h1
  · iexists _; isplitr; swap; (· iexact H2); ipureintro; exact h2
  · iexact Hx
  · iexists _; isplitr; swap; (· iexact H4); ipureintro; exact h4
  · iexists _; isplitr; swap; (· iexact H5); ipureintro
    rw [h5, h1, h2, h4, ← hx]
    exact blockOut_old 512 1024 64#32 K0 g _ _ _ _ _ _
  · iexact HS
  · iexact Hq
  · iexact HO

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost
  rw [show (dat V c).Φ t.succ = (dat V c).Φ t.castSucc from rfl,
    show (dat V c).owesAt () t.succ = (dat V c).owesAt () t.castSucc from rfl,
    show (dat V c).Φ t.castSucc = Pipeline.ΦD osem spec0 H V c from rfl, Phi_eq]
  unfold Dat.owesAt Pipeline.owesWithin
  rw [show (dat V c).owed t.castSucc = 0 from rfl]
  simp only [before_0, before_1, before_2]
  unfold bodyAt0
  rw [body0_eq]
  iintro ⟨⟨⟨HS, Hr⟩, Hg, Hq, Hx⟩, ⟨%W, %hW, HO⟩, ⟨%d0, H1⟩, ⟨%d1, H2⟩, ⟨%d2, H4⟩, ⟨%d3, H5⟩⟩
  iapply (run c (grid0.coords t 0) (ms0 t) (ms1 t) (ms2 t) (ms3 t) (hstage0_0 _) (hstage0_1 _) (hstage0_2 _) (hstage0_3 _)
    (blkI V c t) (blkX V c t) (V c main_v13) (blkM V c t) _ (outBlk V c t) rfl W _)
  isplitl [H1]; · iexact H1
  isplitl [H2]; · iexact H2
  isplitl [Hx]; · iexact Hx
  isplitl [H4]; · iexact H4
  isplitl [H5]; · iexact H5
  isplitl [HS]; · iexact HS
  isplitl [Hq]; · iexact Hq
  isplitl [HO]; · iexact HO
  iintro H1 H2 Hx H4 H5 HS Hq ⟨%W', HO⟩
  isplitl [HS Hr Hg Hq Hx]
  · isplitl [HS Hr]
    · isplitl [HS]; · iexact HS
      iexact Hr
    isplitl [Hg]; · iexact Hg
    isplitl [Hq]; · iexact Hq
    iexact Hx
  isplitl [HO]
  · iexists W'; isplitr; · ipureintro; exact fun _ _ => Or.inl trivial
    iexact HO
  isplitl [H1]; · iexact H1
  isplitl [H2]; · iexact H2
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Proof.L0
end
-- ==== Proof.Region1.lean ====
module

public import proofs.«01_k».proof.Proof.Trip
public import proofs.«01_k».proof.Proof.BodyEq
public import proofs.«01_k».proof.Proof.Rows
public import proofs.«01_k».proof.Proof.Gen.KernelIdeal.Launch
public import proofs.«01_k».proof.Proof.Gen.KernelIdeal.Points
public import Idealize.ShloMosaic.Lib.Pipeline.Regions

/-!
# The second launch, from any contents of the buffers

The proof data of one entry, the body obligation, and the segment record.
-/

@[expose] public section
noncomputable section

namespace Cert.Proof.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [∀ e, Nonempty (Elt F e)]

local notation "𝕄" => MT nD τ sig Unit (Elt F) ℕ (Pipeline.UD sig nD τ) ℕ

/-! ## What the kernel holds beside its windows -/

/-- The one semaphore of its own. -/
abbrev osem : Fin 1 → SemLoc sig := fun _ => SemLoc.dma 15
theorem ownSemFacts : Pipeline.OwnSemFacts spec1 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 15) 0 := by
  rw [Pipeline.ownSems0_eq_of_list c osem [0] (by decide) (by decide)]; rfl

/-- The input rows, read by the kernel's own transfers. -/
def H : Finset (Ref sig .tc) := {main_v29}
theorem H_sub : H ⊆ Pipeline.restRefs sig spec1 := by decide

variable (V : (c : Dev nD) → (b : Ref sig .tc) → Buf (Elt F) ((c : Thread nD τ).loc b))

omit [FloatOps F] in
theorem hbmPts_eq (c : Dev nD) :
    (bigSep H (fun b => ((c : Thread nD τ).loc b) ↦{fullShare} V c b) : sProp 𝕄) = pt c xM1 (V c main_v29) := by
  rw [BI.bigSep_eq_bigSepL_of_eq [main_v29] (by decide) (by decide)]; rfl

/-! ## The proof data -/

/-- The blocks at point `t` of the three staged operands, of the arrays as the launch finds them. -/
abbrev blkI (c : Dev nD) (t : Fin cfg1.N) : sIn.Idx → Elt F .i32 := ((cfg1.win 0).blk t).view.read (Elt F) (V c main_v21)
abbrev blkX (c : Dev nD) (t : Fin cfg1.N) : sIn.Idx → Elt F .f32 := ((cfg1.win 1).blk t).view.read (Elt F) (V c main_v26)
abbrev blkM (c : Dev nD) (t : Fin cfg1.N) : (sRow 1024).Idx → Elt F .i32 := ((cfg1.win 2).blk t).view.read (Elt F) (V c main_v28)

/-- The result block of point `t`. -/
def outBlk (c : Dev nD) (t : Fin cfg1.N) : (sRes 1024).Idx → Elt F .f32 :=
  blockOut 1024 512 32#32 K1 (grid1.coords t 0) (blkI V c t) (blkX V c t) (V c main_v29) (blkM V c t)
    (fun _ => Scalar.ofBits .f32 0x00000000#32)

def dat (c : Dev nD) : Dat τ (Elt F) Unit ℕ (Pipeline.UD sig nD τ) ℕ cfg1 c where
  A w := V c (Pipeline.arrRef spec1 w)
  after w t := match w with
    | ⟨0, _⟩ => blkI V c t
    | ⟨1, _⟩ => blkX V c t
    | ⟨2, _⟩ => blkM V c t
    | ⟨3, _⟩ => outBlk V c t
  Φ _ := Pipeline.ΦD osem spec1 H V c
  q _ := fullShare
  owed _ := 0

theorem before_0 (c : Dev nD) (t : Fin cfg1.N) (d) : (dat V c).before 0 t d = blkI V c t := by
  rw [Dat.before_in_eq_fetched (dat V c) 0 rfl (fun _ => rfl) (fun _ _ _ => rfl) (fun _ => rfl) t d]; rfl
theorem before_1 (c : Dev nD) (t : Fin cfg1.N) (d) : (dat V c).before 1 t d = blkX V c t := by
  rw [Dat.before_in_eq_fetched (dat V c) 1 rfl (fun _ => rfl) (fun _ _ _ => rfl) (fun _ => rfl) t d]; rfl
theorem before_2 (c : Dev nD) (t : Fin cfg1.N) (d) : (dat V c).before 2 t d = blkM V c t := by
  rw [Dat.before_in_eq_fetched (dat V c) 2 rfl (fun _ => rfl) (fun _ _ _ => rfl) (fun _ => rfl) t d]; rfl

/-! ## The body at a point -/

abbrev ms0 (t : Fin cfg1.N) : Memref sig .tc .vmem sIn .i32 := win1_0.stage (cfg1.slots t 0)
abbrev ms1 (t : Fin cfg1.N) : Memref sig .tc .vmem sIn .f32 := win1_1.stage (cfg1.slots t 1)
abbrev ms2 (t : Fin cfg1.N) : Memref sig .tc .vmem (sRow 1024) .i32 := win1_2.stage (cfg1.slots t 2)
abbrev ms3 (t : Fin cfg1.N) : Memref sig .tc .vmem (sRes 1024) .f32 := win1_3.stage (cfg1.slots t 3)

/-- Every scoped buffer the pipeline does not stage, but the kernel's scratch: held at something. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
  ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
  ∗ (∃ f : Buf (Elt F) ((c : Thread nD τ).loc cc0_stg2_0), ((c : Thread nD τ).loc cc0_stg2_0) ↦{fullShare} f)
  ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
  ∗ (∃ f : Buf (Elt F) ((c : Thread nD τ).loc cc0_scratch0), ((c : Thread nD τ).loc cc0_scratch0) ↦{fullShare} f))

theorem Phi_eq (c : Dev nD) :
    (Pipeline.ΦD osem spec1 H V c : sProp 𝕄)
      = iprop(iprop((∃ f, pt c scM1 f) ∗ others (F := F) c) ∗ (∃ r, prngReg c r)
          ∗ semVal ((c : Thread nD τ), SemLoc.dma 15) 0 ∗ pt c xM1 (V c main_v29)) := by
  rw [Pipeline.ΦD_eq, Pipeline.scopedRest_eq_of_list spec1 c [cc1_scratch0, cc0_stg0_0, cc0_stg0_1, cc0_stg1_0, cc0_stg1_1, cc0_stg2_0, cc0_stg3_0, cc0_stg3_1, cc0_scratch0] (by decide) (by decide),
     ownSems_eq, hbmPts_eq]; rfl

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

/-- The body from operands owned at blocks: the result owned at the block it computes. -/
theorem run (c : Dev nD) (g : Fin 4) (arg1 : Memref sig .tc .vmem sIn .i32) (arg2 : Memref sig .tc .vmem sIn .f32)
    (arg4 : Memref sig .tc .vmem (sRow 1024) .i32) (arg5 : Memref sig .tc .vmem (sRes 1024) .f32)
    (w1 : arg1.IsWhole) (w2 : arg2.IsWhole) (w4 : arg4.IsWhole) (w5 : arg5.IsWhole)
    (x1 : sIn.Idx → Elt F .i32) (x2 : sIn.Idx → Elt F .f32) (f3 : Buf (Elt F) (xM1.view.loc (c : Thread nD τ)))
    (x4 : (sRow 1024).Idx → Elt F .i32) (x5 : (sRes 1024).Idx → Elt F .f32) (x : (sRes 1024).Idx → Elt F .f32)
    (hx : blockOut 1024 512 32#32 K1 g x1 x2 (xM1.view.read (Elt F) f3) x4 (fun _ => Scalar.ofBits .f32 0x00000000#32) = x)
    (W : Waits sig Unit) (Q : PUnit → sProp 𝕄) :
    iprop(owns (c : Thread nD τ) arg1 fullShare x1 ∗ owns (c : Thread nD τ) arg2 fullShare x2 ∗ pt c xM1 f3
        ∗ owns (c : Thread nD τ) arg4 fullShare x4 ∗ owns (c : Thread nD τ) arg5 fullShare x5 ∗ (∃ f6, pt c scM1 f6)
        ∗ semVal ((c : Thread nD τ), SemLoc.dma 15) 0 ∗ owes (c : Thread nD τ) 0 W
        ∗ (owns (c : Thread nD τ) arg1 fullShare x1 -∗ owns (c : Thread nD τ) arg2 fullShare x2 -∗ pt c xM1 f3
            -∗ owns (c : Thread nD τ) arg4 fullShare x4 -∗ owns (c : Thread nD τ) arg5 fullShare x -∗ (∃ f6, pt c scM1 f6)
            -∗ semVal ((c : Thread nD τ), SemLoc.dma 15) 0 -∗ (∃ W', owes (c : Thread nD τ) 0 W') -∗ Q ⟨⟩))
      ⊢ wp frame (wpE (defs₀ (F := F)) Variants.none c none) Set.univ
          (body 1024 512 32#32 K1 g arg1 arg2 xM1 arg4 arg5 scM1 (Memref.isWhole_whole _) cc1_scratch1) Q := by
  unfold owns
  rw [w1.set_eq_univ, w2.set_eq_univ, w4.set_eq_univ, w5.set_eq_univ]
  iintro ⟨⟨%f1, %h1, H1⟩, ⟨%f2, %h2, H2⟩, Hx, ⟨%f4, %h4, H4⟩, ⟨%f5, -, H5⟩, ⟨%f6, HS⟩, Hq, HO, Hk⟩
  iapply (body1_wp c Variants.none g arg1 arg2 arg4 arg5 f1 f2 f3 f4 f5 f6 W Q)
  isplitl [H1]; · iexact H1
  isplitl [H2]; · iexact H2
  isplitl [Hx]; · iexact Hx
  isplitl [H4]; · iexact H4
  isplitl [H5]; · iexact H5
  isplitl [HS]; · iexact HS
  isplitl [Hq]; · iexact Hq
  isplitl [HO]; · iexact HO
  iintro H1 H2 Hx H4 ⟨%f5', %h5, H5⟩ HS Hq HO
  iapply Hk $$ [H1] [H2] [Hx] [H4] [H5] [HS] [Hq] [HO]
  · iexists _; isplitr; swap; (· iexact H1); ipureintro; exact h1
  · iexists _; isplitr; swap; (· iexact H2); ipureintro; exact h2
  · iexact Hx
  · iexists _; isplitr; swap; (· iexact H4); ipureintro; exact h4
  · iexists _; isplitr; swap; (· iexact H5); ipureintro
    rw [h5, h1, h2, h4, ← hx]
    exact blockOut_old 1024 512 32#32 K1 g _ _ _ _ _ _
  · iexact HS
  · iexact Hq
  · iexact HO

set_option maxHeartbeats 1000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost
  rw [show (dat V c).Φ t.succ = (dat V c).Φ t.castSucc from rfl,
    show (dat V c).owesAt () t.succ = (dat V c).owesAt () t.castSucc from rfl,
    show (dat V c).Φ t.castSucc = Pipeline.ΦD osem spec1 H V c from rfl, Phi_eq]
  unfold Dat.owesAt Pipeline.owesWithin
  rw [show (dat V c).owed t.castSucc = 0 from rfl]
  simp only [before_0, before_1, before_2]
  unfold bodyAt1
  rw [body1_eq]
  iintro ⟨⟨⟨HS, Hr⟩, Hg, Hq, Hx⟩, ⟨%W, %hW, HO⟩, ⟨%d0, H1⟩, ⟨%d1, H2⟩, ⟨%d2, H4⟩, ⟨%d3, H5⟩⟩
  iapply (run c (grid1.coords t 0) (ms0 t) (ms1 t) (ms2 t) (ms3 t) (hstage1_0 _) (hstage1_1 _) (hstage1_2 _) (hstage1_3 _)
    (blkI V c t) (blkX V c t) (V c main_v29) (blkM V c t) _ (outBlk V c t) rfl W _)
  isplitl [H1]; · iexact H1
  isplitl [H2]; · iexact H2
  isplitl [Hx]; · iexact Hx
  isplitl [H4]; · iexact H4
  isplitl [H5]; · iexact H5
  isplitl [HS]; · iexact HS
  isplitl [Hq]; · iexact Hq
  isplitl [HO]; · iexact HO
  iintro H1 H2 Hx H4 H5 HS Hq ⟨%W', HO⟩
  isplitl [HS Hr Hg Hq Hx]
  · isplitl [HS Hr]
    · isplitl [HS]; · iexact HS
      iexact Hr
    isplitl [Hg]; · iexact Hg
    isplitl [Hq]; · iexact Hq
    iexact Hx
  isplitl [HO]
  · iexists W'; isplitr; · ipureintro; exact fun _ _ => Or.inl trivial
    iexact HO
  isplitl [H1]; · iexact H1
  isplitl [H2]; · iexact H2
  isplitl [H4]; · iexact H4
  iexact H5

theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Proof.L1
end
-- ==== Proof.Launch.lean ====
module

public import proofs.«01_k».proof.Proof.Region0
public import proofs.«01_k».proof.Proof.Region1
public import proofs.«01_k».proof.Proof.Gen.KernelIdeal.Regions
public import Idealize.ShloMosaic.Lib.Pipeline.RegionsLoop

/-!
# The two launches, one after the other

The segment record of each launch, what the launches leave, and the whole program's run.
-/

@[expose] public section
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [∀ e, Nonempty (Elt F e)]

local notation "𝕄" => MT nD τ sig Unit (Elt F) ℕ (Pipeline.UD sig nD τ) ℕ

/-- The contents of a core's buffers, by name. -/
abbrev Bufs : Type := (c : Dev nD) → (b : Ref sig .tc) → Buf (Elt F) ((c : Thread nD τ).loc b)

/-- No core owes another anything. -/
abbrev Lno : GSem nD τ sig → Finset Unit := fun _ => ∅
abbrev lvno : GSem nD τ sig → Unit → ℕ := fun _ _ => 0

variable (Va Vb : Bufs (F := F))

/-- The proof data of both launches, the first entered at `Va` and the second at `Vb`. -/
def pdats : (p : Fin 2) → (c : Dev nD) → Dat τ (Elt F) Unit ℕ (Pipeline.UD sig nD τ) ℕ (cfgs p) c
  | ⟨0, _⟩ => fun c => L0.dat Va c
  | ⟨1, _⟩ => fun c => L1.dat Vb c

/-- What a thread holds beside its unscoped buffers. -/
abbrev side (c : Dev nD) : sProp 𝕄 :=
  iprop((∃ r, prngReg c r) ∗ ∃ W, owes (c : Thread nD τ) (0 : CellTallies nD τ sig Unit) W)

omit [FloatOps F] in
theorem rest_split0 (c : Dev nD) :
    ((Pipeline.unscopedRest (Ix := Unit) (Name := ℕ) (U := Pipeline.UD sig nD τ) (Lvl := ℕ) spec0 c (Va c) : sProp 𝕄)
      ⊢ iprop((bigSep L0.H fun b => ((c : Thread nD τ).loc b) ↦{fullShare} Va c b)
          ∗ bigSep (Pipeline.restRefs sig spec0 \ L0.H) fun b => ((c : Thread nD τ).loc b) ↦{fullShare} Va c b))
    ∧ (iprop((bigSep L0.H fun b => ((c : Thread nD τ).loc b) ↦{fullShare} Va c b)
          ∗ bigSep (Pipeline.restRefs sig spec0 \ L0.H) fun b => ((c : Thread nD τ).loc b) ↦{fullShare} Va c b)
      ⊢ (Pipeline.unscopedRest (Ix := Unit) (Name := ℕ) (U := Pipeline.UD sig nD τ) (Lvl := ℕ) spec0 c (Va c) : sProp 𝕄)) := by
  rw [Pipeline.unscopedRest_sdiff spec0 L0.H L0.H_sub c (Va c)]; exact ⟨.rfl, .rfl⟩

omit [FloatOps F] in
theorem rest_split1 (c : Dev nD) :
    ((Pipeline.unscopedRest (Ix := Unit) (Name := ℕ) (U := Pipeline.UD sig nD τ) (Lvl := ℕ) spec1 c (Vb c) : sProp 𝕄)
      ⊢ iprop((bigSep L1.H fun b => ((c : Thread nD τ).loc b) ↦{fullShare} Vb c b)
          ∗ bigSep (Pipeline.restRefs sig spec1 \ L1.H) fun b => ((c : Thread nD τ).loc b) ↦{fullShare} Vb c b))
    ∧ (iprop((bigSep L1.H fun b => ((c : Thread nD τ).loc b) ↦{fullShare} Vb c b)
          ∗ bigSep (Pipeline.restRefs sig spec1 \ L1.H) fun b => ((c : Thread nD τ).loc b) ↦{fullShare} Vb c b)
      ⊢ (Pipeline.unscopedRest (Ix := Unit) (Name := ℕ) (U := Pipeline.UD sig nD τ) (Lvl := ℕ) spec1 c (Vb c) : sProp 𝕄)) := by
  rw [Pipeline.unscopedRest_sdiff spec1 L1.H L1.H_sub c (Vb c)]; exact ⟨.rfl, .rfl⟩

variable (Vp : Bufs (F := F))

set_option backward.isDefEq.respectTransparency.types false in
/-- The first launch, from the unscoped buffers at `Va` to the same at `Vp`. -/
def reg0 (hout : ∀ c, Vp c main_v14 = (L0.dat Va c).arrAt 3 cfg0.N)
    (hne : ∀ c (b : Ref sig .tc), b ≠ main_v14 → Vp c b = Va c b) :
    RegionSeg (pcfgs (F := F)) adm (pdats Va Vb) () defs₀ Variants.none Lno lvno 0 where
  win := launch0.win.to₀
  block_pos := launch0.block_pos
  stage_whole := launch0.stage_whole
  K := Fin 1
  osem := L0.osem
  ho := L0.ownSemFacts
  hbody c := (L0.body_obligation Va c).loose
  hwaits := Pipeline.hwaits_of_owed_zero _ _ _ _ Lno lvno 0 fun _ _ => rfl
  pre c := iprop(unscopedBufs c (Va c) ∗ side (F := F) c)
  post c := iprop(unscopedBufs c (Vp c) ∗ side (F := F) c)
  X c := iprop((∃ r, prngReg c r) ∗ Pipeline.ownSems0 (Ix := Unit) (Name := ℕ) (U := Pipeline.UD sig nD τ) (Lvl := ℕ) (Val := Elt F) (τ := τ) L0.osem c
    ∗ bigSep L0.H (fun b => ((c : Thread nD τ).loc b) ↦{fullShare} Va c b))
  Y c := iprop((∃ r, prngReg c r)
    ∗ bigSep L0.H (fun b => ((c : Thread nD τ).loc b) ↦{fullShare} Va c b))
  Z c := iprop(bigSep (Pipeline.restRefs sig spec0 \ L0.H) (fun b => ((c : Thread nD τ).loc b) ↦{fullShare} Va c b))
  hentry c := by
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, Hg, HO⟩, Hs, -⟩
    ihave H := hsplit $$ Hub
    icases H with ⟨Ha, Hrest⟩
    ihave H := (rest_split0 Va c).1 $$ Hrest
    icases H with ⟨HH, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Hrest]
    · isplitl [Hg]; · iexact Hg
      isplitl [Hs]; · iexact Hs
      iexact HH
    iexact Hrest
  hin c := by
    rw [show (pdats Va Vb 0 c).Φ 0 = Pipeline.ΦD L0.osem spec0 L0.H Va c from rfl, Pipeline.ΦD_eq]
    iintro ⟨⟨Hg, Hs, HH⟩, -, Hr⟩
    isplitl [Hr]; · iexact Hr
    isplitl [Hg]; · iexact Hg
    isplitl [Hs]; · iexact Hs
    iexact HH
  hout c := by
    rw [show (pdats Va Vb 0 c).Φ (Fin.last _) = Pipeline.ΦD L0.osem spec0 L0.H Va c from rfl, Pipeline.ΦD_eq]
    iintro ⟨Hr, Hg, Hs, HH⟩
    isplitl [Hg HH]
    · isplitl [Hg]; · iexact Hg
      iexact HH
    isplitl [Hs]; · iexact Hs
    iexact Hr
  hexit c := by
    have hjoin := Pipeline.unscopedBufs_of_arrays (p := 0) (pcfgs (F := F)) adm (Ix := Unit) (Name := ℕ) (U := Pipeline.UD sig nD τ) (Lvl := ℕ) launch0.win launch0.arr_whole c
      (pdats Va Vb) ((pdats Va Vb 0 c).share_full fun _ => rfl) (Va c) (Vp c) ((pdats Va Vb 0 c).arrAt · cfg0.N)
      (fun w => by
        fin_cases w
        · exact ((pdats Va Vb 0 c).arrAt_in 0 rfl _).trans (hne c main_v5 (by decide)).symm
        · exact ((pdats Va Vb 0 c).arrAt_in 1 rfl _).trans (hne c main_v10 (by decide)).symm
        · exact ((pdats Va Vb 0 c).arrAt_in 2 rfl _).trans (hne c main_v12 (by decide)).symm
        · exact (hout c).symm)
      (fun b hb => hne c b fun h => hb (h ▸ Finset.mem_image.mpr ⟨3, Finset.mem_univ _, rfl⟩))
    iintro ⟨Ha, HO, ⟨Hg, HH⟩, Hrest⟩
    imodintro
    isplitl [Ha HH Hrest]
    · iapply hjoin; isplitl [Ha]; · iexact Ha
      iapply (rest_split0 Va c).2
      isplitl [HH]; · iexact HH
      iexact Hrest
    isplitl [Hg]; · iexact Hg
    unfold Pipeline.Dat.owesAt Pipeline.owesWithin
    icases HO with ⟨%W, -, HO⟩; iexists W; iexact HO

set_option backward.isDefEq.respectTransparency.types false in
/-- The second launch, from the unscoped buffers at `Vb` to the same at `Vp`. -/
def reg1 (hout : ∀ c, Vp c main_v30 = (L1.dat Vb c).arrAt 3 cfg1.N)
    (hne : ∀ c (b : Ref sig .tc), b ≠ main_v30 → Vp c b = Vb c b) :
    RegionSeg (pcfgs (F := F)) adm (pdats Va Vb) () defs₀ Variants.none Lno lvno 1 where
  win := launch1.win.to₀
  block_pos := launch1.block_pos
  stage_whole := launch1.stage_whole
  K := Fin 1
  osem := L1.osem
  ho := L1.ownSemFacts
  hbody c := (L1.body_obligation Vb c).loose
  hwaits := Pipeline.hwaits_of_owed_zero _ _ _ _ Lno lvno 1 fun _ _ => rfl
  pre c := iprop(unscopedBufs c (Vb c) ∗ side (F := F) c)
  post c := iprop(unscopedBufs c (Vp c) ∗ side (F := F) c)
  X c := iprop((∃ r, prngReg c r) ∗ Pipeline.ownSems0 (Ix := Unit) (Name := ℕ) (U := Pipeline.UD sig nD τ) (Lvl := ℕ) (Val := Elt F) (τ := τ) L1.osem c
    ∗ bigSep L1.H (fun b => ((c : Thread nD τ).loc b) ↦{fullShare} Vb c b))
  Y c := iprop((∃ r, prngReg c r)
    ∗ bigSep L1.H (fun b => ((c : Thread nD τ).loc b) ↦{fullShare} Vb c b))
  Z c := iprop(bigSep (Pipeline.restRefs sig spec1 \ L1.H) (fun b => ((c : Thread nD τ).loc b) ↦{fullShare} Vb c b))
  hentry c := by
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, Hg, HO⟩, Hs, -⟩
    ihave H := hsplit $$ Hub
    icases H with ⟨Ha, Hrest⟩
    ihave H := (rest_split1 Vb c).1 $$ Hrest
    icases H with ⟨HH, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Hrest]
    · isplitl [Hg]; · iexact Hg
      isplitl [Hs]; · iexact Hs
      iexact HH
    iexact Hrest
  hin c := by
    rw [show (pdats Va Vb 1 c).Φ 0 = Pipeline.ΦD L1.osem spec1 L1.H Vb c from rfl, Pipeline.ΦD_eq]
    iintro ⟨⟨Hg, Hs, HH⟩, -, Hr⟩
    isplitl [Hr]; · iexact Hr
    isplitl [Hg]; · iexact Hg
    isplitl [Hs]; · iexact Hs
    iexact HH
  hout c := by
    rw [show (pdats Va Vb 1 c).Φ (Fin.last _) = Pipeline.ΦD L1.osem spec1 L1.H Vb c from rfl, Pipeline.ΦD_eq]
    iintro ⟨Hr, Hg, Hs, HH⟩
    isplitl [Hg HH]
    · isplitl [Hg]; · iexact Hg
      iexact HH
    isplitl [Hs]; · iexact Hs
    iexact Hr
  hexit c := by
    have hjoin := Pipeline.unscopedBufs_of_arrays (p := 1) (pcfgs (F := F)) adm (Ix := Unit) (Name := ℕ) (U := Pipeline.UD sig nD τ) (Lvl := ℕ) launch1.win launch1.arr_whole c
      (pdats Va Vb) ((pdats Va Vb 1 c).share_full fun _ => rfl) (Vb c) (Vp c) ((pdats Va Vb 1 c).arrAt · cfg1.N)
      (fun w => by
        fin_cases w
        · exact ((pdats Va Vb 1 c).arrAt_in 0 rfl _).trans (hne c main_v21 (by decide)).symm
        · exact ((pdats Va Vb 1 c).arrAt_in 1 rfl _).trans (hne c main_v26 (by decide)).symm
        · exact ((pdats Va Vb 1 c).arrAt_in 2 rfl _).trans (hne c main_v28 (by decide)).symm
        · exact (hout c).symm)
      (fun b hb => hne c b fun h => hb (h ▸ Finset.mem_image.mpr ⟨3, Finset.mem_univ _, rfl⟩))
    iintro ⟨Ha, HO, ⟨Hg, HH⟩, Hrest⟩
    imodintro
    isplitl [Ha HH Hrest]
    · iapply hjoin; isplitl [Ha]; · iexact Ha
      iapply (rest_split1 Vb c).2
      isplitl [HH]; · iexact HH
      iexact Hrest
    isplitl [Hg]; · iexact Hg
    unfold Pipeline.Dat.owesAt Pipeline.owesWithin
    icases HO with ⟨%W, -, HO⟩; iexists W; iexact HO

/-! ## What the launches leave -/

variable (m : (ℓ : Loc nD τ sig) → Buf (Elt F) ℓ)

/-- The buffers as the first launch finds them. -/
abbrev at1 : Bufs (F := F) := fun c b => V1 m c b
/-- The buffers after the first launch. -/
def leave1 (c : Dev nD) : Valuation τ sig (Elt F) := Function.update (V1 m c) main_v14 ((L0.dat (at1 m) c).arrAt 3 cfg0.N)
def outs1 : Outs (F := F) := fun _ r c => leave1 m c r
/-- The buffers as the second launch finds them. -/
abbrev at3 : Bufs (F := F) := fun c b => V3 m (outs1 m) c b
/-- The buffers after the second launch. -/
def leave3 (c : Dev nD) : Valuation τ sig (Elt F) := Function.update (V3 m (outs1 m) c) main_v30 ((L1.dat (at3 m) c).arrAt 3 cfg1.N)
def outs : Outs (F := F) := fun J r c => match J with
  | 2 => leave1 m c r
  | _ => leave3 m c r

theorem V2_eq (c : Dev nD) : V2 m (outs m) c = leave1 m c := by
  have h : leave1 m c main_v14 = (L0.dat (at1 m) c).arrAt 3 cfg0.N := Function.update_self _ _ _
  show Function.update (Function.update (V1 m c) main_v14 (leave1 m c main_v14)) main_v13 (leave1 m c main_v13) = leave1 m c
  rw [h]
  exact Function.update_eq_self _ _
theorem V4_eq (c : Dev nD) : V4 m (outs m) c = leave3 m c := by
  have h : leave3 m c main_v30 = (L1.dat (at3 m) c).arrAt 3 cfg1.N := Function.update_self _ _ _
  show Function.update (Function.update (V3 m (outs1 m) c) main_v30 (leave3 m c main_v30)) main_v29 (leave3 m c main_v29) = leave3 m c
  rw [h]
  exact Function.update_eq_self _ _

theorem leave1_out (c : Dev nD) : leave1 m c main_v14 = (L0.dat (at1 m) c).arrAt 3 cfg0.N := Function.update_self _ _ _
theorem leave3_out (c : Dev nD) : leave3 m c main_v30 = (L1.dat (at3 m) c).arrAt 3 cfg1.N := Function.update_self _ _ _
theorem leave1_ne (c : Dev nD) (b : Ref sig .tc) (h : b ≠ main_v14) : leave1 m c b = V1 m c b :=
  Function.update_of_ne (StableHlo.devRef_ne_of_ne h) _ _
theorem leave3_ne (c : Dev nD) (b : Ref sig .tc) (h : b ≠ main_v30) : leave3 m c b = V3 m (outs1 m) c b :=
  Function.update_of_ne (StableHlo.devRef_ne_of_ne h) _ _

end Cert.Proof
end
-- ==== Proof.Whole.lean ====
module

public import proofs.«01_k».proof.Proof.Launch

/-!
# The whole program's run

Every execution ends, with the arguments as launched, the semaphores at zero, and the result at what the
last host stretch makes of the two launches' outputs.
-/

@[expose] public section
noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

abbrev pd : (p : Fin 2) → (c : Dev nD) → Dat τ (Elt F) Unit ℕ (Pipeline.UD sig nD τ) ℕ (cfgs p) c := pdats (at1 m) (at3 m)

abbrev R0 : RegionSeg (pcfgs (F := F)) adm (pd m) () defs₀ Variants.none Lno lvno 0 :=
  reg0 (at1 m) (at3 m) (fun c b => leave1 m c b) (leave1_out m) (leave1_ne m)
abbrev R1 : RegionSeg (pcfgs (F := F)) adm (pd m) () defs₀ Variants.none Lno lvno 1 :=
  reg1 (at1 m) (at3 m) (fun c b => leave3 m c b) (leave3_out m) (leave3_ne m)

abbrev sides : Fin 3 → Dev nD → sProp 𝕄 := fun _ c => side (F := F) c

theorem pre0 (c : Dev nD) : iprop(StableHlo.held (c : Thread nD τ) (Pipeline.ucRefs τ sig) (V1 m c) ∗ sides (F := F) 0 c) ⊢ (R0 m).pre c := by
  rw [← Pipeline.unscopedBufs_held (Ix := Unit) (Name := ℕ) (U := Pipeline.UD sig nD τ) (Lvl := ℕ) c (V1 m c)]
  exact .rfl
theorem post0 (c : Dev nD) : (R0 m).post c ⊢ iprop(StableHlo.held (c : Thread nD τ) (Pipeline.ucRefs τ sig) (V2 m (outs m) c) ∗ sides (F := F) 1 c) := by
  rw [V2_eq, ← Pipeline.unscopedBufs_held (Ix := Unit) (Name := ℕ) (U := Pipeline.UD sig nD τ) (Lvl := ℕ) c (leave1 m c)]
  exact .rfl
theorem pre1 (c : Dev nD) : iprop(StableHlo.held (c : Thread nD τ) (Pipeline.ucRefs τ sig) (V3 m (outs m) c) ∗ sides (F := F) 1 c) ⊢ (R1 m).pre c := by
  rw [← Pipeline.unscopedBufs_held (Ix := Unit) (Name := ℕ) (U := Pipeline.UD sig nD τ) (Lvl := ℕ) c (V3 m (outs m) c)]
  exact .rfl
theorem post1 (c : Dev nD) : (R1 m).post c ⊢ iprop(StableHlo.held (c : Thread nD τ) (Pipeline.ucRefs τ sig) (V4 m (outs m) c) ∗ sides (F := F) 2 c) := by
  rw [V4_eq, ← Pipeline.unscopedBufs_held (Ix := Unit) (Name := ℕ) (U := Pipeline.UD sig nD τ) (Lvl := ℕ) c (leave3 m c)]
  exact .rfl

/-- The ghost state the launch starts from: the pipelines' rounds, and no counter. -/
abbrev u₀ : Pipeline.UD sig nD τ := (initOf (Pipeline.cells cfgs cellOf_inj) (Pipeline.launchToks cfgs cellOf_inj), 1)

theorem hu₀ : (ownU u₀ : sProp 𝕄) ⊢ |={Set.univ}=> iprop(BI.own (embL (initOf (Pipeline.cells cfgs cellOf_inj) (Pipeline.launchToks cfgs cellOf_inj)))
    ∗ bigSep Finset.univ fun _ : Dev nD => (BI.emp : sProp 𝕄)) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts Lno lvno)
      ⊢ (|={Set.univ}=> bigSep Finset.univ (sides (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
      ⊢ bigSep Finset.univ (sides (F := F) 0) := bigSep_mono fun c _ => show iprop(_) ⊢ side (F := F) c from by
    iintro ⟨-, HO, -, Hg, -⟩
    isplitl [Hg]; · iexists _; iexact Hg
    iexists _; iexact HO
  iintro ⟨H, -⟩
  imodintro
  iapply h
  iexact H

set_option backward.isDefEq.respectTransparency.types false in
/-- The run: the arguments as launched, the result at the last valuation, every counter at zero. -/
theorem run_main :
    θ_run defs (onTc (τ := τ) (main (F := F))) ⟨m, fun _ => 0, ρ⟩ (fun r => (∀ c : Dev nD,
      r.2.mem ((c.tc : Thread nD τ).loc main_v31) = V5 m (outs m) c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pd m) () cellOf_inj embL defs₀ Variants.none Lno lvno m ρ main
    (segs m (outs m) Variants.none Lno lvno (sides (F := F)) () (pd m) (R0 m) (R1 m))
    (fun c Q => by
      rewrite [main_chain c, Seg.run_eq_chain,
        show (segs m (outs m) Variants.none Lno lvno (sides (F := F)) () (pd m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) u₀ hu₀
    (T₀ := fun c => iprop(StableHlo.held (c : Thread nD τ) (Pipeline.ucRefs τ sig) (V0 m c) ∗ sides (F := F) 0 c))
    (Tₙ := fun c => StableHlo.held (c : Thread nD τ) (Pipeline.ucRefs τ sig) (V5 m (outs m) c))
    (hch := fun c => ⟨.rfl, pre0 m c, post0 m c, pre1 m c, post1 m c, sep_mono .rfl (by iintro ⟨-, H⟩; iexact H)⟩)
    (hinit := ?_) (QY := fun c s => s.mem ((c.tc : Thread nD τ).loc main_v31) = V5 m (outs m) c main_v31
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := Pipeline.UD sig nD τ) (Lvl := ℕ) c (V0 m c)]; exact BI.Entails.refl _
    have hjoin : iprop((bigSep Finset.univ fun c : Dev nD => StableHlo.held (c : Thread nD τ) (Pipeline.ucRefs τ sig) (V0 m c))
          ∗ bigSep Finset.univ (sides (F := F) 0))
        ⊢ (bigSep Finset.univ fun c : Dev nD => iprop(StableHlo.held (c : Thread nD τ) (Pipeline.ucRefs τ sig) (V0 m c) ∗ sides (F := F) 0 c) : sProp 𝕄) := by
      rw [← bigSep_sep']
    iintro ⟨H, Hla⟩
    ihave H' := hsplit $$ H
    icases H' with ⟨Hh, Hr⟩
    imod (hE0 ρ) $$ [Hr Hla] with HE
    · isplitl [Hr]; · iexact Hr
      iexact Hla
    imodintro
    iapply hjoin
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have get (r : Ref sig .tc) (hr : ¬ (Proc.devRef (τ := τ) .tc r).isScoped) := h (Proc.devRef .tc r) (Finset.mem_filter.mpr ⟨StableHlo.devRef_mem_tcRefs r, hr⟩)
      exact ⟨get main_v31 (by decide), (get main_arg0 (by decide)).trans (V5_main_arg0 m (outs m) c), (get main_arg1 (by decide)).trans (V5_main_arg1 m (outs m) c),
        (get main_arg2 (by decide)).trans (V5_main_arg2 m (outs m) c), (get main_arg3 (by decide)).trans (V5_main_arg3 m (outs m) c),
        (get main_arg4 (by decide)).trans (V5_main_arg4 m (outs m) c)⟩
    · iexact HSI

/-- The frame. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

end Cert.Proof
end
-- ==== Proof.Same.lean ====
module

public import proofs.«01_k».proof.Proof.Gen.Kernel
public import proofs.«01_k».proof.Proof.Gen.KernelIdeal

/-!
# The kernel's program is the idealized kernel's

The two are printed from one text; only the names differ.
-/

@[expose] public section
noncomputable section
namespace Cert.Proof
open Idealize.ShloMosaic
variable {F : FTy → Type} [FloatOps F]

set_option maxRecDepth 65536
set_option maxHeartbeats 4000000

theorem defs0_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl
  | 1, (t, s) => rfl
theorem defs_same : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) defs0_same
theorem main_same : @Cert.Kernel.main F _ Cert.Kernel.Gen.facts = @Cert.KernelIdeal.main F _ Cert.KernelIdeal.Gen.facts := by rfl

end Cert.Proof
end
-- ==== Proof.Window.lean ====
module

public import proofs.«01_k».proof.Proof.Region0
public import proofs.«01_k».proof.Proof.Region1
public import Idealize.ShloMosaic.Lib.ValueLayout
public import Idealize.ShloMosaic.Lib.Pipeline.ValueKit.Geometry

/-!
# Where a grid point's blocks lie in the arrays

Grid point `t` holds samples `16 t` to `16 t + 15`.
-/

@[expose] public section
noncomputable section

namespace Cert.Proof

open Idealize.ShloMosaic Idealize.ShloMosaic.TcCoe Idealize.ShloMosaic.ValueIdx Cert.KernelIdeal Cert.KernelIdeal.Gen
open Idealize.ShloMosaic.Pipeline (Dat Window)

variable {F : FTy → Type} [FloatOps F] [∀ e, Nonempty (Elt F e)]

variable (V : (c : Dev nD) → (b : Ref sig .tc) → Buf (Elt F) ((c : Thread nD τ).loc b)) (c : Dev nD)

/-- The sample in row `s` of grid point `t`. -/
def at16 (t : Fin 4) (s : Fin 16) : Fin 64 := ⟨16 * t.val + s.val, by omega⟩

/-- Two places agree where their numbers do. -/
theorem place3 {a b d : ℕ} {i j : (⟨3, ![a, b, d]⟩ : Shape).Idx} (h0 : (i 0).val = (j 0).val) (h1 : (i 1).val = (j 1).val)
    (h2 : (i 2).val = (j 2).val) : i = j :=
  funext fun k => match k with
    | ⟨0, _⟩ => Fin.ext h0
    | ⟨1, _⟩ => Fin.ext h1
    | ⟨2, _⟩ => Fin.ext h2

theorem place2 {a b : ℕ} {i j : (⟨2, ![a, b]⟩ : Shape).Idx} (h0 : (i 0).val = (j 0).val) (h1 : (i 1).val = (j 1).val) : i = j :=
  funext fun k => match k with
    | ⟨0, _⟩ => Fin.ext h0
    | ⟨1, _⟩ => Fin.ext h1

theorem block {e i s t : ℕ} (h : e = i * 16 + s) (hi : i = t) : e = 16 * t + s := by omega
theorem whole {e i n j : ℕ} (h : e = i * n + j) (hi : i = 0) : e = j := by rw [h, hi, Nat.zero_mul, Nat.zero_add]

namespace L0

theorem coord : ∀ t : Fin cfg0.N, (grid0.coords t 0).val = t.val := by decide

theorem index0 : ∀ t : Fin cfg0.N, (cfg0.win 0).index t 0 = t.val ∧ (cfg0.win 0).index t 1 = 0 ∧ (cfg0.win 0).index t 2 = 0 := by decide
theorem index1 : ∀ t : Fin cfg0.N, (cfg0.win 1).index t 0 = t.val ∧ (cfg0.win 1).index t 1 = 0 ∧ (cfg0.win 1).index t 2 = 0 := by decide
theorem index3 : ∀ t : Fin cfg0.N, (cfg0.win 3).index t 0 = t.val ∧ (cfg0.win 3).index t 1 = 0 ∧ (cfg0.win 3).index t 2 = 0 := by decide
theorem index2 : ∀ t : Fin cfg0.N, (cfg0.win 2).index t 0 = 0 ∧ (cfg0.win 2).index t 1 = 0 := by decide

theorem blkI_apply (t : Fin cfg0.N) (s : Fin 16) (j : Fin 64) (z : Fin 1) : blkI V c t (ix3 s j z) = V c main_v5 (ix3 (at16 t s) j z) := by
  show V c main_v5 (((cfg0.win 0).rect t).emb (ix3 s j z)) = _
  refine congrArg (V c main_v5) (place3 (block (Window.rect_emb_val _ t _ 0) (index0 t).1) ?_ ?_)
  · exact whole (Window.rect_emb_val _ t _ 1) (index0 t).2.1
  · exact whole (Window.rect_emb_val _ t _ 2) (index0 t).2.2

theorem blkX_apply (t : Fin cfg0.N) (s : Fin 16) (j : Fin 64) (z : Fin 1) : blkX V c t (ix3 s j z) = V c main_v10 (ix3 (at16 t s) j z) := by
  show V c main_v10 (((cfg0.win 1).rect t).emb (ix3 s j z)) = _
  refine congrArg (V c main_v10) (place3 (block (Window.rect_emb_val _ t _ 0) (index1 t).1) ?_ ?_)
  · exact whole (Window.rect_emb_val _ t _ 1) (index1 t).2.1
  · exact whole (Window.rect_emb_val _ t _ 2) (index1 t).2.2

theorem blkM_apply (t : Fin cfg0.N) (z : Fin 1) (o : Fin 512) : blkM V c t (ix2 z o) = V c main_v12 (ix2 z o) := by
  show V c main_v12 (((cfg0.win 2).rect t).emb (ix2 z o)) = _
  refine congrArg (V c main_v12) (place2 ?_ ?_)
  · exact whole (Window.rect_emb_val _ t _ 0) (index2 t).1
  · exact whole (Window.rect_emb_val _ t _ 1) (index2 t).2

theorem after3 (t : Fin cfg0.N) : (dat V c).after 3 t = outBlk V c t := by
  unfold dat
  with_reducible rfl

theorem flushed_eq (t : Fin cfg0.N) (s : Fin 16) (z : Fin 1) (o : Fin 512) :
    (dat V c).flushed 3 t (ix3 s z o) = outBlk V c t (ix3 s z o) := by
  rw [Dat.flushed_apply]
  exact congrFun (after3 V c t) (ix3 s z o)

theorem out_apply (t : Fin cfg0.N) (s : Fin 16) (z : Fin 1) (o : Fin 512) :
    (dat V c).arrAt 3 cfg0.N (ix3 (at16 t s) z o) = outBlk V c t (ix3 s z o) := by
  have h := (dat V c).arrAt_emb_eq_flushed 3 (Window.hdisj_of_index_inj _ (by decide)) t (flush0_3 t) (ix3 s z o)
  refine Eq.trans (congrArg ((dat V c).arrAt 3 cfg0.N) ?_) (h.trans ((cast_eq _ _).trans (flushed_eq V c t s z o)))
  show _ = ((cfg0.win 3).rect t).emb (ix3 s z o)
  refine (place3 (block (Window.rect_emb_val _ t _ 0) (index3 t).1) ?_ ?_).symm
  · exact whole (Window.rect_emb_val _ t _ 1) (index3 t).2.1
  · exact whole (Window.rect_emb_val _ t _ 2) (index3 t).2.2

end L0

namespace L1

theorem coord : ∀ t : Fin cfg1.N, (grid1.coords t 0).val = t.val := by decide

theorem index0 : ∀ t : Fin cfg1.N, (cfg1.win 0).index t 0 = t.val ∧ (cfg1.win 0).index t 1 = 0 ∧ (cfg1.win 0).index t 2 = 0 := by decide
theorem index1 : ∀ t : Fin cfg1.N, (cfg1.win 1).index t 0 = t.val ∧ (cfg1.win 1).index t 1 = 0 ∧ (cfg1.win 1).index t 2 = 0 := by decide
theorem index3 : ∀ t : Fin cfg1.N, (cfg1.win 3).index t 0 = t.val ∧ (cfg1.win 3).index t 1 = 0 ∧ (cfg1.win 3).index t 2 = 0 := by decide
theorem index2 : ∀ t : Fin cfg1.N, (cfg1.win 2).index t 0 = 0 ∧ (cfg1.win 2).index t 1 = 0 := by decide

theorem blkI_apply (t : Fin cfg1.N) (s : Fin 16) (j : Fin 64) (z : Fin 1) : blkI V c t (ix3 s j z) = V c main_v21 (ix3 (at16 t s) j z) := by
  show V c main_v21 (((cfg1.win 0).rect t).emb (ix3 s j z)) = _
  refine congrArg (V c main_v21) (place3 (block (Window.rect_emb_val _ t _ 0) (index0 t).1) ?_ ?_)
  · exact whole (Window.rect_emb_val _ t _ 1) (index0 t).2.1
  · exact whole (Window.rect_emb_val _ t _ 2) (index0 t).2.2

theorem blkX_apply (t : Fin cfg1.N) (s : Fin 16) (j : Fin 64) (z : Fin 1) : blkX V c t (ix3 s j z) = V c main_v26 (ix3 (at16 t s) j z) := by
  show V c main_v26 (((cfg1.win 1).rect t).emb (ix3 s j z)) = _
  refine congrArg (V c main_v26) (place3 (block (Window.rect_emb_val _ t _ 0) (index1 t).1) ?_ ?_)
  · exact whole (Window.rect_emb_val _ t _ 1) (index1 t).2.1
  · exact whole (Window.rect_emb_val _ t _ 2) (index1 t).2.2

theorem blkM_apply (t : Fin cfg1.N) (z : Fin 1) (o : Fin 1024) : blkM V c t (ix2 z o) = V c main_v28 (ix2 z o) := by
  show V c main_v28 (((cfg1.win 2).rect t).emb (ix2 z o)) = _
  refine congrArg (V c main_v28) (place2 ?_ ?_)
  · exact whole (Window.rect_emb_val _ t _ 0) (index2 t).1
  · exact whole (Window.rect_emb_val _ t _ 1) (index2 t).2

theorem after3 (t : Fin cfg1.N) : (dat V c).after 3 t = outBlk V c t := by
  unfold dat
  with_reducible rfl

theorem flushed_eq (t : Fin cfg1.N) (s : Fin 16) (z : Fin 1) (o : Fin 1024) :
    (dat V c).flushed 3 t (ix3 s z o) = outBlk V c t (ix3 s z o) := by
  rw [Dat.flushed_apply]
  exact congrFun (after3 V c t) (ix3 s z o)

theorem out_apply (t : Fin cfg1.N) (s : Fin 16) (z : Fin 1) (o : Fin 1024) :
    (dat V c).arrAt 3 cfg1.N (ix3 (at16 t s) z o) = outBlk V c t (ix3 s z o) := by
  have h := (dat V c).arrAt_emb_eq_flushed 3 (Window.hdisj_of_index_inj _ (by decide)) t (flush1_3 t) (ix3 s z o)
  refine Eq.trans (congrArg ((dat V c).arrAt 3 cfg1.N) ?_) (h.trans ((cast_eq _ _).trans (flushed_eq V c t s z o)))
  show _ = ((cfg1.win 3).rect t).emb (ix3 s z o)
  refine (place3 (block (Window.rect_emb_val _ t _ 0) (index3 t).1) ?_ ?_).symm
  · exact whole (Window.rect_emb_val _ t _ 1) (index3 t).2.1
  · exact whole (Window.rect_emb_val _ t _ 2) (index3 t).2.2

end L1

end Cert.Proof
end
-- ==== Proof.Node.lean ====
module

public import proofs.«01_k».proof.Proof.Run
public import Idealize.ShloMosaic.Lib.ValueLayout
public import Idealize.ShloMosaic.Lib.ValueLayoutCasts
public import Idealize.ShloMosaic.Lib.Pipeline.Value
public import Idealize.ShloMosaic.PureOps.Ideal.Laws

/-!
# A node's value, stated by what lies below or above it

A node takes the least (or the greatest) of the inputs whose edges are normal and of a masked edge's `10`
(or `-10`). `Spec` says so by the bounds of the value, which both programs' reductions are read through; `Layer` says it of a whole layer.
-/

@[expose] public section
noncomputable section

namespace Cert.Proof

open Idealize.ShloMosaic Idealize.ShloMosaic.ValueIdx Idealize.ShloMosaic.Ideal

/-- `v` is the least of `10` and the inputs `x i` with `nrm i` (if `m`), or the greatest of `-10` and these. -/
structure Spec {n : ℕ} (m : Prop) (nrm : Fin n → Prop) (x : Fin n → EReal) (v : EReal) : Prop where
  least : m → ∀ c, c ≤ v ↔ c ≤ 10 ∧ ∀ i, nrm i → c ≤ x i
  greatest : ¬m → ∀ c, v ≤ c ↔ -10 ≤ c ∧ ∀ i, nrm i → x i ≤ c

variable {n : ℕ} {m : Prop} {nrm : Fin n → Prop} {x : Fin n → EReal} {v w : EReal}

theorem Spec.unique (hv : Spec m nrm x v) (hw : Spec m nrm x w) : v = w := by
  by_cases h : m
  · exact eq_of_forall_le_iff fun c => (hv.least h c).trans (hw.least h c).symm
  · exact eq_of_forall_ge_iff fun c => (hv.greatest h c).trans (hw.greatest h c).symm

/-- The normal edges: those drawn normal and, where none was, the forced one. -/
def normal (hit : Fin n → Prop) (f : Fin n) (i : Fin n) : Prop := hit i ∨ ((∀ j, ¬hit j) ∧ i = f)

/-- Edge `i` of node `k` (its number counts the samples too) is drawn normal. -/
def Keys.hit (K : Keys) (n k i : ℕ) : Prop := (bitsW K.a K.b K.c (BitVec.ofNat 32 (k * n + i))).toNat < 2 ^ 31

/-- The forced edge of node `k`. -/
def Keys.forced (K : Keys) (n : ℕ) (hn : 0 < n) (k : ℕ) : Fin n :=
  ⟨(bitsW K.fa K.fb K.fc (BitVec.ofNat 32 k)).toNat % n, Nat.mod_lt _ hn⟩

/-- Node `k`'s normal edges. -/
def Keys.edges (K : Keys) {n : ℕ} (hn : 0 < n) (k : ℕ) : Fin n → Prop := normal (fun i => K.hit n k i.val) (K.forced n hn k)

/-- A layer: each node of each sample by `Spec`. -/
def Layer (K : Keys) (O I : ℕ) (hI : 0 < I) (m : Fin O → Prop) (x : Fin 64 → Fin I → EReal) (y : Fin 64 → Fin O → EReal) : Prop :=
  ∀ b o, Spec (m o) (K.edges hI (b.val * O + o.val)) (x b) (y b o)

theorem Layer.unique {K : Keys} {O I : ℕ} {hI : 0 < I} {m : Fin O → Prop} {x : Fin 64 → Fin I → EReal}
    {y y' : Fin 64 → Fin O → EReal} (h : Layer K O I hI m x y) (h' : Layer K O I hI m x y') : y = y' :=
  funext fun b => funext fun o => (h b o).unique (h' b o)

/-! ## Constants and one-axis reductions -/

theorem ten : Ideal.ofBits .f32 0x41200000#32 = 10 := by
  simp [Ideal.ofBits, Ideal.ieee, -EReal.coe_mul]; norm_num; rfl

theorem negTen : Ideal.ofBits .f32 0xC1200000#32 = -10 := by
  simp [Ideal.ofBits, Ideal.ieee, -EReal.coe_mul]; norm_num; rfl

theorem posInf : Ideal.ofBits .f32 0x7F800000#32 = ⊤ := by simp [Ideal.ofBits, Ideal.ieee]

theorem negInf : Ideal.ofBits .f32 0xFF800000#32 = ⊥ := by simp [Ideal.ofBits, Ideal.ieee]

theorem one : Ideal.ofBits .f32 0x3F800000#32 = 1 := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

variable {k O : ℕ}

theorem lift_row (h : (sBlk k O).Reduces [0] (sLane O)) (o : Fin O) (j : Fin k) : h.lift (ix1 o) j = ix2 j o := by
  funext a
  match a with
  | ⟨0, _⟩ => rfl
  | ⟨1, _⟩ => rfl

/-- A column's least entry, by its lower bounds. -/
theorem le_colMin (src : FVec Ideal (sBlk k O) .f32) (h : (sBlk k O).Reduces [0] (sLane O)) (hφ : FKind.Formats .f32)
    (hacc : 0x7F800000#32 = FKind.minimumf.neutral .f32 hφ) (o : Fin O) (c : EReal) :
    c ≤ multiReduction .minimumf [0] (sLane O) src 0x7F800000#32 h hφ hacc (ix1 o) ↔ ∀ j : Fin k, c ≤ src (ix2 j o) := by
  have e : ∀ j : Fin k, (src ∘ h.lift (ix1 o)) j = src (ix2 j o) := fun j => congrArg src (lift_row h o j)
  rw [multiReduction_minimumf_eq_fold]
  rw [h.fold_filter_drop_single]
  change c ≤ Finset.fold min (Ideal.ofBits .f32 0x7F800000#32) _ _ ↔ _
  rw [Finset.le_fold_min, posInf]
  constructor
  · intro hc j; have := hc.2 j (Finset.mem_univ _); rwa [e j] at this
  · intro hc; exact ⟨le_top, fun j _ => by rw [e j]; exact hc j⟩

/-- A column's greatest entry, by its upper bounds. -/
theorem colMax_le (src : FVec Ideal (sBlk k O) .f32) (h : (sBlk k O).Reduces [0] (sLane O)) (hφ : FKind.Formats .f32)
    (hacc : 0xFF800000#32 = FKind.maximumf.neutral .f32 hφ) (o : Fin O) (c : EReal) :
    multiReduction .maximumf [0] (sLane O) src 0xFF800000#32 h hφ hacc (ix1 o) ≤ c ↔ ∀ j : Fin k, src (ix2 j o) ≤ c := by
  have e : ∀ j : Fin k, (src ∘ h.lift (ix1 o)) j = src (ix2 j o) := fun j => congrArg src (lift_row h o j)
  rw [multiReduction_maximumf_single]
  change Finset.fold max (Ideal.ofBits .f32 0xFF800000#32) _ _ ≤ c ↔ _
  rw [Finset.fold_max_le, negInf]
  constructor
  · intro hc j; have := hc.2 j (Finset.mem_univ _); rwa [e j] at this
  · intro hc; exact ⟨bot_le, fun j _ => by rw [e j]; exact hc j⟩

theorem bool_ne_one {b : BitVec 1} : b ≠ 1#1 ↔ b = 0#1 := by revert b; decide

/-- Whether a column has a one: the greatest of its ones and zeros is positive. -/
theorem anyCol (nrm : IVec (sBlk k O) 1) (h : (sBlk k O).Reduces [0] (sLane O)) (hφ : FKind.Formats .f32)
    (hacc : 0xFF800000#32 = FKind.maximumf.neutral .f32 hφ) (o : Fin O) :
    cmpf .ogt
        (multiReduction (F := Ideal) .maximumf [0] (sLane O)
          (select nrm (broadcast (sBlk k O) (Scalar.ofBits .f32 0x3F800000#32)) (broadcast (sBlk k O) (Scalar.ofBits .f32 0x00000000#32)))
          0xFF800000#32 h hφ hacc)
        (broadcast (sLane O) (Scalar.ofBits .f32 0x00000000#32)) (ix1 o) = 1#1
      ↔ ∃ j : Fin k, nrm (ix2 j o) = 1#1 := by
  change Ideal.cmp .ogt (multiReduction (F := Ideal) .maximumf [0] (sLane O) _ _ h hφ hacc (ix1 o)) (Ideal.ofBits .f32 0x00000000#32) = 1#1 ↔ _
  rw [ofBits_zero_f32]
  have hb : ∀ p : Bool, BitVec.ofBool p = 1#1 ↔ p = true := by decide
  unfold Ideal.cmp
  rw [hb, decide_eq_true_iff, ← not_le, colMax_le, not_forall]
  refine exists_congr fun j => ?_
  change ¬ (Scalar.select (nrm (ix2 j o)) (Ideal.ofBits .f32 0x3F800000#32) (Ideal.ofBits .f32 0x00000000#32) ≤ (0 : EReal)) ↔ _
  rw [one, ofBits_zero_f32]
  by_cases hj : nrm (ix2 j o) = 1#1
  · rw [hj]; simp [Scalar.select]
  · rw [bool_ne_one.mp hj]; simp [Scalar.select]

end Cert.Proof
-- ==== Proof.Dense.lean ====
module

public import proofs.«01_k».proof.Proof.Rows
public import proofs.«01_k».proof.Proof.Node
public import Idealize.ShloMosaic.Lib.WordCmp

/-!
# The dense pass computes the layer's node values

One lane at a time: what one chunk does to the four running values, what they are after any number of
chunks, and the node's value the pass stores.
-/

@[expose] public section
noncomputable section

namespace Cert.Proof

open Idealize.ShloMosaic Idealize.ShloMosaic.ValueIdx Idealize.ShloMosaic.Ideal

/-! ## Words of natural numbers -/

theorem cmpi_ult_iff {w : ℕ} (a b : BitVec w) : Scalar.cmpi .ult a b = 1#1 ↔ a.toNat < b.toNat := by
  have hb : ∀ p : Bool, BitVec.ofBool p = 1#1 ↔ p = true := by decide
  change BitVec.ofBool (a.ult b) = 1#1 ↔ _
  rw [hb, BitVec.ult, decide_eq_true_iff]

theorem cmpi_ne_iff {w : ℕ} (a b : BitVec w) : Scalar.cmpi .ne a b = 1#1 ↔ a ≠ b := by
  have hb : ∀ p : Bool, BitVec.ofBool p = 1#1 ↔ p = true := by decide
  change BitVec.ofBool (a != b) = 1#1 ↔ _
  rw [hb, bne_iff_ne]

theorem cmpi_eq_iff {w : ℕ} (a b : BitVec w) : Scalar.cmpi .eq a b = 1#1 ↔ a = b := by
  have hb : ∀ p : Bool, BitVec.ofBool p = 1#1 ↔ p = true := by decide
  change BitVec.ofBool (a == b) = 1#1 ↔ _
  rw [hb, beq_iff_eq]

theorem select_pos {α : Type} {c : BitVec 1} (h : c = 1#1) (a b : α) : Scalar.select c a b = a := by
  subst h; rfl

theorem select_neg {α : Type} {c : BitVec 1} (h : c ≠ 1#1) (a b : α) : Scalar.select c a b = b := by
  rw [bool_ne_one.mp h]; rfl

theorem iv_word (n : ℕ) : Scf.iv 0#32 1#32 n = BitVec.ofNat 32 n := by
  unfold Scf.iv; simp

section Lane
variable {O : ℕ} [RowFacts O]

theorem laneV_lane (o : Fin O) : laneV O (ix2 (0 : Fin 1) o) = BitVec.ofNat 32 o.val := by
  show BitVec.ofNat 32 (0 * O + o.val) = _
  rw [Nat.zero_mul, Nat.zero_add]

theorem iotaBlk_lane (i : Fin 16) (o : Fin O) : iota .tc (sBlk 16 O) 32 [0] RowFacts.iotaBlk (ix2 i o) = BitVec.ofNat 32 i.val := by
  show BitVec.ofNat 32 (0 * 16 + i.val) = _
  rw [Nat.zero_mul, Nat.zero_add]

theorem termV_lane (I g s : ℕ) (o : Fin O) :
    termV O I (BitVec.ofNat 32 g) (BitVec.ofNat 32 s) (ix2 (0 : Fin 1) o)
      = BitVec.ofNat 32 (((g * 16 + s) * O + o.val) * I) := by
  change ((BitVec.ofNat 32 g * 16#32 + BitVec.ofNat 32 s) * BitVec.ofNat 32 O + laneV O (ix2 (0 : Fin 1) o)) * BitVec.ofNat 32 I = _
  rw [laneV_lane]
  simp only [BitVec.ofNat_add, BitVec.ofNat_mul]

theorem castLane_lane {α : Type} (v : (sLane O).Idx → α) (h : (sLane O).ShapeCasts (sRow O)) (o : Fin O) :
    shapeCast (sRow O) v h (ix2 (0 : Fin 1) o) = v (ix1 o) := shapeCast_a_1a_apply v h 0 o

theorem bCol_lane {α : Type} {k : ℕ} (hk : 1 < k) (v : (sCol k).Idx → α) (h : (sCol k).Broadcasts (sBlk k O)) (j : Fin k) (o : Fin O) :
    broadcastTo (sBlk k O) v h (ix2 j o) = v (ix2 j (0 : Fin 1)) := by
  refine broadcastTo_apply v h (ix2 j o) (ix2 j (0 : Fin 1)) fun a => ?_
  match a with
  | ⟨0, _⟩ =>
    show j.val = if k = 1 then 0 else j.val
    rw [if_neg (by omega)]
  | ⟨1, _⟩ => rfl

theorem bRow_lane {α : Type} {k : ℕ} (v : (sRow O).Idx → α) (h : (sRow O).Broadcasts (sBlk k O)) (j : Fin k) (o : Fin O) :
    broadcastTo (sBlk k O) v h (ix2 j o) = v (ix2 (0 : Fin 1) o) := broadcastTo_1b_ab_apply v h j o

variable (off : FVec Ideal (sRow O) .f32) (nrm : IVec (sBlk 16 O) 1) (fid : IVec (sRow O) 32) (j : BitVec 32)
  (x : Vec Ideal (sCol 16) .f32) (r : Run (F := Ideal) O) (o : Fin O)

/-- What edge `i` of a chunk contributes. -/
def edgeVal (i : Fin 16) : EReal := if nrm (ix2 i o) = 1#1 then x (ix2 i (0 : Fin 1)) else off (ix2 (0 : Fin 1) o)

theorem chunkVal (i : Fin 16) :
    select nrm (broadcastTo (sBlk 16 O) (shapeCast (sCol 16) x (RowFacts.castCol16 O)) RowFacts.bCol16)
        (broadcastTo (sBlk 16 O) (shapeCast (sRow O) off RowFacts.castRow) RowFacts.bRow16) (ix2 i o)
      = edgeVal off nrm x o i := by
  change Scalar.select (nrm (ix2 i o)) (broadcastTo (sBlk 16 O) (shapeCast (sCol 16) x _) _ (ix2 i o)) (broadcastTo (sBlk 16 O) (shapeCast (sRow O) off _) _ (ix2 i o)) = _
  rw [shapeCast_self, shapeCast_self, bCol_lane (by decide), bRow_lane]
  unfold edgeVal
  split
  · next h => exact select_pos h _ _
  · next h => exact select_neg h _ _

theorem stepV_least (c : EReal) :
    c ≤ (stepV O off nrm fid j x r).1 (ix2 (0 : Fin 1) o)
      ↔ c ≤ r.1 (ix2 (0 : Fin 1) o) ∧ ∀ i : Fin 16, c ≤ edgeVal off nrm x o i :=
  le_min_iff.trans (and_congr_right fun _ =>
    (iff_of_eq (congrArg (c ≤ ·) (castLane_lane _ _ o))).trans
      ((le_colMin _ _ (.inl rfl) rfl o c).trans
        (forall_congr' fun i => iff_of_eq (congrArg (c ≤ ·) (chunkVal off nrm x o i)))))

theorem stepV_greatest (c : EReal) :
    (stepV O off nrm fid j x r).2.1 (ix2 (0 : Fin 1) o) ≤ c
      ↔ r.2.1 (ix2 (0 : Fin 1) o) ≤ c ∧ ∀ i : Fin 16, edgeVal off nrm x o i ≤ c :=
  max_le_iff.trans (and_congr_right fun _ =>
    (iff_of_eq (congrArg (· ≤ c) (castLane_lane _ _ o))).trans
      ((colMax_le _ _ (.inl rfl) rfl o c).trans
        (forall_congr' fun i => iff_of_eq (congrArg (· ≤ c) (chunkVal off nrm x o i)))))

theorem stepV_any :
    (stepV O off nrm fid j x r).2.2.1 (ix2 (0 : Fin 1) o) ≠ 0#32
      ↔ r.2.2.1 (ix2 (0 : Fin 1) o) ≠ 0#32 ∨ ∃ i : Fin 16, nrm (ix2 i o) = 1#1 := by
  have h1 := anyCol nrm RowFacts.red16 (.inl rfl) rfl o
  have e : (stepV O off nrm fid j x r).2.2.1 (ix2 (0 : Fin 1) o) = Scalar.select _ 1#32 (r.2.2.1 (ix2 (0 : Fin 1) o)) :=
    congrArg (fun b => Scalar.select b 1#32 (r.2.2.1 (ix2 (0 : Fin 1) o))) (castLane_lane _ RowFacts.castLane o)
  rw [e]
  by_cases h : ∃ i : Fin 16, nrm (ix2 i o) = 1#1
  · rw [select_pos (h1.mpr h)]
    exact ⟨fun _ => Or.inr h, fun _ => by decide⟩
  · rw [select_neg (fun hc => h (h1.mp hc))]
    exact ⟨Or.inl, fun hc => hc.resolve_right h⟩

theorem stepV_sum :
    (stepV O off nrm fid j x r).2.2.2 (ix2 (0 : Fin 1) o)
      = r.2.2.2 (ix2 (0 : Fin 1) o)
        + ∑ i : Fin 16, if BitVec.ofNat 32 i.val + j * 16#32 = fid (ix2 (0 : Fin 1) o) then x (ix2 i (0 : Fin 1)) else (0 : EReal) := by
  refine congrArg (r.2.2.2 (ix2 (0 : Fin 1) o) + ·) ((castLane_lane _ RowFacts.castLane o).trans
    ((multiReduction_add_single _ _ RowFacts.red16 (.inl rfl) rfl (ix1 o)).trans (Finset.sum_congr rfl fun (i : Fin 16) _ => ?_)))
  refine (congrArg _ (lift_row RowFacts.red16 o i)).trans ?_
  change Scalar.select (Scalar.cmpi .eq (iota .tc (sBlk 16 O) 32 [0] RowFacts.iotaBlk (ix2 i o) + j * 16#32) (broadcastTo (sBlk 16 O) fid RowFacts.bRow16 (ix2 i o)))
    (broadcastTo (sBlk 16 O) (shapeCast (sCol 16) x (RowFacts.castCol16 O)) RowFacts.bCol16 (ix2 i o)) (Ideal.ofBits .f32 0x00000000#32) = _
  rw [iotaBlk_lane, bRow_lane, shapeCast_self, bCol_lane (by decide), ofBits_zero_f32]
  split
  · next h => exact select_pos ((cmpi_eq_iff _ _).mpr h) _ _
  · next h => exact select_neg (fun hc => h ((cmpi_eq_iff _ _).mp hc)) _ _

end Lane

/-! ## The chunks -/

section Chunks
variable (O I : ℕ) (C : BitVec 32) [BodyFacts O I C] (K : Keys) (g : Fin 4) (im : IVec (sRow O) 1)
  (d6 : (sCol I).Idx → Elt Ideal .f32) (s : ℕ) (o : Fin O)

/-- The inputs as numbers. -/
def inp (i : ℕ) : EReal := if h : i < I then d6 (ix2 (⟨i, h⟩ : Fin I) (0 : Fin 1)) else 0

/-- The node's number. -/
abbrev node : ℕ := (g.val * 16 + s) * O + o.val

theorem chunkAt_lane (n : ℕ) (i : Fin 16) : chunkAt (F := Ideal) I d6 n (ix2 i (0 : Fin 1)) = inp I d6 (16 * n + i.val) := by
  unfold chunkAt inp
  change (if h : 16 * n + i.val < I then _ else Ideal.ofBits .f32 0x00000000#32) = _
  rw [ofBits_zero_f32]
  split
  · next h =>
    refine congrArg d6 (funext fun a => ?_)
    match a with
    | ⟨0, _⟩ => rfl
    | ⟨1, _⟩ => rfl
  · rfl

theorem normalV_lane (n : ℕ) (i : Fin 16) :
    normalV O K.a K.b K.c (termV O I (gw g) (BitVec.ofNat 32 s)) (BitVec.ofNat 32 n) (ix2 i o) = 1#1
      ↔ K.hit I (node O g s o) (16 * n + i.val) := by
  have hc : (addi (broadcastTo (sBlk 16 O) (termV O I (gw g) (BitVec.ofNat 32 s)) RowFacts.bRow16)
      (addi (iota .tc (sBlk 16 O) 32 [0] RowFacts.iotaBlk) (broadcast (sBlk 16 O) (Scalar.muli (BitVec.ofNat 32 n) 16#32)))) (ix2 i o)
      = BitVec.ofNat 32 (node O g s o * I + (16 * n + i.val)) := by
    change broadcastTo (sBlk 16 O) (termV O I (gw g) (BitVec.ofNat 32 s)) RowFacts.bRow16 (ix2 i o)
      + (iota .tc (sBlk 16 O) 32 [0] RowFacts.iotaBlk (ix2 i o) + BitVec.ofNat 32 n * 16#32) = _
    rw [bRow_lane, termV_lane, iotaBlk_lane, ← BitVec.ofNat_mul, ← BitVec.ofNat_add, ← BitVec.ofNat_add]
    congr 1; ring
  change Scalar.cmpi .ult (bitsW K.a K.b K.c (_)) 2147483648#32 = 1#1 ↔ _
  rw [cmpi_ult_iff]
  unfold Keys.hit
  rw [← hc]
  rfl

/-- Edge `i`'s contribution. -/
def contrib (i : ℕ) : EReal :=
  open Classical in
  if K.hit I (node O g s o) i then inp I d6 i else offV (F := Ideal) O im (ix2 (0 : Fin 1) o)

theorem edgeVal_lane (n : ℕ) (i : Fin 16) :
    edgeVal (offV (F := Ideal) O im) (normalV O K.a K.b K.c (termV O I (gw g) (BitVec.ofNat 32 s)) (BitVec.ofNat 32 n))
        (chunkAt (F := Ideal) I d6 n) o i = contrib O I K g im d6 s o (16 * n + i.val) := by
  unfold edgeVal contrib
  rw [chunkAt_lane]
  by_cases h : K.hit I (node O g s o) (16 * n + i.val)
  · rw [if_pos h, if_pos ((normalV_lane O I C K g s o n i).mpr h)]
  · rw [if_neg h, if_neg fun hc => h ((normalV_lane O I C K g s o n i).mp hc)]

/-- The forced edge's word. -/
abbrev fword : BitVec 32 := forcedV O I K.fa K.fb K.fc (gw g) (BitVec.ofNat 32 s) (ix2 (0 : Fin 1) o)

theorem below_succ (n : ℕ) (p : ℕ → Prop) : (∀ i < 16 * (n + 1), p i) ↔ (∀ i < 16 * n, p i) ∧ ∀ i : Fin 16, p (16 * n + i.val) := by
  constructor
  · intro h; exact ⟨fun i hi => h i (by omega), fun i => h _ (by have := i.isLt; omega)⟩
  · intro h i hi
    by_cases h' : i < 16 * n
    · exact h.1 i h'
    · have := h.2 ⟨i - 16 * n, by omega⟩
      rwa [show 16 * n + (i - 16 * n) = i by omega] at this

abbrev runs (n : ℕ) : Run (F := Ideal) O := runAt O I C K g im d6 (BitVec.ofNat 32 s) n

theorem runAt_least (n : ℕ) (c : EReal) :
    c ≤ (runs O I C K g im d6 s n).1 (ix2 (0 : Fin 1) o) ↔ c ≤ 10 ∧ ∀ i < 16 * n, c ≤ contrib O I K g im d6 s o i := by
  induction n with
  | zero =>
    change c ≤ Ideal.ofBits .f32 0x41200000#32 ↔ _
    rw [ten]; exact ⟨fun h => ⟨h, fun i hi => absurd hi (by omega)⟩, And.left⟩
  | succ n ih =>
    unfold runs runAt
    rw [iv_word, stepV_least, ih, below_succ, and_assoc]
    exact and_congr_right fun _ => and_congr_right fun _ => forall_congr' fun i => by rw [edgeVal_lane O I C K g im d6 s o n i]

theorem runAt_greatest (n : ℕ) (c : EReal) :
    (runs O I C K g im d6 s n).2.1 (ix2 (0 : Fin 1) o) ≤ c ↔ -10 ≤ c ∧ ∀ i < 16 * n, contrib O I K g im d6 s o i ≤ c := by
  induction n with
  | zero =>
    change Ideal.ofBits .f32 0xC1200000#32 ≤ c ↔ _
    rw [negTen]; exact ⟨fun h => ⟨h, fun i hi => absurd hi (by omega)⟩, And.left⟩
  | succ n ih =>
    unfold runs runAt
    rw [iv_word, stepV_greatest, ih, below_succ, and_assoc]
    exact and_congr_right fun _ => and_congr_right fun _ => forall_congr' fun i => by rw [edgeVal_lane O I C K g im d6 s o n i]

theorem runAt_any (n : ℕ) :
    (runs O I C K g im d6 s n).2.2.1 (ix2 (0 : Fin 1) o) = 0#32 ↔ ∀ i < 16 * n, ¬K.hit I (node O g s o) i := by
  induction n with
  | zero => exact ⟨fun _ i hi => absurd hi (by omega), fun _ => rfl⟩
  | succ n ih =>
    unfold runs runAt
    rw [iv_word, ← not_iff_not, ← ne_eq, stepV_any, below_succ, ← ih, not_and_or, not_forall]
    exact or_congr Iff.rfl (exists_congr fun i => by rw [normalV_lane O I C K g s o n i, not_not])

theorem runAt_sum (hI : I < 2 ^ 32) (n : ℕ) (hn : 16 * n ≤ I) :
    (runs O I C K g im d6 s n).2.2.2 (ix2 (0 : Fin 1) o)
      = if (fword O I C K g s o).toNat < 16 * n then inp I d6 (fword O I C K g s o).toNat else 0 := by
  induction n with
  | zero => rw [if_neg (by omega)]; exact ofBits_zero_f32
  | succ n ih =>
    have ih := ih (by omega)
    unfold runs runAt
    rw [iv_word, stepV_sum, ih]
    have hw : ∀ i : Fin 16, (BitVec.ofNat 32 i.val + BitVec.ofNat 32 n * 16#32 = fword O I C K g s o)
        ↔ 16 * n + i.val = (fword O I C K g s o).toNat := by
      intro i
      have hi := i.isLt
      rw [← BitVec.ofNat_mul, ← BitVec.ofNat_add, ← BitVec.toNat_inj, BitVec.toNat_ofNat, Nat.mod_eq_of_lt (by omega)]
      constructor <;> intro h <;> omega
    have hs : (∑ i : Fin 16, if BitVec.ofNat 32 i.val + BitVec.ofNat 32 n * 16#32 = fword O I C K g s o
          then chunkAt (F := Ideal) I d6 n (ix2 i (0 : Fin 1)) else (0 : EReal))
        = if 16 * n ≤ (fword O I C K g s o).toNat ∧ (fword O I C K g s o).toNat < 16 * (n + 1) then inp I d6 (fword O I C K g s o).toNat else 0 := by
      by_cases h : 16 * n ≤ (fword O I C K g s o).toNat ∧ (fword O I C K g s o).toNat < 16 * (n + 1)
      · rw [if_pos h, Finset.sum_eq_single_of_mem (⟨(fword O I C K g s o).toNat - 16 * n, by omega⟩ : Fin 16) (Finset.mem_univ _)]
        · rw [if_pos ((hw _).mpr (by simp only; omega)), chunkAt_lane]
          congr 1; simp only; omega
        · intro b _ hb
          refine if_neg fun hc => hb (Fin.ext ?_)
          have := (hw b).mp hc
          simp only; omega
      · rw [if_neg h]
        refine Finset.sum_eq_zero fun i _ => if_neg fun hc => h ?_
        have := (hw i).mp hc
        have := i.isLt
        omega
    rw [hs]
    by_cases h1 : (fword O I C K g s o).toNat < 16 * n
    · rw [if_pos h1, if_neg (by omega), if_pos (by omega), add_zero]
    · rw [if_neg h1, zero_add]
      by_cases h2 : (fword O I C K g s o).toNat < 16 * (n + 1)
      · rw [if_pos (by omega), if_pos h2]
      · rw [if_neg (by omega), if_neg h2]

theorem forcedV_word (p : ℕ) (hp : I = 2 ^ p) (hI : I < 2 ^ 32) :
    (fword O I C K g s o).toNat = (bitsW K.fa K.fb K.fc (BitVec.ofNat 32 (node O g s o))).toNat % I := by
  have hc : addi (laneV O) (broadcast (sRow O) (Scalar.muli (Scalar.addi (Scalar.muli (gw g) 16#32) (BitVec.ofNat 32 s)) (BitVec.ofNat 32 O))) (ix2 (0 : Fin 1) o)
      = BitVec.ofNat 32 (node O g s o) := by
    change laneV O (ix2 (0 : Fin 1) o) + (BitVec.ofNat 32 g.val * 16#32 + BitVec.ofNat 32 s) * BitVec.ofNat 32 O = _
    rw [laneV_lane, ← BitVec.ofNat_mul, ← BitVec.ofNat_add, ← BitVec.ofNat_mul, ← BitVec.ofNat_add]
    congr 1; unfold node; ring
  change (bitsW K.fa K.fb K.fc (_) &&& BitVec.ofNat 32 (I - 1)).toNat = _
  rw [BitVec.toNat_and, BitVec.toNat_ofNat, Nat.mod_eq_of_lt (by omega)]
  subst hp
  rw [Nat.and_two_pow_sub_one_eq_mod, ← hc]

theorem inp_fin (i : Fin I) : inp I d6 i.val = d6 (ix2 i (0 : Fin 1)) := by
  unfold inp; rw [dif_pos i.isLt]

theorem contrib_hit (i : ℕ) (h : K.hit I (node O g s o) i) : contrib O I K g im d6 s o i = inp I d6 i := by
  unfold contrib; exact if_pos h

theorem contrib_miss (i : ℕ) (h : ¬K.hit I (node O g s o) i) :
    contrib O I K g im d6 s o i = offV (F := Ideal) O im (ix2 (0 : Fin 1) o) := by
  unfold contrib; exact if_neg h

theorem offV_min (h : im (ix2 (0 : Fin 1) o) = 1#1) : offV (F := Ideal) O im (ix2 (0 : Fin 1) o) = 10 :=
  (select_pos h (Ideal.ofBits .f32 0x41200000#32) (Ideal.ofBits .f32 0xC1200000#32)).trans ten

theorem offV_max (h : im (ix2 (0 : Fin 1) o) ≠ 1#1) : offV (F := Ideal) O im (ix2 (0 : Fin 1) o) = -10 :=
  (select_neg h (Ideal.ofBits .f32 0x41200000#32) (Ideal.ofBits .f32 0xC1200000#32)).trans negTen

/-- The dense pass's row, lane by lane, from its running values. -/
theorem denseV_lane (r : Run (F := Ideal) O) :
    denseV O im r (ix3 (0 : Fin 1) (0 : Fin 1) o)
      = Scalar.select (Scalar.cmpi .ne (r.2.2.1 (ix2 (0 : Fin 1) o)) 0#32)
          (Scalar.select (im (ix2 (0 : Fin 1) o)) (r.1 (ix2 (0 : Fin 1) o)) (r.2.1 (ix2 (0 : Fin 1) o)))
          (Scalar.select (im (ix2 (0 : Fin 1) o)) (min (r.2.2.2 (ix2 (0 : Fin 1) o)) 10) (max (r.2.2.2 (ix2 (0 : Fin 1) o)) (-10))) := by
  unfold denseV
  refine (shapeCast_ab_1ab_apply _ _ 0 0 o).trans ?_
  rw [← negTen, ← ten]
  rfl

/-- The dense pass stores the node's value. -/
theorem dense_spec (p : ℕ) (hp : I = 2 ^ p) (hI : I < 2 ^ 32) (h0 : 0 < I) :
    Spec (im (ix2 (0 : Fin 1) o) = 1#1) (K.edges h0 (node O g s o)) (fun i => d6 (ix2 i (0 : Fin 1)))
      (denseV (F := Ideal) O im (runs O I C K g im d6 s (upTo C).trips) (ix3 (0 : Fin 1) (0 : Fin 1) o)) := by
  have hT : 16 * (upTo C).trips = I := BodyFacts.tripsC O
  have hany := runAt_any O I C K g im d6 s o (upTo C).trips
  rw [hT] at hany
  rw [denseV_lane O I C im o]
  by_cases hh : ∃ i : Fin I, K.hit I (node O g s o) i.val
  · obtain ⟨i0, hi0⟩ := hh
    have he : ∀ i, K.edges h0 (node O g s o) i ↔ K.hit I (node O g s o) i.val :=
      fun i => ⟨fun h => h.resolve_right fun hc => hc.1 i0 hi0, Or.inl⟩
    rw [select_pos ((cmpi_ne_iff _ _).mpr fun hc => hany.mp hc i0.val i0.isLt hi0)]
    constructor
    · intro hm c
      rw [select_pos hm, runAt_least, hT]
      constructor
      · intro h
        refine ⟨h.1, fun i hi => ?_⟩
        have := h.2 i.val i.isLt
        rwa [contrib_hit O I K g im d6 s o _ ((he i).mp hi), inp_fin] at this
      · rintro ⟨h10, h⟩
        refine ⟨h10, fun i hi => ?_⟩
        by_cases hit : K.hit I (node O g s o) i
        · rw [contrib_hit O I K g im d6 s o _ hit]
          exact (h ⟨i, hi⟩ ((he ⟨i, hi⟩).mpr hit)).trans_eq (inp_fin I d6 ⟨i, hi⟩).symm
        · rwa [contrib_miss O I K g im d6 s o _ hit, offV_min _ _ _ hm]
    · intro hm c
      rw [select_neg hm, runAt_greatest, hT]
      constructor
      · intro h
        refine ⟨h.1, fun i hi => ?_⟩
        have := h.2 i.val i.isLt
        rwa [contrib_hit O I K g im d6 s o _ ((he i).mp hi), inp_fin] at this
      · rintro ⟨h10, h⟩
        refine ⟨h10, fun i hi => ?_⟩
        by_cases hit : K.hit I (node O g s o) i
        · rw [contrib_hit O I K g im d6 s o _ hit]
          exact (inp_fin I d6 ⟨i, hi⟩).trans_le (h ⟨i, hi⟩ ((he ⟨i, hi⟩).mpr hit))
        · rwa [contrib_miss O I K g im d6 s o _ hit, offV_max _ _ _ hm]
  · have hn : ∀ i < I, ¬K.hit I (node O g s o) i := fun i hi hc => hh ⟨⟨i, hi⟩, hc⟩
    have he : ∀ i, K.edges h0 (node O g s o) i ↔ i = K.forced I h0 (node O g s o) :=
      fun i => ⟨fun h => (h.resolve_left fun hc => hh ⟨i, hc⟩).2, fun h => Or.inr ⟨fun j hj => hh ⟨j, hj⟩, h⟩⟩
    rw [select_neg fun hc => (cmpi_ne_iff _ _).mp hc (hany.mpr hn)]
    have hf : (fword O I C K g s o).toNat = (K.forced I h0 (node O g s o)).val := forcedV_word O I C K g s o p hp hI
    rw [runAt_sum O I C K g im d6 s o hI _ hT.le, hT, hf, if_pos (K.forced I h0 (node O g s o)).isLt, inp_fin]
    constructor
    · intro hm c
      rw [select_pos hm, le_min_iff]
      exact ⟨fun h => ⟨h.2, fun i hi => (he i).mp hi ▸ h.1⟩, fun h => ⟨h.2 _ ((he _).mpr rfl), h.1⟩⟩
    · intro hm c
      rw [select_neg hm, max_le_iff]
      exact ⟨fun h => ⟨h.2, fun i hi => (he i).mp hi ▸ h.1⟩, fun h => ⟨h.2 _ ((he _).mpr rfl), h.1⟩⟩

end Chunks

end Cert.Proof
-- ==== Proof.Fast.lean ====
module

public import proofs.«01_k».proof.Proof.Dense
public import Idealize.ShloMosaic.Lib.IndicatorCount

/-!
# The fast path computes the layer's node values where a candidate settles them

The candidates of a sample are its least (or greatest) inputs. Where a candidate's edge is normal, the
least normal input is a candidate: everything else lies above every candidate.
-/

@[expose] public section
noncomputable section

namespace Cert.Proof

open Idealize.ShloMosaic Idealize.ShloMosaic.ValueIdx Idealize.ShloMosaic.Ideal

section Lane
variable {O : ℕ} [RowFacts O]

theorem pickV_lane {α : Type} (im : IVec (sRow O) 1) (lo hi : (sCol 32).Idx → α) (j : Fin 32) (o : Fin O) :
    pickV O im lo hi (ix2 j o) = Scalar.select (im (ix2 (0 : Fin 1) o)) (lo (ix2 j (0 : Fin 1))) (hi (ix2 j (0 : Fin 1))) := by
  change Scalar.select (broadcastTo (sBlk 32 O) (shapeCast (sRow O) im RowFacts.castRow) RowFacts.bRow32 (ix2 j o))
    (broadcastTo (sBlk 32 O) (shapeCast (sCol 32) lo (RowFacts.castCol32 O)) RowFacts.bCol32 (ix2 j o))
    (broadcastTo (sBlk 32 O) (shapeCast (sCol 32) hi (RowFacts.castCol32 O)) RowFacts.bCol32 (ix2 j o)) = _
  rw [shapeCast_self, shapeCast_self, shapeCast_self, bRow_lane, bCol_lane (by decide), bCol_lane (by decide)]

theorem cand_lane {α : Type} (v : sCand.Idx → α) (h : sCand.ShapeCasts (sCol 32)) (j : Fin 32) :
    shapeCast (sCol 32) v h (ix2 j (0 : Fin 1)) = v (ix3 (0 : Fin 1) j (0 : Fin 1)) := shapeCast_1ab_ab_apply v h j 0

theorem okV_lane (hit : IVec (sBlk 32 O) 1) (o : Fin O) :
    okV (F := Ideal) O hit (ix2 (0 : Fin 1) o) = 1#1 ↔ ∃ j : Fin 32, hit (ix2 j o) = 1#1 := by
  have h1 := anyCol hit RowFacts.red32 (.inl rfl) rfl o
  have e : okV (F := Ideal) O hit (ix2 (0 : Fin 1) o) = Scalar.cmpi .ne (Scalar.select _ 1#32 0#32) 0#32 :=
    congrArg (fun b => Scalar.cmpi .ne (Scalar.select b 1#32 0#32) 0#32) (castLane_lane _ RowFacts.castLane o)
  rw [e, cmpi_ne_iff]
  by_cases h : ∃ j : Fin 32, hit (ix2 j o) = 1#1
  · rw [select_pos (h1.mpr h)]
    exact ⟨fun _ => h, fun _ => by decide⟩
  · rw [select_neg (fun hc => h (h1.mp hc))]
    exact ⟨fun hc => absurd rfl hc, fun hc => absurd hc h⟩

theorem accV_lane (im : IVec (sRow O) 1) (hit : IVec (sBlk 32 O) 1) (vl vh : Vec Ideal sCand .f32) (o : Fin O) (c : EReal) :
    c ≤ accV (F := Ideal) O im hit vl vh (ix2 (0 : Fin 1) o)
      ↔ c ≤ 10 ∧ ∀ j : Fin 32, c ≤ Scalar.select (hit (ix2 j o))
          (Scalar.select (im (ix2 (0 : Fin 1) o)) (vl (ix3 (0 : Fin 1) j (0 : Fin 1)) : EReal) (0 - (vh (ix3 (0 : Fin 1) j (0 : Fin 1)) : EReal))) 10 := by
  refine le_min_iff.trans (and_congr (by change c ≤ Ideal.ofBits .f32 0x41200000#32 ↔ _; rw [ten])
    ((iff_of_eq (congrArg (c ≤ ·) (castLane_lane _ _ o))).trans
      ((le_colMin _ _ (.inl rfl) rfl o c).trans (forall_congr' fun j => iff_of_eq (congrArg (c ≤ ·) ?_)))))
  change Scalar.select (hit (ix2 j o)) (pickV O im _ _ (ix2 j o)) (Ideal.ofBits .f32 0x41200000#32) = _
  rw [pickV_lane, ten, cand_lane]
  have e : subf (F := Ideal) (broadcast (sCol 32) (Scalar.ofBits .f32 0x00000000#32)) (shapeCast (sCol 32) vh (RowFacts.castCand O)) (ix2 j (0 : Fin 1))
      = (0 - (vh (ix3 (0 : Fin 1) j (0 : Fin 1)) : EReal) : EReal) := by
    change Ideal.ofBits .f32 0x00000000#32 - shapeCast (sCol 32) vh (RowFacts.castCand O) (ix2 j (0 : Fin 1)) = _
    rw [ofBits_zero_f32, cand_lane]
  rw [e]

theorem fastV_lane (im : IVec (sRow O) 1) (hit : IVec (sBlk 32 O) 1) (vl vh : Vec Ideal sCand .f32) (o : Fin O)
    (hok : okV (F := Ideal) O hit (ix2 (0 : Fin 1) o) = 1#1) :
    fastV (F := Ideal) O im hit vl vh (ix3 (0 : Fin 1) (0 : Fin 1) o)
      = Scalar.select (im (ix2 (0 : Fin 1) o)) (accV (F := Ideal) O im hit vl vh (ix2 (0 : Fin 1) o) : EReal)
          (0 - (accV (F := Ideal) O im hit vl vh (ix2 (0 : Fin 1) o) : EReal)) := by
  unfold fastV
  refine (shapeCast_ab_1ab_apply _ _ 0 0 o).trans ((select_pos hok _ _).trans ?_)
  change Scalar.select (im (ix2 (0 : Fin 1) o)) (accV (F := Ideal) O im hit vl vh (ix2 (0 : Fin 1) o) : EReal)
    (Ideal.ofBits .f32 0x00000000#32 - (accV (F := Ideal) O im hit vl vh (ix2 (0 : Fin 1) o) : EReal)) = _
  rw [ofBits_zero_f32]

end Lane

/-! ## The candidates -/

/-- The candidates of one side: their edges, and every other input beyond them all. -/
structure Cands {I : ℕ} (x : Fin I → EReal) (rel : EReal → EReal → Prop) (w : Fin 32 → BitVec 32) (v : Fin 32 → EReal)
    (q : Fin 32 → Fin I) : Prop where
  word : ∀ j, w j = BitVec.ofNat 32 (q j).val
  value : ∀ j, v j = x (q j)
  rest : ∀ i, (∀ j, q j ≠ i) → ∀ j, rel (x (q j)) (x i)

section Sample
variable (O I : ℕ) (C : BitVec 32) [BodyFacts O I C] (K : Keys) (g : Fin 4)
  (d1 : sIn.Idx → Elt Ideal .i32) (d2 : sIn.Idx → Elt Ideal .f32) (im : IVec (sRow O) 1) (s : ℕ) (o : Fin O)

abbrev candAt {α : Type} (d : sIn.Idx → α) (s c : ℕ) (j : Fin 32) : α := cand d s c (ix3 (0 : Fin 1) j (0 : Fin 1))

theorem hitAt_lane (q : Fin I) (j : Fin 32)
    (hw : Scalar.select (im (ix2 (0 : Fin 1) o)) (candAt d1 s 0 j) (candAt d1 s 32 j) = BitVec.ofNat 32 q.val) :
    hitAt (F := Ideal) O I C K g d1 im s (ix2 j o) = 1#1 ↔ K.hit I (node O g s o) q.val := by
  have hc : (addi (broadcastTo (sBlk 32 O) (termV O I (gw g) (BitVec.ofNat 32 s)) RowFacts.bRow32)
      (pickV O im (shapeCast (sCol 32) (cand d1 s 0) (RowFacts.castCand O)) (shapeCast (sCol 32) (cand d1 s 32) (RowFacts.castCand O)))) (ix2 j o)
      = BitVec.ofNat 32 (node O g s o * I + q.val) := by
    change broadcastTo (sBlk 32 O) (termV O I (gw g) (BitVec.ofNat 32 s)) RowFacts.bRow32 (ix2 j o)
      + pickV O im (shapeCast (sCol 32) (cand d1 s 0) (RowFacts.castCand O)) (shapeCast (sCol 32) (cand d1 s 32) (RowFacts.castCand O)) (ix2 j o) = _
    rw [bRow_lane, termV_lane, pickV_lane, cand_lane, cand_lane, hw, ← BitVec.ofNat_add]
  change Scalar.cmpi .ult (bitsW K.a K.b K.c (_)) 2147483648#32 = 1#1 ↔ _
  rw [cmpi_ult_iff]
  unfold Keys.hit
  rw [← hc]
  rfl

/-- A settled lane of the fast path holds the node's value. -/
theorem fast_spec (h0 : 0 < I) (x : Fin I → EReal)
    (q q' : Fin 32 → Fin I)
    (hl : Cands x (· ≤ ·) (candAt d1 s 0) (candAt d2 s 0) q)
    (hh : Cands x (· ≥ ·) (candAt d1 s 32) (candAt d2 s 32) q')
    (hok : okV (F := Ideal) O (hitAt (F := Ideal) O I C K g d1 im s) (ix2 (0 : Fin 1) o) = 1#1) :
    Spec (im (ix2 (0 : Fin 1) o) = 1#1) (K.edges h0 (node O g s o)) x
      (fastAt (F := Ideal) O I C K g d1 d2 im s (ix3 (0 : Fin 1) (0 : Fin 1) o)) := by
  unfold fastAt
  rw [fastV_lane _ _ _ _ _ hok]
  obtain ⟨j0, hj0⟩ := (okV_lane _ _).mp hok
  constructor
  · intro hm c
    have hit : ∀ j, hitAt (F := Ideal) O I C K g d1 im s (ix2 j o) = 1#1 ↔ K.hit I (node O g s o) (q j).val :=
      fun j => hitAt_lane O I C K g d1 im s o (q j) j ((select_pos hm _ _).trans (hl.word j))
    have he : ∀ i, K.edges h0 (node O g s o) i ↔ K.hit I (node O g s o) i.val :=
      fun i => ⟨fun h => h.resolve_right fun hc => hc.1 (q j0) ((hit j0).mp hj0), Or.inl⟩
    rw [select_pos hm, accV_lane]
    constructor
    · rintro ⟨h10, h⟩
      refine ⟨h10, fun i hi => ?_⟩
      have hval : ∀ j, K.hit I (node O g s o) (q j).val → c ≤ x (q j) := fun j hj => by
        have := h j
        rw [select_pos ((hit j).mpr hj), select_pos hm] at this
        exact this.trans_eq (hl.value j)
      by_cases hr : ∃ j, q j = i
      · obtain ⟨j, rfl⟩ := hr
        exact hval j ((he _).mp hi)
      · exact (hval j0 ((hit j0).mp hj0)).trans (hl.rest i (fun j hj => hr ⟨j, hj⟩) j0)
    · rintro ⟨h10, h⟩
      have hv : ∀ j, hitAt (F := Ideal) O I C K g d1 im s (ix2 j o) = 1#1 → c ≤ x (q j) :=
        fun j hj => h (q j) ((he _).mpr ((hit j).mp hj))
      refine ⟨h10, fun j => ?_⟩
      by_cases hj : hitAt (F := Ideal) O I C K g d1 im s (ix2 j o) = 1#1
      · rw [select_pos hj, select_pos hm]; exact (hv j hj).trans_eq (hl.value j).symm
      · rw [select_neg hj]; exact h10
  · intro hm c
    have hit : ∀ j, hitAt (F := Ideal) O I C K g d1 im s (ix2 j o) = 1#1 ↔ K.hit I (node O g s o) (q' j).val :=
      fun j => hitAt_lane O I C K g d1 im s o (q' j) j ((select_neg hm _ _).trans (hh.word j))
    have he : ∀ i, K.edges h0 (node O g s o) i ↔ K.hit I (node O g s o) i.val :=
      fun i => ⟨fun h => h.resolve_right fun hc => hc.1 (q' j0) ((hit j0).mp hj0), Or.inl⟩
    rw [select_neg hm, zero_sub, EReal.neg_le, accV_lane]
    constructor
    · rintro ⟨h10, h⟩
      refine ⟨EReal.neg_le.mp h10, fun i hi => ?_⟩
      have hval : ∀ j, K.hit I (node O g s o) (q' j).val → x (q' j) ≤ c := fun j hj => by
        have := h j
        rw [select_pos ((hit j).mpr hj), select_neg hm, zero_sub, EReal.neg_le_neg_iff] at this
        exact (hh.value j).symm.trans_le this
      by_cases hr : ∃ j, q' j = i
      · obtain ⟨j, rfl⟩ := hr
        exact hval j ((he _).mp hi)
      · exact (hh.rest i (fun j hj => hr ⟨j, hj⟩) j0).le.trans (hval j0 ((hit j0).mp hj0))
    · rintro ⟨h10, h⟩
      have hv : ∀ j, hitAt (F := Ideal) O I C K g d1 im s (ix2 j o) = 1#1 → x (q' j) ≤ c :=
        fun j hj => h (q' j) ((he _).mpr ((hit j).mp hj))
      have h10 : -c ≤ 10 := EReal.neg_le.mpr h10
      refine ⟨h10, fun j => ?_⟩
      by_cases hj : hitAt (F := Ideal) O I C K g d1 im s (ix2 j o) = 1#1
      · rw [select_pos hj, select_neg hm, zero_sub, EReal.neg_le_neg_iff]; exact (hh.value j).trans_le (hv j hj)
      · rw [select_neg hj]; exact h10

/-! ## The count of unsettled lanes -/

/-- Some sample before `n` left the lane unsettled. -/
def unsettled (n : ℕ) : IVec (sRow O) 1 :=
  match n with
  | 0 => fun _ => 0#1
  | n + 1 => select (okV (F := Ideal) O (hitAt (F := Ideal) O I C K g d1 im n)) (unsettled n) (fun _ => 1#1)

theorem badAt_eq (n : ℕ) :
    badAt (F := Ideal) O I C K g d1 im n = fun i => (unsettled O I C K g d1 im n i).setWidth 32 := by
  induction n with
  | zero => rfl
  | succ n ih =>
    funext i
    unfold badAt badV unsettled
    rw [ih]
    change Scalar.select (okV (F := Ideal) O (hitAt (F := Ideal) O I C K g d1 im n) i) ((unsettled O I C K g d1 im n i).setWidth 32) 1#32
      = BitVec.setWidth 32 (Scalar.select (okV (F := Ideal) O (hitAt (F := Ideal) O I C K g d1 im n) i) (unsettled O I C K g d1 im n i) 1#1)
    by_cases h : okV (F := Ideal) O (hitAt (F := Ideal) O I C K g d1 im n) i = 1#1
    · rw [select_pos h, select_pos h]
    · rw [select_neg h, select_neg h]; rfl

theorem unsettled_of (n s : ℕ) (hs : s < n) (i : (sRow O).Idx)
    (h : okV (F := Ideal) O (hitAt (F := Ideal) O I C K g d1 im s) i ≠ 1#1) : unsettled O I C K g d1 im n i = 1#1 := by
  induction n with
  | zero => omega
  | succ n ih =>
    unfold unsettled
    change Scalar.select (okV (F := Ideal) O (hitAt (F := Ideal) O I C K g d1 im n) i) (unsettled O I C K g d1 im n i) 1#1 = _
    by_cases hn : okV (F := Ideal) O (hitAt (F := Ideal) O I C K g d1 im n) i = 1#1
    · rw [select_pos hn]
      exact ih (by
        rcases Nat.lt_succ_iff_lt_or_eq.mp hs with h' | h'
        · exact h'
        · subst h'; exact absurd hn h)
    · exact select_neg hn _ _

omit [BodyFacts O I C] in
theorem anyBad_of [RowFacts O] (p : IVec (sRow O) 1) (hO : O < 2 ^ 31) (hp : p (ix2 (0 : Fin 1) o) = 1#1) :
    anyBad O (fun i => (p i).setWidth 32) = 1#1 := by
  classical
  have hsub : ∀ i j : (⟨1, ![1]⟩ : Shape).Idx, i = j := fun i j => funext fun a => by
    match a with
    | ⟨0, _⟩ => exact Fin.ext (by have h1 : (i 0).val < 1 := (i 0).isLt; have h2 : (j 0).val < 1 := (j 0).isLt; change (i 0).val = (j 0).val; omega)
  set S : Finset (sOut O).Idx := Finset.univ.filter fun i => (RowFacts.redAll (O := O)).drop i = ix1 (0 : Fin 1)
  set q : (sOut O).Idx → BitVec 1 := shapeCast (sOut O) p RowFacts.castOut
  have htot : multiReductionI .add [1, 2] (⟨1, ![1]⟩ : Shape) (shapeCast (sOut O) (fun i => (p i).setWidth 32) RowFacts.castOut) 0#32 RowFacts.redAll rfl (ix1 (0 : Fin 1))
      = BitVec.ofNat 32 (S.filter fun i => q i = 1#1).card := by
    refine (multiReductionI_eq_fold _ _ _ _ _ _).trans ?_
    exact IndicatorCount.fold_addi_setWidth_eq_card (w := 32) q S
  set N := (S.filter fun i => q i = 1#1).card
  have hpos : 0 < N := Finset.card_pos.mpr ⟨ix3 (0 : Fin 1) (0 : Fin 1) o, by
    simp only [S, Finset.mem_filter, Finset.mem_univ, true_and]
    exact ⟨hsub _ _, (shapeCast_ab_1ab_apply p _ 0 0 o).trans hp⟩⟩
  have hle : N ≤ O := by
    have h1 : N ≤ (Finset.univ : Finset (sOut O).Idx).card := Finset.card_le_card (Finset.subset_univ _)
    rw [Finset.card_univ, ← Fintype.card_congr ((sOut O).rowMajor).symm, Fintype.card_fin] at h1
    have h2 : (sOut O).numel = O := by simp [Shape.numel, Fin.prod_univ_succ]
    omega
  have hw : extractAt ![0, 0, 0] (shapeCast (⟨3, ![1, 1, 1]⟩ : Shape)
        (multiReductionI .add [1, 2] (⟨1, ![1]⟩ : Shape) (shapeCast (sOut O) (fun i => (p i).setWidth 32) RowFacts.castOut) 0#32 RowFacts.redAll rfl)
        (RowFacts.castOne O)) (RowFacts.atOne O) = BitVec.ofNat 32 N := (congrArg _ (hsub _ _)).trans htot
  unfold anyBad
  rw [hw]
  have hs : Scalar.cmpi .sgt (BitVec.ofNat 32 N) 0#32 = 1#1 := by
    change BitVec.ofBool ((0#32).slt (BitVec.ofNat 32 N)) = 1#1
    have : (0#32).slt (BitVec.ofNat 32 N) = true := by
      rw [BitVec.slt, decide_eq_true_iff, BitVec.toInt_eq_toNat_of_lt (x := BitVec.ofNat 32 N) (by rw [BitVec.toNat_ofNat, Nat.mod_eq_of_lt (by omega)]; omega), BitVec.toNat_ofNat,
        Nat.mod_eq_of_lt (by omega)]
      exact Int.ofNat_lt.mpr hpos
    rw [this]; rfl
  rw [hs]; rfl

/-- Where the count asks for no dense pass, every lane of every sample is settled. -/
theorem settled (hO : O < 2 ^ 31) (h : anyBad O (badAt (F := Ideal) O I C K g d1 im 16) ≠ 1#1) (hs : s < 16) :
    okV (F := Ideal) O (hitAt (F := Ideal) O I C K g d1 im s) (ix2 (0 : Fin 1) o) = 1#1 := by
  by_contra hc
  refine h ?_
  rw [badAt_eq]
  exact anyBad_of O o _ hO (unsettled_of O I C K g d1 im 16 s hs _ hc)

end Sample

end Cert.Proof
-- ==== Proof.Cand.lean ====
module

public import proofs.«01_k».proof.Proof.Fast
public import Idealize.ShloMosaic.Lib.SortFacts

/-!
# The candidates

The host sorts the rows of the negated inputs and of the inputs themselves, greatest first, and keeps
the first thirty-two of each. Nothing it leaves out lies below a kept low one or above a kept high one.
-/

@[expose] public section
noncomputable section

namespace Cert.Proof

open Idealize.ShloMosaic Idealize.ShloMosaic.ValueIdx Idealize.ShloMosaic.Ideal

/-- Two indices are equal where their coordinates are. -/
theorem ix2_ext {a b : ℕ} {i j : (⟨2, ![a, b]⟩ : Shape).Idx} (h0 : i 0 = j 0) (h1 : i 1 = j 1) : i = j :=
  funext fun k => match k with
    | ⟨0, _⟩ => h0
    | ⟨1, _⟩ => h1

abbrev sM (n I : ℕ) : Shape := ⟨2, ![n, I]⟩

theorem along_row {n I : ℕ} (r : Fin n) (j k : Fin I) (h : 1 < (sM n I).rank) : (ix2 r j).along ⟨1, h⟩ k = ix2 r k :=
  ix2_ext (Function.update_of_ne (by simp) _ _) (Function.update_self _ _ _)

section
variable {I : ℕ}

/-- The order in which a row's entries come, greatest first. -/
def rank (c : (sM 128 I).Idx → EReal) (r : Fin 128) : Fin I → Fin I :=
  sortedFrom fun k k' => Ideal.cmp .ogt (c (ix2 r k)) (c (ix2 r k')) == 1#1

section
variable (c : (sM 128 I).Idx → EReal) (h : (sM 128 I).Slices (fun _ => 0) (sM 128 32))

theorem rank_along (r : Fin 128) (j : Fin I) (h : 1 < (sM 128 I).rank) :
    sortedFrom (fun k k' : Fin I => FloatOps.cmpfTotal (F := Ideal) (φ := .f32) .gt (c ((ix2 r j).along ⟨1, h⟩ k))
      (c ((ix2 r j).along ⟨1, h⟩ k')) == 1#1) = rank c r :=
  congrArg sortedFrom (funext fun k => funext fun k' => by
    rw [along_row r j k h, along_row r j k' h]
    rfl)

theorem topK_value (r : Fin 128) (j : Fin 32) (hI : 32 ≤ I) :
    (Host.topK (sM 128 32) 1 (FloatOps.cmpfTotal (F := Ideal) (φ := .f32) .gt) c h).1 (ix2 r j) = c (ix2 r (rank c r (j.castLE hI))) := by
  unfold Host.topK Host.sort2
  dsimp only
  rw [dif_pos (show (1 : ℕ) < (sM 128 I).rank from Nat.lt_succ_self 1)]
  refine (extractStridedSlice_apply _ _ h (ix2 r j) (ix2 r (j.castLE hI)) (fun a => ?_)).trans ?_
  · match a with
    | ⟨0, _⟩ => exact (Nat.zero_add _).symm
    | ⟨1, _⟩ => exact (Nat.zero_add _).symm
  · exact (congrArg c (along_row r _ _ _)).trans (congrArg (fun f => c (ix2 r (f (j.castLE hI)))) (rank_along c r _ _))

theorem topK_place (r : Fin 128) (j : Fin 32) (hI : 32 ≤ I) :
    (Host.topK (sM 128 32) 1 (FloatOps.cmpfTotal (F := Ideal) (φ := .f32) .gt) c h).2 (ix2 r j)
      = BitVec.ofNat 32 (rank c r (j.castLE hI)).val := by
  unfold Host.topK Host.sort2
  dsimp only
  rw [dif_pos (show (1 : ℕ) < (sM 128 I).rank from Nat.lt_succ_self 1)]
  refine (extractStridedSlice_apply _ _ h (ix2 r j) (ix2 r (j.castLE hI)) (fun a => ?_)).trans ?_
  · match a with
    | ⟨0, _⟩ => exact (Nat.zero_add _).symm
    | ⟨1, _⟩ => exact (Nat.zero_add _).symm
  · dsimp only
    rw [dif_pos (show 1 < 2 from Nat.lt_succ_self 1)]
    refine (congrArg (fun i : (sM 128 I).Idx => BitVec.ofNat 32 (i 1).val) (along_row r _ _ _)).trans ?_
    exact congrArg (fun f : Fin I → Fin I => BitVec.ofNat 32 (f (j.castLE hI)).val) (rank_along c r _ _)

/-- What the first thirty-two leave out is at most each of them. -/
theorem rank_rest (r : Fin 128) (hI : 32 ≤ I) (i : Fin I) (hi : ∀ j : Fin 32, rank c r (j.castLE hI) ≠ i) (j : Fin 32) :
    c (ix2 r i) ≤ c (ix2 r (rank c r (j.castLE hI))) := by
  obtain ⟨n, rfl⟩ := sortedFrom_surjective (fun k k' => Ideal.cmp .ogt (c (ix2 r k)) (c (ix2 r k')) == 1#1) i
  have hn : 32 ≤ n.val := by
    by_contra hc
    exact hi ⟨n.val, by omega⟩ rfl
  have key : ∀ a b : EReal, (Ideal.cmp .ogt a b == 1#1) = decide (b < a) := fun a b => by
    unfold Ideal.cmp
    by_cases h : b < a <;> simp [h]
  have h := sortedFrom_noInversion (fun k k' => Ideal.cmp .ogt (c (ix2 r k)) (c (ix2 r k')) == 1#1)
    (fun k k' => Ideal.cmp .ogt (c (ix2 r k)) (c (ix2 r k')) == 1#1)
    (fun a b hab => by simp only [key, decide_eq_true_eq, decide_eq_false_iff_not, not_lt] at hab ⊢; exact hab.le)
    (fun a b hab => hab)
    (fun a b d hab hbd => by simp only [key, decide_eq_false_iff_not, not_lt] at hab hbd ⊢; exact hab.trans hbd)
    (j.castLE hI) n (by show j.val < n.val; omega)
  rw [key] at h
  exact not_lt.mp (of_decide_eq_false h)

end

/-! ## The host's candidate arrays -/

variable (x : (sM 64 I).Idx → EReal)

/-- The rows sorted: the negated inputs, then the inputs. -/
def sorts (h : Shape.Concatenates [sM 64 I, sM 64 I] (sM 128 I) 0) : (sM 128 I).Idx → EReal :=
  concatenate (sM 128 I) 0 [⟨sM 64 I, Host.negf (F := Ideal) (φ := .f32) x⟩, ⟨sM 64 I, x⟩] h

theorem sorts_low (h : Shape.Concatenates [sM 64 I, sM 64 I] (sM 128 I) 0) (b : Fin 64) (i : Fin I) :
    sorts x h (ix2 (b.castLE (by decide)) i) = -x (ix2 b i) :=
  concatenate_pair_apply_left 0 _ _ h _ rfl (ix2 b i) fun a => match a with
    | ⟨0, _⟩ => rfl
    | ⟨1, _⟩ => rfl

theorem sorts_high (h : Shape.Concatenates [sM 64 I, sM 64 I] (sM 128 I) 0) (b : Fin 64) (i : Fin I) :
    sorts x h (ix2 (b.natAdd 64 : Fin 128) i) = x (ix2 b i) :=
  concatenate_pair_apply_right 0 _ _ h _ rfl rfl (ix2 b i)
    (fun a ha => match a with
      | ⟨0, _⟩ => absurd rfl ha
      | ⟨1, _⟩ => rfl)
    (Nat.add_comm _ _)

/-- The low candidates beside the high ones, as the launch takes them. -/
def beside {α : Type} (lo hi : (sM 64 32).Idx → α) (h : Shape.Concatenates [sM 64 32, sM 64 32] (sM 64 64) 1)
    (hr : (sM 64 64).ShapeCasts ⟨3, ![64, 64, 1]⟩) : (⟨3, ![64, 64, 1]⟩ : Shape).Idx → α :=
  shapeCast _ (concatenate (sM 64 64) 1 [⟨sM 64 32, lo⟩, ⟨sM 64 32, hi⟩] h) hr

section
variable {α : Type} (lo hi : (sM 64 32).Idx → α) (h : Shape.Concatenates [sM 64 32, sM 64 32] (sM 64 64) 1)
  (hr : (sM 64 64).ShapeCasts ⟨3, ![64, 64, 1]⟩) (b : Fin 64) (j : Fin 32)

theorem beside_low : beside lo hi h hr (ix3 b (j.castLE (by decide)) (0 : Fin 1)) = lo (ix2 b j) := by
  unfold beside
  rw [shapeCast_apply _ hr (ix3 b (j.castLE (by decide)) (0 : Fin 1)) (ix2 b (j.castLE (by decide) : Fin 64))
    (by rw [Shape.rowMajor_val_two, Shape.rowMajor_val_three]; simp)]
  exact concatenate_pair_apply_left 1 _ _ h _ rfl (ix2 b j) fun a => match a with
    | ⟨0, _⟩ => rfl
    | ⟨1, _⟩ => rfl

theorem beside_high : beside lo hi h hr (ix3 b (j.natAdd 32 : Fin 64) (0 : Fin 1)) = hi (ix2 b j) := by
  unfold beside
  rw [shapeCast_apply _ hr (ix3 b (j.natAdd 32 : Fin 64) (0 : Fin 1)) (ix2 b (j.natAdd 32 : Fin 64))
    (by rw [Shape.rowMajor_val_two, Shape.rowMajor_val_three]; simp)]
  exact concatenate_pair_apply_right 1 _ _ h _ rfl rfl (ix2 b j)
    (fun a ha => match a with
      | ⟨0, _⟩ => rfl
      | ⟨1, _⟩ => absurd rfl ha)
    (Nat.add_comm _ _)

end

/-- The shapes of the host's steps fit. -/
class HostFacts (I : ℕ) : Prop where
  pair : Shape.Concatenates [sM 64 I, sM 64 I] (sM 128 I) 0
  top : (sM 128 I).Slices (fun _ => 0) (sM 128 32)
  lower : (sM 128 32).Slices ![0, 0] (sM 64 32)
  upper : (sM 128 32).Slices ![64, 0] (sM 64 32)
  cols : Shape.Concatenates [sM 64 32, sM 64 32] (sM 64 64) 1
  cast : (sM 64 64).ShapeCasts ⟨3, ![64, 64, 1]⟩
  many : 32 ≤ I

variable [HostFacts I]

/-- The thirty-two greatest of each sorted row, with their places. -/
def tops := Host.topK (sM 128 32) 1 (FloatOps.cmpfTotal (F := Ideal) (φ := .f32) .gt) (sorts x HostFacts.pair) HostFacts.top

/-- The candidates' places, as the launch takes them. -/
def places : (⟨3, ![64, 64, 1]⟩ : Shape).Idx → BitVec 32 :=
  beside (extractStridedSlice (sM 64 32) ![0, 0] (tops x).2 (HostFacts.lower I)) (extractStridedSlice (sM 64 32) ![64, 0] (tops x).2 (HostFacts.upper I))
    (HostFacts.cols I) (HostFacts.cast I)

/-- The candidates' values, as the launch takes them. -/
def values : (⟨3, ![64, 64, 1]⟩ : Shape).Idx → EReal :=
  beside (Host.negf (F := Ideal) (φ := .f32) (extractStridedSlice (sM 64 32) ![0, 0] (tops x).1 (HostFacts.lower I)))
    (extractStridedSlice (sM 64 32) ![64, 0] (tops x).1 (HostFacts.upper I)) (HostFacts.cols I) (HostFacts.cast I)

theorem cut_low {α : Type} (v : (sM 128 32).Idx → α) (h : (sM 128 32).Slices ![0, 0] (sM 64 32)) (b : Fin 64) (j : Fin 32) :
    extractStridedSlice (sM 64 32) ![0, 0] v h (ix2 b j) = v (ix2 (b.castLE (by decide)) j) :=
  extractStridedSlice_apply _ _ h _ _ fun a => match a with
    | ⟨0, _⟩ => (Nat.zero_add _).symm
    | ⟨1, _⟩ => (Nat.zero_add _).symm

theorem cut_high {α : Type} (v : (sM 128 32).Idx → α) (h : (sM 128 32).Slices ![64, 0] (sM 64 32)) (b : Fin 64) (j : Fin 32) :
    extractStridedSlice (sM 64 32) ![64, 0] v h (ix2 b j) = v (ix2 (b.natAdd 64 : Fin 128) j) :=
  extractStridedSlice_apply _ _ h _ _ fun a => match a with
    | ⟨0, _⟩ => rfl
    | ⟨1, _⟩ => (Nat.zero_add _).symm

variable (b : Fin 64)

/-- The low candidates of a sample are its least inputs. -/
theorem lowCands : ∃ q, Cands (fun i => x (ix2 b i)) (· ≤ ·) (fun j => places x (ix3 b (j.castLE (by decide)) (0 : Fin 1)))
    (fun j => values x (ix3 b (j.castLE (by decide)) (0 : Fin 1))) q := by
  refine ⟨fun j => rank (sorts x HostFacts.pair) (b.castLE (by decide)) (j.castLE HostFacts.many), ⟨fun j => ?_, fun j => ?_, fun i hi j => ?_⟩⟩
  · refine (beside_low _ _ _ _ b j).trans ((cut_low _ _ b j).trans ?_)
    exact topK_place _ _ _ j _
  · refine (beside_low _ _ _ _ b j).trans ?_
    refine (congrArg (fun y : EReal => -y) ((cut_low _ _ b j).trans (topK_value _ _ _ j HostFacts.many))).trans ?_
    rw [sorts_low, neg_neg]
  · have h := rank_rest (sorts x HostFacts.pair) (b.castLE (by decide)) HostFacts.many i hi j
    rw [sorts_low, sorts_low] at h
    exact EReal.neg_le_neg_iff.mp h

/-- The high candidates of a sample are its greatest inputs. -/
theorem highCands : ∃ q, Cands (fun i => x (ix2 b i)) (· ≥ ·) (fun j => places x (ix3 b (j.natAdd 32 : Fin 64) (0 : Fin 1)))
    (fun j => values x (ix3 b (j.natAdd 32 : Fin 64) (0 : Fin 1))) q := by
  refine ⟨fun j => rank (sorts x HostFacts.pair) (b.natAdd 64) (j.castLE HostFacts.many), ⟨fun j => ?_, fun j => ?_, fun i hi j => ?_⟩⟩
  · refine (beside_high _ _ _ _ b j).trans ((cut_high _ _ b j).trans ?_)
    exact topK_place _ _ _ j _
  · refine (beside_high _ _ _ _ b j).trans ((cut_high _ _ b j).trans ?_)
    exact (topK_value _ _ _ j HostFacts.many).trans (sorts_high _ _ _ _)
  · have h := rank_rest (sorts x HostFacts.pair) (b.natAdd 64) HostFacts.many i hi j
    rwa [sorts_high, sorts_high] at h

end

end Cert.Proof
end
-- ==== Proof.Block.lean ====
module

public import proofs.«01_k».proof.Proof.Window
public import proofs.«01_k».proof.Proof.Cand

/-!
# A grid point's block holds its samples' node values
-/

@[expose] public section
noncomputable section

namespace Cert.Proof

open Idealize.ShloMosaic Idealize.ShloMosaic.ValueIdx

section
variable (O I : ℕ) (C : BitVec 32) [BodyFacts O I C] [HostFacts I] (K : Keys)
variable (x : (sM 64 I).Idx → EReal) (im : Fin O → BitVec 1) (t : Fin 4)
variable (d1 : sIn.Idx → BitVec 32) (d2 : sIn.Idx → EReal) (d3 : (sX I).Idx → EReal) (d4 : (sRow O).Idx → BitVec 32) (d5 : (sRes O).Idx → EReal)

theorem minV_iff (h4 : ∀ (z : Fin 1) o, d4 (ix2 z o) = (im o).setWidth 32) (o : Fin O) :
    minV (F := Ideal) O d4 (ix2 (0 : Fin 1) o) = 1#1 ↔ im o = 1#1 := by
  change Scalar.cmpi .ne (shapeCast (sRow O) d4 _ (ix2 (0 : Fin 1) o)) 0#32 = 1#1 ↔ _
  rw [shapeCast_self, h4, cmpi_ne_iff]
  generalize im o = b
  revert b
  decide

theorem candAt_low {α : Type} (d : sIn.Idx → α) (s : Fin 16) (j : Fin 32) :
    candAt d s.val 0 j = d (ix3 s (j.castLE (by decide)) (0 : Fin 1)) :=
  congrArg d (place3 (Nat.mod_eq_of_lt s.isLt) (by show (0 + j.val) % 64 = j.val; omega) rfl)

theorem candAt_high {α : Type} (d : sIn.Idx → α) (s : Fin 16) (j : Fin 32) :
    candAt d s.val 32 j = d (ix3 s (j.natAdd 32 : Fin 64) (0 : Fin 1)) :=
  congrArg d (place3 (Nat.mod_eq_of_lt s.isLt) (by show (32 + j.val) % 64 = 32 + j.val; omega) rfl)

theorem block_spec (p : ℕ) (hp : I = 2 ^ p) (hI : I < 2 ^ 32) (h0 : 0 < I) (hO : O < 2 ^ 31)
    (h1 : ∀ s j z, d1 (ix3 s j z) = places x (ix3 (at16 t s) j z))
    (h2 : ∀ s j z, d2 (ix3 s j z) = values x (ix3 (at16 t s) j z))
    (h3 : ∀ b i z, d3 (ix3 b i z) = x (ix2 b i))
    (h4 : ∀ (z : Fin 1) o, d4 (ix2 z o) = (im o).setWidth 32)
    (s : Fin 16) (o : Fin O) :
    Spec (im o = 1#1) (K.edges h0 ((at16 t s).val * O + o.val)) (fun i => x (ix2 (at16 t s) i))
      (blockOut (F := Ideal) O I C K t d1 d2 d3 d4 d5 (ix3 s (0 : Fin 1) o)) := by
  have hn : (at16 t s).val * O + o.val = node O t s.val o := by
    show (16 * t.val + s.val) * O + o.val = (t.val * 16 + s.val) * O + o.val
    rw [Nat.mul_comm 16]
  rw [blockOut_row, hn, ← propext (minV_iff O I C im d4 h4 o)]
  have hy : inRow (ix3 s (0 : Fin 1) o) = ix3 (0 : Fin 1) (0 : Fin 1) o := place3 rfl rfl rfl
  rw [hy]
  show Spec _ _ _ (if _ then denseAt (F := Ideal) O I C K t _ d3 s.val _ else fastAt (F := Ideal) O I C K t d1 d2 _ s.val _)
  split
  · have hr : ∀ i : Fin I, rowAt (F := Ideal) I t d3 s.val (ix2 i (0 : Fin 1)) = x (ix2 (at16 t s) i) := fun i => by
      unfold rowAt
      refine (congrArg d3 (place3 ?_ ?_ ?_)).trans (h3 (at16 t s) i 0)
      · show (16 * t.val + s.val) % 64 = 16 * t.val + s.val
        omega
      · rfl
      · rfl
    have h := dense_spec O I C K t (minV (F := Ideal) O d4) (rowAt (F := Ideal) I t d3 s.val) s.val o p hp hI h0
    simp only [hr] at h
    unfold denseAt
    rw [iv_word]
    exact h
  · rename_i hb
    obtain ⟨q, hq⟩ := lowCands x (at16 t s)
    obtain ⟨q', hq'⟩ := highCands x (at16 t s)
    refine fast_spec O I C K t d1 d2 (minV (F := Ideal) O d4) s.val o h0 (fun i => x (ix2 (at16 t s) i)) q q' ?_ ?_
      (settled O I C K t d1 (minV (F := Ideal) O d4) s.val o hO hb s.isLt)
    · have e1 : candAt d1 s.val 0 = fun j => places x (ix3 (at16 t s) (j.castLE (by decide)) (0 : Fin 1)) :=
        funext fun j => (candAt_low d1 s j).trans (h1 _ _ _)
      have e2 : candAt d2 s.val 0 = fun j => values x (ix3 (at16 t s) (j.castLE (by decide)) (0 : Fin 1)) :=
        funext fun j => (candAt_low d2 s j).trans (h2 _ _ _)
      rw [e1, e2]; exact hq
    · have e1 : candAt d1 s.val 32 = fun j => places x (ix3 (at16 t s) (j.natAdd 32 : Fin 64) (0 : Fin 1)) :=
        funext fun j => (candAt_high d1 s j).trans (h1 _ _ _)
      have e2 : candAt d2 s.val 32 = fun j => values x (ix3 (at16 t s) (j.natAdd 32 : Fin 64) (0 : Fin 1)) :=
        funext fun j => (candAt_high d2 s j).trans (h2 _ _ _)
      rw [e1, e2]; exact hq'

end

end Cert.Proof
end
-- ==== Proof.Host.lean ====
module

public import proofs.«01_k».proof.Proof.Launch
public import proofs.«01_k».proof.Proof.Block

/-!
# What the launches take in, and what they leave

Each launch takes the candidates of its inputs, the inputs and the mask, and leaves its layer's values.
-/

@[expose] public section
noncomputable section

namespace Cert.Proof

open Idealize.ShloMosaic Idealize.ShloMosaic.StableHlo Idealize.ShloMosaic.TcCoe Idealize.ShloMosaic.ValueIdx Cert.KernelIdeal Cert.KernelIdeal.Gen

instance : HostFacts 1024 where
  pair := concatenates_S64x1024_S64x1024_S128x1024_d0
  top := sliceFits_S128x1024_S128x32
  lower := slices_S128x32_S64x32_0_0
  upper := slices_S128x32_S64x32_64_0
  cols := concatenates_S64x32_S64x32_S64x64_d1
  cast := shapeCasts_S64x64_S64x64x1
  many := by decide

instance : HostFacts 512 where
  pair := concatenates_S64x512_S64x512_S128x512_d0
  top := sliceFits_S128x512_S128x32
  lower := slices_S128x32_S64x32_0_0
  upper := slices_S128x32_S64x32_64_0
  cols := concatenates_S64x32_S64x32_S64x64_d1
  cast := shapeCasts_S64x64_S64x64x1
  many := by decide

/-- An input where the launch takes it. -/
theorem input_apply {I : ℕ} (x : (sM 64 I).Idx → EReal) (h : (sM 64 I).ShapeCasts (sX I)) (b : Fin 64) (i : Fin I) (z : Fin 1) :
    shapeCast (sX I) x h (ix3 b i z) = x (ix2 b i) :=
  shapeCast_apply x h _ _ (by rw [Shape.rowMajor_val_two, Shape.rowMajor_val_three]; simp; rfl)

/-- A node's mask where the launch takes it. -/
theorem mask_apply {O : ℕ} (im : (⟨1, ![O]⟩ : Shape).Idx → BitVec 1) (h : (⟨1, ![O]⟩ : Shape).ShapeCasts (sRow O)) (z : Fin 1) (o : Fin O) :
    shapeCast (sRow O) (extui 32 im natLt_1_32) h (ix2 z o) = (im (ix1 o)).setWidth 32 :=
  shapeCast_apply (extui 32 im natLt_1_32) h _ (ix1 o) (by rw [Shape.rowMajor_val_one, Shape.rowMajor_val_two]; simp; rfl)

/-- A result where the launch leaves it. -/
theorem result_apply {O : ℕ} (y : (⟨3, ![64, 1, O]⟩ : Shape).Idx → EReal) (h : (⟨3, ![64, 1, O]⟩ : Shape).ShapeCasts (sM 64 O))
    (b : Fin 64) (o : Fin O) : shapeCast (sM 64 O) y h (ix2 b o) = y (ix3 b (0 : Fin 1) o) :=
  shapeCast_apply y h _ _ (by rw [Shape.rowMajor_val_two, Shape.rowMajor_val_three]; simp; rfl)

/-- The grid point a sample belongs to, and its row there. -/
def pointOf (b : Fin 64) : Fin 4 := ⟨b.val / 16, by omega⟩
def lineOf (b : Fin 64) : Fin 16 := ⟨b.val % 16, by omega⟩

theorem split16 (b : Fin 64) : at16 (pointOf b) (lineOf b) = b := Fin.ext (Nat.div_add_mod _ _)

/-! ## What the host's steps leave -/

section
variable (W : Valuation τ sig (Elt Ideal))

theorem host0_v5 : StableHlo.after hostOps0 W main_v5 = places (I := 1024) (W main_arg0) := by
  unfold hostOps0
  after_results_simp
  rfl

theorem host0_v10 : StableHlo.after hostOps0 W main_v10 = values (I := 1024) (W main_arg0) := by
  unfold hostOps0
  after_results_simp
  rfl

theorem host0_v12 : StableHlo.after hostOps0 W main_v12 = shapeCast S1x512 (extui 32 (W main_arg3) natLt_1_32) shapeCasts_S512_S1x512 := by
  unfold hostOps0
  after_results_simp
  rfl

theorem host0_v13 : StableHlo.after hostOps0 W main_v13 = shapeCast S64x1024x1 (W main_arg0) shapeCasts_S64x1024_S64x1024x1 := by
  unfold hostOps0
  after_results_simp
  rfl

theorem host1_v21 : StableHlo.after hostOps1 W main_v21 = places (I := 512) (shapeCast S64x512 (W main_v14) shapeCasts_S64x1x512_S64x512) := by
  unfold hostOps1
  after_results_simp
  rfl

theorem host1_v26 : StableHlo.after hostOps1 W main_v26 = values (I := 512) (shapeCast S64x512 (W main_v14) shapeCasts_S64x1x512_S64x512) := by
  unfold hostOps1
  after_results_simp
  rfl

theorem host1_v28 : StableHlo.after hostOps1 W main_v28 = shapeCast S1x1024 (extui 32 (W main_arg4) natLt_1_32) shapeCasts_S1024_S1x1024 := by
  unfold hostOps1
  after_results_simp
  rfl

theorem host1_v29 : StableHlo.after hostOps1 W main_v29 = shapeCast S64x512x1 (shapeCast S64x512 (W main_v14) shapeCasts_S64x1x512_S64x512) shapeCasts_S64x512_S64x512x1 := by
  unfold hostOps1
  after_results_simp
  rfl

theorem host2_v31 : StableHlo.after hostOps2 W main_v31 = shapeCast S64x1024 (W main_v30) shapeCasts_S64x1x1024_S64x1024 := by
  unfold hostOps2
  after_results_simp
  rfl

end

end Cert.Proof
end
-- ==== Proof.Value.lean ====
module

public import proofs.«01_k».proof.Proof.Host

/-!
# What the launches leave

Each launch leaves its layer's node values, of the inputs and the mask it is given.
-/

@[expose] public section
noncomputable section

namespace Cert.Proof

open Idealize.ShloMosaic Idealize.ShloMosaic.StableHlo Idealize.ShloMosaic.TcCoe Idealize.ShloMosaic.ValueIdx Cert.KernelIdeal Cert.KernelIdeal.Gen

variable (V : (c : Dev nD) → (b : Ref sig .tc) → Buf (Elt Ideal) ((c : Thread nD τ).loc b)) (c : Dev nD)

theorem coord0 (t : Fin 4) : (grid0.coords t 0 : Fin 4) = t := Fin.ext (L0.coord t)
theorem coord1 (t : Fin 4) : (grid1.coords t 0 : Fin 4) = t := Fin.ext (L1.coord t)

/-- The first launch leaves the first layer's values. -/
theorem first (x : (sM 64 1024).Idx → EReal) (im : (⟨1, ![512]⟩ : Shape).Idx → BitVec 1)
    (h5 : V c main_v5 = places x) (h10 : V c main_v10 = values x)
    (h12 : V c main_v12 = shapeCast S1x512 (extui 32 im natLt_1_32) shapeCasts_S512_S1x512)
    (h13 : V c main_v13 = shapeCast S64x1024x1 x shapeCasts_S64x1024_S64x1024x1) :
    Layer K0 512 1024 (by decide) (fun o => im (ix1 o) = 1#1) (fun b i => x (ix2 b i))
      (fun b o => (L0.dat V c).arrAt 3 cfg0.N (ix3 b (0 : Fin 1) o)) := by
  intro b o
  have h := block_spec 512 1024 64#32 K0 x (fun o => im (ix1 o)) (pointOf b) (L0.blkI V c (pointOf b))
    (L0.blkX V c (pointOf b)) (V c main_v13) (L0.blkM V c (pointOf b))
    (fun _ => Scalar.ofBits (F := Ideal) .f32 0x00000000#32) 10 (by norm_num) (by norm_num) (by norm_num) (by norm_num)
    (fun s j z => (L0.blkI_apply V c _ s j z).trans (congrFun h5 _))
    (fun s j z => (L0.blkX_apply V c _ s j z).trans (congrFun h10 _))
    (fun b i z => (congrFun h13 _).trans (input_apply x _ b i z))
    (fun z o => (L0.blkM_apply V c _ z o).trans ((congrFun h12 _).trans (mask_apply im _ z o)))
    (lineOf b) o
  have ho := L0.out_apply V c (pointOf b) (lineOf b) (0 : Fin 1) o
  unfold L0.outBlk at ho
  rw [coord0, split16] at ho
  rw [split16] at h
  show Spec _ _ _ ((L0.dat V c).arrAt 3 cfg0.N (ix3 b (0 : Fin 1) o))
  rw [ho]
  exact h

/-- The second launch leaves the second layer's values. -/
theorem second (x : (sM 64 512).Idx → EReal) (im : (⟨1, ![1024]⟩ : Shape).Idx → BitVec 1)
    (h21 : V c main_v21 = places x) (h26 : V c main_v26 = values x)
    (h28 : V c main_v28 = shapeCast S1x1024 (extui 32 im natLt_1_32) shapeCasts_S1024_S1x1024)
    (h29 : V c main_v29 = shapeCast S64x512x1 x shapeCasts_S64x512_S64x512x1) :
    Layer K1 1024 512 (by decide) (fun o => im (ix1 o) = 1#1) (fun b i => x (ix2 b i))
      (fun b o => (L1.dat V c).arrAt 3 cfg1.N (ix3 b (0 : Fin 1) o)) := by
  intro b o
  have h := block_spec 1024 512 32#32 K1 x (fun o => im (ix1 o)) (pointOf b) (L1.blkI V c (pointOf b))
    (L1.blkX V c (pointOf b)) (V c main_v29) (L1.blkM V c (pointOf b))
    (fun _ => Scalar.ofBits (F := Ideal) .f32 0x00000000#32) 9 (by norm_num) (by norm_num) (by norm_num) (by norm_num)
    (fun s j z => (L1.blkI_apply V c _ s j z).trans (congrFun h21 _))
    (fun s j z => (L1.blkX_apply V c _ s j z).trans (congrFun h26 _))
    (fun b i z => (congrFun h29 _).trans (input_apply x _ b i z))
    (fun z o => (L1.blkM_apply V c _ z o).trans ((congrFun h28 _).trans (mask_apply im _ z o)))
    (lineOf b) o
  have ho := L1.out_apply V c (pointOf b) (lineOf b) (0 : Fin 1) o
  unfold L1.outBlk at ho
  rw [coord1, split16] at ho
  rw [split16] at h
  show Spec _ _ _ ((L1.dat V c).arrAt 3 cfg1.N (ix3 b (0 : Fin 1) o))
  rw [ho]
  exact h

end Cert.Proof
end
-- ==== Proof.RefLane.lean ====
module

public import proofs.«01_k».proof.Proof.Dense

/-!
# The reference's operations at a node

The uniform draw is below one half exactly where the random word is below `2 ^ 31`; what a layer of the
reference writes is then each node's value by `Spec`.
-/

@[expose] public section
noncomputable section

namespace Cert.Proof

open Idealize.ShloMosaic Idealize.ShloMosaic.ValueIdx Idealize.ShloMosaic.Ideal

/-! ## Random words -/

/-- One mixing step as the reference writes it: the exclusive or's operands are the other way round. -/
def mixH {S : Shape} (r q : BitVec 32) (k : Cont S) : Cont S := fun x0 x1 =>
  k (addi x0 x1) (xori (addi x0 x1) (ori (Host.shli x1 (broadcast S r)) (Host.shrui x1 (broadcast S q))))

theorem mixH_eq {S : Shape} (r q : BitVec 32) (hr : r.toNat < 32) (hq : q.toNat < 32) (k : Cont S) : mixH r q k = mixK r q k := by
  funext x0 x1
  refine congrArg (k (addi x0 x1)) (funext fun i => ?_)
  change (x0 i + x1 i) ^^^ ((if r.toNat < 32 then x1 i <<< r else _) ||| (if q.toNat < 32 then x1 i >>> q else _))
    = ((if r.toNat < 32 then x1 i <<< r else _) ||| (if q.toNat < 32 then x1 i >>> q else _)) ^^^ (x0 i + x1 i)
  rw [if_pos hr, if_pos hq, if_pos hr, if_pos hq, BitVec.xor_comm]

def evenH {S : Shape} (k : Cont S) : Cont S :=
  mixH 13#32 19#32 <| mixH 15#32 17#32 <| mixH 26#32 6#32 <| mixH 6#32 26#32 k

def oddH {S : Shape} (k : Cont S) : Cont S :=
  mixH 17#32 15#32 <| mixH 29#32 3#32 <| mixH 16#32 16#32 <| mixH 24#32 8#32 k

/-- The reference's random words. -/
def bitsH {S : Shape} (a b c : BitVec 32) (lo : IVec S 32) : IVec S 32 :=
  (evenH <| injK b c 1#32 <| oddH <| injK c a 2#32 <| evenH <| injK a b 3#32 <| oddH <|
    injK b c 4#32 <| evenH <| injK c a 5#32 xori)
    (addi (broadcast S 0#32) (broadcast S a)) (addi lo (broadcast S b))

theorem bitsH_eq {S : Shape} (a b c : BitVec 32) (lo : IVec S 32) : bitsH a b c lo = bitsV a b c lo := by
  have e : ∀ k : Cont S, evenH k = evenK k := fun k => by
    unfold evenH evenK
    rw [mixH_eq _ _ (by decide) (by decide), mixH_eq _ _ (by decide) (by decide), mixH_eq _ _ (by decide) (by decide),
      mixH_eq _ _ (by decide) (by decide)]
  have o : ∀ k : Cont S, oddH k = oddK k := fun k => by
    unfold oddH oddK
    rw [mixH_eq _ _ (by decide) (by decide), mixH_eq _ _ (by decide) (by decide), mixH_eq _ _ (by decide) (by decide),
      mixH_eq _ _ (by decide) (by decide)]
  unfold bitsH bitsV
  simp only [e, o]

theorem bitsH_apply {S : Shape} (a b c : BitVec 32) (lo : IVec S 32) (i : S.Idx) : bitsH a b c lo i = bitsW a b c (lo i) := by
  rw [bitsH_eq]; rfl

/-! ## The uniform draw -/

theorem ofBool_iff (p : Bool) : BitVec.ofBool p = 1#1 ↔ p = true := by revert p; decide

/-- A word's top 23 bits as the fraction of a float in `[1, 2)`. -/
theorem fraction (w : BitVec 32) :
    Ideal.ofBits .f32 ((w >>> 9) ||| 0x3F800000#32) = ((1 + (w.toNat / 512 : ℕ) / 2 ^ 23 : ℝ) : EReal) := by
  have hw := w.isLt
  have hb : ((w >>> 9) ||| 0x3F800000#32).toNat = 2 ^ 23 * 127 + w.toNat / 512 := by
    rw [BitVec.toNat_or, BitVec.toNat_ushiftRight, Nat.shiftRight_eq_div_pow, Nat.or_comm,
      Nat.two_pow_add_eq_or_of_lt (i := 23) (b := w.toNat / 512) (by omega) 127]
    rfl
  set b := (w >>> 9) ||| 0x3F800000#32
  have hs : (b.extractLsb' 31 1 == 1#1) = false := by
    rw [beq_eq_false_iff_ne]
    intro hc
    have := congrArg BitVec.toNat hc
    rw [BitVec.extractLsb'_toNat, hb, Nat.shiftRight_eq_div_pow] at this
    change _ = 1 at this
    omega
  have he : (b.extractLsb' 23 8).toNat = 127 := by
    rw [BitVec.extractLsb'_toNat, hb, Nat.shiftRight_eq_div_pow]; omega
  have hf : (b.extractLsb' 0 23).toNat = w.toNat / 512 := by
    rw [BitVec.extractLsb'_toNat, hb, Nat.shiftRight_eq_div_pow]; omega
  change Ideal.ieee 8 23 b = _
  unfold Ideal.ieee
  simp only [hs, he, hf]
  norm_num
  rw [← EReal.coe_one]
  norm_cast
  push_cast
  ring

/-- The draw is below one half exactly where the word's top bit is clear. -/
theorem draw_iff (w : BitVec 32) :
    Ideal.cmp .olt (Ideal.ofBits .f32 (IntOp.shrui .host w 9#32 ||| 0x3F800000#32) - Ideal.ofBits .f32 0x3F800000#32)
        ((1 / 2 : ℝ) : EReal) = 1#1 ↔ w.toNat < 2 ^ 31 := by
  have e : IntOp.shrui .host w 9#32 = w >>> 9 := rfl
  rw [e, fraction, one]
  change BitVec.ofBool (decide _) = 1#1 ↔ _
  rw [ofBool_iff, decide_eq_true_iff, ← EReal.coe_one, ← EReal.coe_sub, EReal.coe_lt_coe_iff, add_sub_cancel_left,
    div_lt_div_iff₀ (by norm_num) (by norm_num)]
  rw [show ((1 : ℝ) * 2 ^ 23) = ((2 ^ 23 : ℕ) : ℝ) by norm_num]
  rw [show (((w.toNat / 512 : ℕ) : ℝ) * 2) = ((w.toNat / 512 * 2 : ℕ) : ℝ) by push_cast; ring, Nat.cast_lt]
  omega

/-! ## Reductions over the last of three axes -/

section Reduce
variable {O I : ℕ}

theorem lift_last (h : (⟨3, ![64, O, I]⟩ : Shape).Reduces [2] (⟨2, ![64, O]⟩ : Shape)) (b : Fin 64) (o : Fin O) (i : Fin I) :
    h.lift (ix2 b o) i = ix3 b o i := by
  funext a
  match a with
  | ⟨0, _⟩ => rfl
  | ⟨1, _⟩ => rfl
  | ⟨2, _⟩ => rfl

variable {u : Shape} (h' : (⟨3, ![64, O, I]⟩ : Shape).ReducesTo [2] (⟨2, ![64, O]⟩ : Shape))
  (h : (⟨3, ![64, O, I]⟩ : Shape).Reduces [2] (⟨2, ![64, O]⟩ : Shape)) (hu : 0 < u.numel) (b : Fin 64) (o : Fin O)

include h in
theorem le_lastMin (x : FVec Ideal (⟨3, ![64, O, I]⟩ : Shape) .f32) (init : u.Idx → EReal) (hi : ∀ i, init i = ⊤) (c : EReal) :
    c ≤ Host.reduce (FloatOps.minimumf (F := Ideal) (φ := .f32)) x init h' hu (ix2 b o) ↔ ∀ i, c ≤ x (ix3 b o i) := by
  rw [Host.reduce_eq_fold_single (FloatOps.minimumf (F := Ideal) (φ := .f32)) x init h' h hu]
  change c ≤ Finset.fold min _ _ _ ↔ _
  rw [Finset.le_fold_min, hi]
  exact ⟨fun hc i => (hc.2 i (Finset.mem_univ _)).trans_eq (congrArg x (lift_last h b o i)),
    fun hc => ⟨le_top, fun i _ => (hc i).trans_eq (congrArg x (lift_last h b o i)).symm⟩⟩

include h in
theorem lastMax_le (x : FVec Ideal (⟨3, ![64, O, I]⟩ : Shape) .f32) (init : u.Idx → EReal) (hi : ∀ i, init i = ⊥) (c : EReal) :
    Host.reduce (FloatOps.maximumf (F := Ideal) (φ := .f32)) x init h' hu (ix2 b o) ≤ c ↔ ∀ i, x (ix3 b o i) ≤ c := by
  rw [Host.reduce_eq_fold_single (FloatOps.maximumf (F := Ideal) (φ := .f32)) x init h' h hu]
  change Finset.fold max _ _ _ ≤ c ↔ _
  rw [Finset.fold_max_le, hi]
  exact ⟨fun hc i => (congrArg x (lift_last h b o i)).symm.trans_le (hc.2 i (Finset.mem_univ _)),
    fun hc => ⟨bot_le, fun i _ => (congrArg x (lift_last h b o i)).trans_le (hc i)⟩⟩

include h in
theorem lastAny (x : IVec (⟨3, ![64, O, I]⟩ : Shape) 1) (init : u.Idx → BitVec 1) (hi : ∀ i, init i = 0#1) :
    Host.reduce IntOp.ori x init h' hu (ix2 b o) = 1#1 ↔ ∃ i, x (ix3 b o i) = 1#1 := by
  rw [Host.reduce_eq_fold_single IntOp.ori x init h' h hu]
  have := Finset.fold_op_rel_iff_or (op := IntOp.ori (w := 1)) (r := fun (_ v : BitVec 1) => v = 1#1)
    (hr := fun {_ y z} => by revert y z; decide) (c := 0#1) (b := init (Shape.Idx.first hu)) (f := x ∘ h.lift (ix2 b o)) (s := Finset.univ)
  rw [this, hi]
  constructor
  · rintro (h0 | ⟨i, -, hi⟩)
    · exact absurd h0 (by decide)
    · exact ⟨i, (congrArg x (lift_last h b o i)).symm.trans hi⟩
  · rintro ⟨i, hi⟩
    exact Or.inr ⟨i, Finset.mem_univ _, (congrArg x (lift_last h b o i)).trans hi⟩

end Reduce

/-! ## A layer -/

theorem remui_lane (w : BitVec 32) (n : ℕ) (h0 : 0 < n) (hn : n < 2 ^ 32) :
    IntOp.remui .host w (BitVec.ofNat 32 n) = BitVec.ofNat 32 (w.toNat % n) := by
  have hnz : BitVec.ofNat 32 n ≠ 0 := fun hc => by
    have := congrArg BitVec.toNat hc
    rw [BitVec.toNat_ofNat, Nat.mod_eq_of_lt hn] at this
    change n = 0 at this
    omega
  unfold IntOp.remui
  rw [if_neg hnz]
  refine BitVec.eq_of_toNat_eq ?_
  rw [BitVec.toNat_umod, BitVec.toNat_ofNat, BitVec.toNat_ofNat, Nat.mod_eq_of_lt hn, Nat.mod_eq_of_lt (a := w.toNat % n)]
  exact (Nat.mod_lt _ h0).trans hn

/-- What the reference's layer writes at a node, given what its operations give at each index. -/
theorem layer_of (K : Keys) {O I : ℕ} (hI : 0 < I) (hI' : I < 2 ^ 32) (im : Fin O → BitVec 1) (x : Fin 64 → Fin I → EReal)
    (hmask : ∀ b : Fin 64, ∀ o : Fin O, ∃ i, ¬K.edges hI (b.val * O + o.val) i) (nb : Fin 64 → Fin O → Fin I → BitVec 1) (any : Fin 64 → Fin O → BitVec 1)
    (ev : Fin 64 → Fin O → Fin I → EReal) (mn mx y : Fin 64 → Fin O → EReal)
    (hnb : ∀ b o i, nb b o i = 1#1 ↔ K.hit I (b.val * O + o.val) i.val)
    (hany : ∀ b o, any b o = 1#1 ↔ ∃ i, nb b o i = 1#1)
    (hev : ∀ b o i, ev b o i = Scalar.select (Scalar.select (~~~ (any b o))
        (nb b o i ||| Scalar.cmpi .eq (BitVec.ofNat 32 i.val) (BitVec.ofNat 32 (K.forced I hI (b.val * O + o.val)).val)) (nb b o i))
      (x b i) (Scalar.select (im o) 10 (-10)))
    (hmn : ∀ b o c, c ≤ mn b o ↔ ∀ i, c ≤ ev b o i) (hmx : ∀ b o c, mx b o ≤ c ↔ ∀ i, ev b o i ≤ c)
    (hy : ∀ b o, y b o = Scalar.select (im o) (mn b o) (mx b o)) : Layer K O I hI (fun o => im o = 1#1) x y := by
  intro b o
  have hsel : ∀ i, Scalar.select (~~~ (any b o))
      (nb b o i ||| Scalar.cmpi .eq (BitVec.ofNat 32 i.val) (BitVec.ofNat 32 (K.forced I hI (b.val * O + o.val)).val)) (nb b o i) = 1#1
        ↔ K.edges hI (b.val * O + o.val) i := fun i => by
    have hor : ∀ p q : BitVec 1, p ||| q = 1#1 ↔ p = 1#1 ∨ q = 1#1 := by decide
    have hnot : ∀ p : BitVec 1, ~~~ p = 1#1 ↔ ¬ p = 1#1 := by decide
    unfold Keys.edges normal
    by_cases ha : any b o = 1#1
    · rw [select_neg (fun hc => (hnot _).mp hc ha), hnb]
      obtain ⟨j, hj⟩ := (hany b o).mp ha
      exact ⟨Or.inl, fun h => h.resolve_right fun hc => hc.1 j ((hnb b o j).mp hj)⟩
    · rw [select_pos ((hnot _).mpr ha), hor, hnb, cmpi_eq_iff]
      have hno : ∀ j : Fin I, ¬ K.hit I (b.val * O + o.val) j.val := fun j hj => ha ((hany b o).mpr ⟨j, (hnb b o j).mpr hj⟩)
      refine or_congr Iff.rfl ⟨fun h => ⟨hno, Fin.ext ?_⟩, fun h => by rw [h.2]⟩
      have := congrArg BitVec.toNat h
      rwa [BitVec.toNat_ofNat, BitVec.toNat_ofNat, Nat.mod_eq_of_lt (i.isLt.trans hI'), Nat.mod_eq_of_lt ((Fin.isLt _).trans hI')] at this
  obtain ⟨i0, h0⟩ := hmask b o
  have hin : ∀ i, K.edges hI (b.val * O + o.val) i → ev b o i = x b i := fun i hi => (hev b o i).trans (select_pos ((hsel i).mpr hi) _ _)
  have hout : ∀ i, ¬ K.edges hI (b.val * O + o.val) i → ev b o i = Scalar.select (im o) 10 (-10) := fun i hi =>
    (hev b o i).trans (select_neg (fun hc => hi ((hsel i).mp hc)) _ _)
  constructor
  · intro hm c
    rw [hy, select_pos hm, hmn]
    refine ⟨fun h => ⟨(h i0).trans_eq ((hout i0 h0).trans (select_pos hm _ _)), fun i hi => (h i).trans_eq (hin i hi)⟩, fun ⟨h10, h⟩ i => ?_⟩
    by_cases hi : K.edges hI (b.val * O + o.val) i
    · exact (h i hi).trans_eq (hin i hi).symm
    · rw [hout i hi, select_pos hm]; exact h10
  · intro hm c
    rw [hy, select_neg hm, hmx]
    refine ⟨fun h => ⟨((hout i0 h0).trans (select_neg hm _ _)).symm.trans_le (h i0), fun i hi => (hin i hi).symm.trans_le (h i)⟩, fun ⟨h10, h⟩ i => ?_⟩
    by_cases hi : K.edges hI (b.val * O + o.val) i
    · exact (hin i hi).trans_le (h i hi)
    · rw [hout i hi, select_neg hm]; exact h10

end Cert.Proof
-- ==== Proof.Masked.lean ====
module

public import proofs.«01_k».proof.Proof.Node

/-!
# Every node has a masked edge

The launches' keys are fixed, so which edges are drawn normal is too. Of every node some edge is not: the drawn words
are computed, over the natural numbers, until one is at least `2 ^ 31`.
-/

@[expose] public section

namespace Cert.Proof

/-! ## The drawn words as natural numbers -/

/-- What goes on from a pair of words. -/
abbrev ContN := Nat → Nat → Nat

/-- One mixing step: add, rotate, exclusive or. -/
def mixN (r q : Nat) (k : ContN) : ContN := fun x0 x1 =>
  k (Nat.mod (Nat.add x0 x1) 4294967296)
    (Nat.xor (Nat.lor (Nat.mod (Nat.shiftLeft x1 r) 4294967296) (Nat.shiftRight x1 q)) (Nat.mod (Nat.add x0 x1) 4294967296))

/-- One key injection. -/
def injN (a b n : Nat) (k : ContN) : ContN := fun x0 x1 =>
  k (Nat.mod (Nat.add x0 a) 4294967296) (Nat.mod (Nat.add (Nat.mod (Nat.add x1 b) 4294967296) n) 4294967296)

/-- Four mixing steps with the even rotations. -/
def evenN (k : ContN) : ContN := mixN 13 19 (mixN 15 17 (mixN 26 6 (mixN 6 26 k)))

/-- Four mixing steps with the odd rotations. -/
def oddN (k : ContN) : ContN := mixN 17 15 (mixN 29 3 (mixN 16 16 (mixN 24 8 k)))

/-- The drawn word of the counter `lo`. -/
def bitsN (a b c lo : Nat) : Nat :=
  evenN (injN b c 1 (oddN (injN c a 2 (evenN (injN a b 3 (oddN (injN b c 4 (evenN (injN c a 5 Nat.xor)))))))))
    a (Nat.mod (Nat.add lo b) 4294967296)

/-- Whether one of the edges from `lo` on, `fuel` of them, is masked. -/
def missN (a b c : Nat) (fuel lo : Nat) : Bool :=
  Nat.rec (motive := fun _ => Nat → Bool) (fun _ => false)
    (fun _ ih lo => Bool.rec (ih (Nat.add lo 1)) true (Nat.ble 2147483648 (bitsN a b c lo))) fuel lo

/-- Whether each of `2 ^ d` nodes from `k * 2 ^ d` on, of `n` edges each, has a masked edge among its first 32. -/
def allN (a b c n d k : Nat) : Bool :=
  Nat.rec (motive := fun _ => Nat → Bool) (fun k => missN a b c 32 (Nat.mul k n))
    (fun _ ih k => Bool.rec false (ih (Nat.add (Nat.mul 2 k) 1)) (ih (Nat.mul 2 k))) d k

theorem missN_spec (a b c fuel lo : Nat) (h : missN a b c fuel lo = true) : ∃ i < fuel, 2 ^ 31 ≤ bitsN a b c (lo + i) := by
  induction fuel generalizing lo with
  | zero => exact absurd h (by decide : (false : Bool) ≠ true)
  | succ f ih =>
    have e : missN a b c (f + 1) lo = Bool.rec (missN a b c f (lo + 1)) true (Nat.ble 2147483648 (bitsN a b c lo)) := rfl
    rw [e] at h
    cases hb : Nat.ble 2147483648 (bitsN a b c lo) with
    | true => exact ⟨0, Nat.succ_pos f, Nat.le_of_ble_eq_true hb⟩
    | false =>
      rw [hb] at h
      obtain ⟨i, hi, hm⟩ := ih (lo + 1) h
      exact ⟨i + 1, Nat.succ_lt_succ hi, by rw [show lo + (i + 1) = lo + 1 + i by omega]; exact hm⟩

theorem allN_spec (a b c n d k : Nat) (h : allN a b c n d k = true) (j : Nat) (hj : j < 2 ^ d) :
    ∃ i < 32, 2 ^ 31 ≤ bitsN a b c ((k * 2 ^ d + j) * n + i) := by
  induction d generalizing k j with
  | zero =>
    have hz : j = 0 := by simpa using hj
    subst hz
    have := missN_spec a b c 32 (k * n) h
    simpa using this
  | succ d ih =>
    have e : allN a b c n (d + 1) k = Bool.rec false (allN a b c n d (2 * k + 1)) (allN a b c n d (2 * k)) := rfl
    rw [e] at h
    cases hb : allN a b c n d (2 * k) with
    | false => rw [hb] at h; exact absurd h (by decide : (false : Bool) ≠ true)
    | true =>
      rw [hb] at h
      rw [pow_succ] at hj
      by_cases hl : j < 2 ^ d
      · have := ih (2 * k) hb j hl
        rwa [show 2 * k * 2 ^ d + j = k * 2 ^ (d + 1) + j by rw [pow_succ]; ring] at this
      · have := ih (2 * k + 1) h (j - 2 ^ d) (by omega)
        rwa [show (2 * k + 1) * 2 ^ d + (j - 2 ^ d) = k * 2 ^ (d + 1) + j by
          have : 2 ^ d + (j - 2 ^ d) = j := by omega
          rw [pow_succ, Nat.add_mul, one_mul, Nat.add_assoc, this]; ring] at this

/-! ## They are the drawn words -/

open Idealize.ShloMosaic in
/-- The two ways to go on from a pair of words agree. -/
def Goes (k : Cont ⟨0, ![]⟩) (k' : ContN) : Prop := ∀ x0 x1 i, (k x0 x1 i).toNat = k' (x0 i).toNat (x1 i).toNat

theorem mix_goes {k : Cont ⟨0, ![]⟩} {k' : ContN} (r q : BitVec 32) (hr : r.toNat < 32) (hq : q.toNat < 32) (h : Goes k k') :
    Goes (mixK r q k) (mixN r.toNat q.toNat k') := by
  intro x0 x1 i
  refine (h _ _ i).trans ?_
  have e0 : ((x0 i + x1 i : BitVec 32)).toNat = ((x0 i).toNat + (x1 i).toNat) % 4294967296 := BitVec.toNat_add _ _
  have e1 : (((if r.toNat < 32 then x1 i <<< r else 0#32) ||| (if q.toNat < 32 then x1 i >>> q else 0#32)) ^^^ (x0 i + x1 i) : BitVec 32).toNat
      = ((((x1 i).toNat <<< r.toNat) % 4294967296) ||| ((x1 i).toNat >>> q.toNat)) ^^^ (((x0 i).toNat + (x1 i).toNat) % 4294967296) := by
    rw [if_pos hr, if_pos hq, BitVec.toNat_xor, BitVec.toNat_or, e0]
    rfl
  have e := congr (congrArg k' e0) e1
  exact e

theorem inj_goes {k : Cont ⟨0, ![]⟩} {k' : ContN} (a b n : BitVec 32) (h : Goes k k') :
    Goes (injK a b n k) (injN a.toNat b.toNat n.toNat k') := by
  intro x0 x1 i
  refine (h _ _ i).trans ?_
  have e0 : (x0 i + a : BitVec 32).toNat = ((x0 i).toNat + a.toNat) % 4294967296 := BitVec.toNat_add _ _
  have e1 : (x1 i + b + n : BitVec 32).toNat = (((x1 i).toNat + b.toNat) % 4294967296 + n.toNat) % 4294967296 :=
    (BitVec.toNat_add _ _).trans (congrArg (fun t => (t + n.toNat) % 4294967296) (BitVec.toNat_add _ _))
  have e := congr (congrArg k' e0) e1
  exact e

theorem even_goes {k : Cont ⟨0, ![]⟩} {k' : ContN} (h : Goes k k') : Goes (evenK k) (evenN k') :=
  mix_goes 13#32 19#32 (by decide) (by decide) <| mix_goes 15#32 17#32 (by decide) (by decide) <|
    mix_goes 26#32 6#32 (by decide) (by decide) <| mix_goes 6#32 26#32 (by decide) (by decide) h

theorem odd_goes {k : Cont ⟨0, ![]⟩} {k' : ContN} (h : Goes k k') : Goes (oddK k) (oddN k') :=
  mix_goes 17#32 15#32 (by decide) (by decide) <| mix_goes 29#32 3#32 (by decide) (by decide) <|
    mix_goes 16#32 16#32 (by decide) (by decide) <| mix_goes 24#32 8#32 (by decide) (by decide) h

theorem bitsW_toNat (a b c lo : BitVec 32) : (bitsW a b c lo).toNat = bitsN a.toNat b.toNat c.toNat lo.toNat := by
  have hx : Goes (fun x0 x1 => Idealize.ShloMosaic.xori x0 x1) Nat.xor := fun x0 x1 i => BitVec.toNat_xor (x0 i) (x1 i)
  have h := even_goes <| inj_goes b c 1#32 <| odd_goes <| inj_goes c a 2#32 <| even_goes <| inj_goes a b 3#32 <|
    odd_goes <| inj_goes b c 4#32 <| even_goes <| inj_goes c a 5#32 hx
  refine (h (fun _ => 0#32 + a) (fun _ => lo + b) (fun i => i.elim0)).trans ?_
  have e0 : (0#32 + a : BitVec 32).toNat = a.toNat := by rw [BitVec.zero_add]
  have e1 : (lo + b : BitVec 32).toNat = (lo.toNat + b.toNat) % 4294967296 := BitVec.toNat_add _ _
  rw [e0, e1]
  rfl

/-- A node among `2 ^ d` computed ones has an edge that is not drawn normal. -/
theorem miss_of (K : Keys) (n d q : Nat) (hn : 32 ≤ n) (h : allN K.a.toNat K.b.toNat K.c.toNat n d q = true)
    (hs : (q + 1) * 2 ^ d * n ≤ 2 ^ 32) (j : Nat) (hj : j < 2 ^ d) : ∃ i : Fin n, ¬K.hit n (q * 2 ^ d + j) i.val := by
  obtain ⟨i, hi, hm⟩ := allN_spec _ _ _ n d q h j hj
  refine ⟨⟨i, hi.trans_le hn⟩, ?_⟩
  unfold Keys.hit
  have hlt : (q * 2 ^ d + j) * n + i < 2 ^ 32 := by
    have h1 : (q * 2 ^ d + j + 1) * n ≤ (q + 1) * 2 ^ d * n := Nat.mul_le_mul_right n (by rw [Nat.add_mul, one_mul]; omega)
    rw [Nat.add_mul (q * 2 ^ d + j), one_mul] at h1
    omega
  rw [bitsW_toNat, BitVec.toNat_ofNat, Nat.mod_eq_of_lt hlt]
  exact not_lt.mpr hm

/-- Where some edge is not drawn normal, some edge is masked: at most one is forced. -/
theorem Keys.masked_of (K : Keys) {n k : Nat} (hn : 1 < n) (h : ∃ i : Fin n, ¬K.hit n k i.val) :
    ∃ i : Fin n, ¬K.edges (Nat.zero_lt_of_lt hn) k i := by
  by_cases hh : ∃ j : Fin n, K.hit n k j.val
  · obtain ⟨i, hi⟩ := h
    obtain ⟨j, hj⟩ := hh
    exact ⟨i, fun hc => hc.elim hi fun hc => hc.1 j hj⟩
  · haveI : Nontrivial (Fin n) := Fin.nontrivial_iff_two_le.mpr hn
    obtain ⟨i, hi⟩ := exists_ne (K.forced n (Nat.zero_lt_of_lt hn) k)
    exact ⟨i, fun hc => hc.elim (fun hc => hh ⟨i, hc⟩) fun hc => hi hc.2⟩

end Cert.Proof
end
-- ==== Proof.Words.lean ====
module

public import proofs.«01_k».proof.Proof.Masked

/-!
# The drawn words, computed

Every node of both layers has a masked edge among its first 32. Each statement is of 4096 nodes.
-/

@[expose] public section

namespace Cert.Proof

theorem all0_0 : allN 1012194634 3152801799 2624468631 1024 12 0 = true := by decide +kernel
theorem all0_1 : allN 1012194634 3152801799 2624468631 1024 12 1 = true := by decide +kernel
theorem all0_2 : allN 1012194634 3152801799 2624468631 1024 12 2 = true := by decide +kernel
theorem all0_3 : allN 1012194634 3152801799 2624468631 1024 12 3 = true := by decide +kernel
theorem all0_4 : allN 1012194634 3152801799 2624468631 1024 12 4 = true := by decide +kernel
theorem all0_5 : allN 1012194634 3152801799 2624468631 1024 12 5 = true := by decide +kernel
theorem all0_6 : allN 1012194634 3152801799 2624468631 1024 12 6 = true := by decide +kernel
theorem all0_7 : allN 1012194634 3152801799 2624468631 1024 12 7 = true := by decide +kernel

theorem all1_0 : allN 3187376881 129218101 2711170846 512 12 0 = true := by decide +kernel
theorem all1_1 : allN 3187376881 129218101 2711170846 512 12 1 = true := by decide +kernel
theorem all1_2 : allN 3187376881 129218101 2711170846 512 12 2 = true := by decide +kernel
theorem all1_3 : allN 3187376881 129218101 2711170846 512 12 3 = true := by decide +kernel
theorem all1_4 : allN 3187376881 129218101 2711170846 512 12 4 = true := by decide +kernel
theorem all1_5 : allN 3187376881 129218101 2711170846 512 12 5 = true := by decide +kernel
theorem all1_6 : allN 3187376881 129218101 2711170846 512 12 6 = true := by decide +kernel
theorem all1_7 : allN 3187376881 129218101 2711170846 512 12 7 = true := by decide +kernel
theorem all1_8 : allN 3187376881 129218101 2711170846 512 12 8 = true := by decide +kernel
theorem all1_9 : allN 3187376881 129218101 2711170846 512 12 9 = true := by decide +kernel
theorem all1_10 : allN 3187376881 129218101 2711170846 512 12 10 = true := by decide +kernel
theorem all1_11 : allN 3187376881 129218101 2711170846 512 12 11 = true := by decide +kernel
theorem all1_12 : allN 3187376881 129218101 2711170846 512 12 12 = true := by decide +kernel
theorem all1_13 : allN 3187376881 129218101 2711170846 512 12 13 = true := by decide +kernel
theorem all1_14 : allN 3187376881 129218101 2711170846 512 12 14 = true := by decide +kernel
theorem all1_15 : allN 3187376881 129218101 2711170846 512 12 15 = true := by decide +kernel

theorem all0 : ∀ q < 8, allN K0.a.toNat K0.b.toNat K0.c.toNat 1024 12 q = true
  | 0, _ => all0_0
  | 1, _ => all0_1
  | 2, _ => all0_2
  | 3, _ => all0_3
  | 4, _ => all0_4
  | 5, _ => all0_5
  | 6, _ => all0_6
  | 7, _ => all0_7
  | q + 8, h => absurd h (by omega)

theorem all1 : ∀ q < 16, allN K1.a.toNat K1.b.toNat K1.c.toNat 512 12 q = true
  | 0, _ => all1_0
  | 1, _ => all1_1
  | 2, _ => all1_2
  | 3, _ => all1_3
  | 4, _ => all1_4
  | 5, _ => all1_5
  | 6, _ => all1_6
  | 7, _ => all1_7
  | 8, _ => all1_8
  | 9, _ => all1_9
  | 10, _ => all1_10
  | 11, _ => all1_11
  | 12, _ => all1_12
  | 13, _ => all1_13
  | 14, _ => all1_14
  | 15, _ => all1_15
  | q + 16, h => absurd h (by omega)

/-- Every node of the first layer has a masked edge. -/
theorem masked0 (b : Fin 64) (o : Fin 512) : ∃ i : Fin 1024, ¬K0.edges (by decide) (b.val * 512 + o.val) i := by
  refine K0.masked_of (by decide) ?_
  have hb := b.isLt
  have ho := o.isLt
  have h := miss_of K0 1024 12 ((b.val * 512 + o.val) / 2 ^ 12) (by decide) (all0 _ (by omega)) (by omega)
    ((b.val * 512 + o.val) % 2 ^ 12) (Nat.mod_lt _ (by decide))
  rwa [Nat.div_add_mod'] at h

/-- Every node of the second layer has a masked edge. -/
theorem masked1 (b : Fin 64) (o : Fin 1024) : ∃ i : Fin 512, ¬K1.edges (by decide) (b.val * 1024 + o.val) i := by
  refine K1.masked_of (by decide) ?_
  have hb := b.isLt
  have ho := o.isLt
  have h := miss_of K1 512 12 ((b.val * 1024 + o.val) / 2 ^ 12) (by decide) (all1 _ (by omega)) (by omega)
    ((b.val * 1024 + o.val) % 2 ^ 12) (Nat.mod_lt _ (by decide))
  rwa [Nat.div_add_mod'] at h

end Cert.Proof
end
-- ==== Proof.RefLayer.lean ====
module

public import proofs.«01_k».proof.Proof.Gen.ReferenceIdeal.Read
public import proofs.«01_k».proof.Proof.RefLane
public import proofs.«01_k».proof.Proof.Words

/-!
# The reference's two layers

Where every probability is one half, each layer of the reference writes its nodes' values.
-/

@[expose] public section
noncomputable section

namespace Cert.Proof

open Idealize.ShloMosaic Idealize.ShloMosaic.ValueIdx Cert.ReferenceIdeal.Read Cert.ReferenceIdeal

/-- Two indices are equal where their three coordinates are. -/
theorem ext3 {a b c : ℕ} {i j : (⟨3, ![a, b, c]⟩ : Shape).Idx} (h0 : i 0 = j 0) (h1 : i 1 = j 1) (h2 : i 2 = j 2) : i = j :=
  funext fun k => match k with
    | ⟨0, _⟩ => h0
    | ⟨1, _⟩ => h1
    | ⟨2, _⟩ => h2

theorem ext2 {a b : ℕ} {i j : (⟨2, ![a, b]⟩ : Shape).Idx} (h0 : i 0 = j 0) (h1 : i 1 = j 1) : i = j :=
  funext fun k => match k with
    | ⟨0, _⟩ => h0
    | ⟨1, _⟩ => h1

theorem ext1 {a : ℕ} {i j : (⟨1, ![a]⟩ : Shape).Idx} (h0 : i 0 = j 0) : i = j :=
  funext fun k => match k with
    | ⟨0, _⟩ => h0

section
variable (x0 : S64x1024.Idx → EReal) (x1 : S512x1024x2.Idx → EReal) (x2 : S1024x512x2.Idx → EReal)
  (x3 : S512.Idx → BitVec 1) (x4 : S1024.Idx → BitVec 1)

/-! ## The first layer -/

theorem words0 : val_main_v181 (F := Ideal) = bitsH K0.a K0.b K0.c (val_main_v5 (F := Ideal)) := rfl

theorem forcedWords0 : val_main_v371 (F := Ideal) = bitsH K0.fa K0.fb K0.fc (val_main_v195 (F := Ideal)) := rfl

theorem hit0 (hp : ∀ j, val_main_v3 (F := Ideal) x1 j = ((1 / 2 : ℝ) : EReal)) (b : Fin 64) (o : Fin 512) (i : Fin 1024) :
    val_main_v191 (F := Ideal) x1 (ix3 b o i) = 1#1 ↔ K0.hit 1024 (b.val * 512 + o.val) i.val := by
  have h : val_main_v181 (F := Ideal) (ix3 b o i) = bitsW K0.a K0.b K0.c (BitVec.ofNat 32 ((b.val * 512 + o.val) * 1024 + i.val)) := by
    rw [words0, bitsH_apply, val_main_v5_apply, val_main_v4_apply]
  rw [val_main_v191_apply, val_main_v190_apply, val_main_v189_apply, hp, val_main_v188_apply, val_main_v186_apply, val_main_v185_apply,
    val_main_v183_apply, h, val_main_v182_apply, val_main_v184_apply, val_main_v187_apply]
  unfold Keys.hit
  generalize bitsW K0.a K0.b K0.c (BitVec.ofNat 32 ((b.val * 512 + o.val) * 1024 + i.val)) = w
  exact draw_iff w

theorem forced0 (b : Fin 64) (o : Fin 512) :
    val_main_v374 (F := Ideal) (ix2 b o) = BitVec.ofNat 32 (K0.forced 1024 (by decide) (b.val * 512 + o.val)).val := by
  rw [val_main_v374_apply, val_main_v373_apply, val_main_v372_apply]
  refine (remui_lane (val_main_v371 (F := Ideal) (ix2 b o)) 1024 (by decide) (by decide)).trans ?_
  rw [forcedWords0, bitsH_apply, val_main_v195_apply, val_main_v194_apply]
  rfl

theorem layer0 (hp : ∀ j, val_main_v3 (F := Ideal) x1 j = ((1 / 2 : ℝ) : EReal)) :
    Layer K0 512 1024 (by decide) (fun o => x3 (ix1 o) = 1#1) (fun b i => x0 (ix2 b i))
      (fun b o => val_main_v397 (F := Ideal) x0 x1 x3 (ix2 b o)) := by
  refine layer_of K0 (by decide) (by decide) (fun o => x3 (ix1 o)) _ masked0
    (fun b o i => val_main_v191 (F := Ideal) x1 (ix3 b o i)) (fun b o => val_main_v192 (F := Ideal) x1 (ix2 b o))
    (fun b o i => val_main_v392 (F := Ideal) x0 x1 x3 (ix3 b o i)) (fun b o => val_main_v393 (F := Ideal) x0 x1 x3 (ix2 b o))
    (fun b o => val_main_v394 (F := Ideal) x0 x1 x3 (ix2 b o)) _ (hit0 x1 hp) ?_ ?_ ?_ ?_ ?_
  · exact fun b o => lastAny _ (by decide) _ b o _ _ fun _ => rfl
  · intro b o i
    rw [← forced0, val_main_v392_apply, val_main_v384_apply, val_main_v383_apply, val_main_v381_apply, val_main_v193_apply,
      val_main_v382_apply, val_main_v380_apply, val_main_v378_apply, val_main_v376_apply, val_main_v375_apply,
      val_main_v379_apply, val_main_v377_apply, val_main_v390_apply, val_main_v388_apply, val_main_v391_apply, val_main_v389_apply,
      val_main_v387_apply, val_main_v385_apply, val_main_v386_apply,
      show idx_main_v377 (idx_main_v379 (ix3 b o i)) = ix2 b o from ext2 rfl rfl,
      show idx_main_v381 (idx_main_v383 (ix3 b o i)) = ix2 b o from ext2 rfl rfl,
      show idx_main_v388 (idx_main_v390 (ix3 b o i)) = ix2 b i from ext2 rfl rfl,
      show idx_main_v389 (idx_main_v391 (ix3 b o i)) = ix1 o from ext1 rfl, ← negTen, ← ten]
    rfl
  · exact fun b o c => le_lastMin _ (by decide) _ b o _ _ (fun _ => posInf) c
  · exact fun b o c => lastMax_le _ (by decide) _ b o _ _ (fun _ => negInf) c
  · intro b o
    change val_main_v397 (F := Ideal) x0 x1 x3 (ix2 b o) = _
    rw [val_main_v397_apply, val_main_v396_apply, val_main_v395_apply, show idx_main_v395 (idx_main_v396 (ix2 b o)) = ix1 o from ext1 rfl]

/-! ## The second layer -/

theorem words1 : val_main_v579 (F := Ideal) = bitsH K1.a K1.b K1.c (val_main_v403 (F := Ideal)) := rfl

theorem forcedWords1 : val_main_v769 (F := Ideal) = bitsH K1.fa K1.fb K1.fc (val_main_v593 (F := Ideal)) := rfl

theorem hit1 (hp : ∀ j, val_main_v401 (F := Ideal) x2 j = ((1 / 2 : ℝ) : EReal)) (b : Fin 64) (o : Fin 1024) (i : Fin 512) :
    val_main_v589 (F := Ideal) x2 (ix3 b o i) = 1#1 ↔ K1.hit 512 (b.val * 1024 + o.val) i.val := by
  have h : val_main_v579 (F := Ideal) (ix3 b o i) = bitsW K1.a K1.b K1.c (BitVec.ofNat 32 ((b.val * 1024 + o.val) * 512 + i.val)) := by
    rw [words1, bitsH_apply, val_main_v403_apply, val_main_v402_apply]
  rw [val_main_v589_apply, val_main_v588_apply, val_main_v587_apply, hp, val_main_v586_apply, val_main_v584_apply, val_main_v583_apply,
    val_main_v581_apply, h, val_main_v580_apply, val_main_v582_apply, val_main_v585_apply]
  unfold Keys.hit
  generalize bitsW K1.a K1.b K1.c (BitVec.ofNat 32 ((b.val * 1024 + o.val) * 512 + i.val)) = w
  exact draw_iff w

theorem forced1 (b : Fin 64) (o : Fin 1024) :
    val_main_v772 (F := Ideal) (ix2 b o) = BitVec.ofNat 32 (K1.forced 512 (by decide) (b.val * 1024 + o.val)).val := by
  rw [val_main_v772_apply, val_main_v771_apply, val_main_v770_apply]
  refine (remui_lane (val_main_v769 (F := Ideal) (ix2 b o)) 512 (by decide) (by decide)).trans ?_
  rw [forcedWords1, bitsH_apply, val_main_v593_apply, val_main_v592_apply]
  rfl

theorem layer1 (hp : ∀ j, val_main_v401 (F := Ideal) x2 j = ((1 / 2 : ℝ) : EReal)) :
    Layer K1 1024 512 (by decide) (fun o => x4 (ix1 o) = 1#1) (fun b i => val_main_v397 (F := Ideal) x0 x1 x3 (ix2 b i))
      (fun b o => val_main_v795 (F := Ideal) x0 x1 x2 x3 x4 (ix2 b o)) := by
  refine layer_of K1 (by decide) (by decide) (fun o => x4 (ix1 o)) _ masked1
    (fun b o i => val_main_v589 (F := Ideal) x2 (ix3 b o i)) (fun b o => val_main_v590 (F := Ideal) x2 (ix2 b o))
    (fun b o i => val_main_v790 (F := Ideal) x0 x1 x2 x3 x4 (ix3 b o i)) (fun b o => val_main_v791 (F := Ideal) x0 x1 x2 x3 x4 (ix2 b o))
    (fun b o => val_main_v792 (F := Ideal) x0 x1 x2 x3 x4 (ix2 b o)) _ (hit1 x2 hp) ?_ ?_ ?_ ?_ ?_
  · exact fun b o => lastAny _ (by decide) _ b o _ _ fun _ => rfl
  · intro b o i
    rw [← forced1, val_main_v790_apply, val_main_v782_apply, val_main_v781_apply, val_main_v779_apply, val_main_v591_apply,
      val_main_v780_apply, val_main_v778_apply, val_main_v776_apply, val_main_v774_apply, val_main_v773_apply,
      val_main_v777_apply, val_main_v775_apply, val_main_v788_apply, val_main_v786_apply, val_main_v789_apply, val_main_v787_apply,
      val_main_v785_apply, val_main_v783_apply, val_main_v784_apply,
      show idx_main_v775 (idx_main_v777 (ix3 b o i)) = ix2 b o from ext2 rfl rfl,
      show idx_main_v779 (idx_main_v781 (ix3 b o i)) = ix2 b o from ext2 rfl rfl,
      show idx_main_v786 (idx_main_v788 (ix3 b o i)) = ix2 b i from ext2 rfl rfl,
      show idx_main_v787 (idx_main_v789 (ix3 b o i)) = ix1 o from ext1 rfl, ← negTen, ← ten]
    rfl
  · exact fun b o c => le_lastMin _ (by decide) _ b o _ _ (fun _ => posInf) c
  · exact fun b o c => lastMax_le _ (by decide) _ b o _ _ (fun _ => negInf) c
  · intro b o
    change val_main_v795 (F := Ideal) x0 x1 x2 x3 x4 (ix2 b o) = _
    rw [val_main_v795_apply, val_main_v794_apply, val_main_v793_apply, show idx_main_v793 (idx_main_v794 (ix2 b o)) = ix1 o from ext1 rfl]

end

end Cert.Proof
-- ==== Proof.Agree.lean ====
module

public import proofs.«01_k».proof.Proof.Value
public import proofs.«01_k».proof.Proof.RefLayer

/-!
# The kernel's result is the reference's

Both compute each layer's node values, and a node's value is determined by its inputs, its mask and its edges.
-/

@[expose] public section
noncomputable section

namespace Cert.Proof

open Idealize.ShloMosaic Idealize.ShloMosaic.StableHlo Idealize.ShloMosaic.TcCoe Idealize.ShloMosaic.ValueIdx Cert.KernelIdeal Cert.KernelIdeal.Gen
open Cert.ReferenceIdeal.Read (val_main_v3 val_main_v397 val_main_v401 val_main_v795)

variable (m : (l : Loc nD τ sig) → Buf (Elt Ideal) l) (c : Dev nD)
variable (x1 : S512x1024x2.Idx → EReal) (x2 : S1024x512x2.Idx → EReal)

/-- The inputs and the masks, as the launch memory holds them. -/
abbrev inputs : (sM 64 1024).Idx → EReal := m ((c : Thread nD τ).loc main_arg0)
abbrev mask0 : (⟨1, ![512]⟩ : Shape).Idx → BitVec 1 := m ((c : Thread nD τ).loc main_arg3)
abbrev mask1 : (⟨1, ![1024]⟩ : Shape).Idx → BitVec 1 := m ((c : Thread nD τ).loc main_arg4)

/-- The hidden values, as the second launch's steps take them. -/
abbrev hidden : (sM 64 512).Idx → EReal :=
  shapeCast S64x512 (leave1 m c main_v14) shapeCasts_S64x1x512_S64x512

theorem hidden_apply (b : Fin 64) (o : Fin 512) :
    hidden m c (ix2 b o) = (L0.dat (at1 m) c).arrAt 3 cfg0.N (ix3 b (0 : Fin 1) o) :=
  (result_apply _ shapeCasts_S64x1x512_S64x512 b o).trans (congrFun (leave1_out m c) _)

theorem mask1_kept : leave1 m c main_arg4 = mask1 m c :=
  (leave1_ne m c main_arg4 (by decide)).trans (V1_of m c main_arg4 (by decide))

/-- What the second launch finds is what the first one left, after the host's steps. -/
theorem found (b : Ref sig .tc) : at3 m c b = StableHlo.after hostOps1 (leave1 m c) b :=
  congrArg (fun W : Valuation τ sig (Elt Ideal) => StableHlo.after hostOps1 W b) (V2_eq m c)

theorem hidden_eq (hp : ∀ j, val_main_v3 (F := Ideal) x1 j = ((1 / 2 : ℝ) : EReal)) :
    (fun (b : Fin 64) (o : Fin 512) => hidden m c (ix2 b o))
      = fun b o => val_main_v397 (F := Ideal) (inputs m c) x1 (mask0 m c) (ix2 b o) := by
  have h := first (at1 m) c (inputs m c) (mask0 m c) (host0_v5 (V0 m c)) (host0_v10 (V0 m c)) (host0_v12 (V0 m c)) (host0_v13 (V0 m c))
  refine Eq.trans ?_ (h.unique (layer0 (inputs m c) x1 (mask0 m c) hp))
  exact funext fun b => funext fun o => hidden_apply m c b o

theorem result_eq (hp : ∀ j, val_main_v3 (F := Ideal) x1 j = ((1 / 2 : ℝ) : EReal))
    (hq : ∀ j, val_main_v401 (F := Ideal) x2 j = ((1 / 2 : ℝ) : EReal)) :
    V5 m (outs m) c main_v31 = val_main_v795 (F := Ideal) (inputs m c) x1 x2 (mask0 m c) (mask1 m c) := by
  have e := hidden_eq m c x1 hp
  have h := second (at3 m) c (hidden m c) (mask1 m c) ((found m c main_v21).trans (host1_v21 (leave1 m c)))
    ((found m c main_v26).trans (host1_v26 (leave1 m c)))
    ((found m c main_v28).trans ((host1_v28 (leave1 m c)).trans (by rw [mask1_kept])))
    ((found m c main_v29).trans (host1_v29 (leave1 m c)))
  rw [e] at h
  have h' := h.unique (layer1 (inputs m c) x1 x2 (mask0 m c) (mask1 m c) hq)
  have e5 : V5 m (outs m) c main_v31 = shapeCast S64x1024 (leave3 m c main_v30) shapeCasts_S64x1x1024_S64x1024 :=
    (congrArg (fun W : Valuation τ sig (Elt Ideal) => StableHlo.after hostOps2 W main_v31) (V4_eq m c)).trans (host2_v31 _)
  rw [e5]
  funext j
  have hj : j = ix2 (j 0) (j 1) := ix2_ext rfl rfl
  rw [hj]
  exact (result_apply _ shapeCasts_S64x1x1024_S64x1024 (j 0) (j 1)).trans
    ((congrFun (leave3_out m c) _).trans (congrFun (congrFun h' (j 0)) (j 1)))

end Cert.Proof
end
-- ==== Proof.Pre.lean ====
module

public import proofs.«01_k».proof.Pre_fair
public import proofs.«01_k».proof.Proof.RefLayer

/-!
# What the precondition says

Every edge's probability is one half.
-/

@[expose] public section
noncomputable section

namespace Cert.Pre_fair.Gen

/-- The shapes of the precondition's steps fit. -/
theorem facts : Cert.Pre_fair.Facts where
  slices_S512x1024x2_S512x1024x1_0_0_1 := by decide
  shapeCasts_S512x1024x1_S512x1024 := by decide
  reducesTo_S512x1024x2_S512x1024_d2 := by decide
  h_S_ := by decide
  bcast_S_S512x1024 := by decide
  slices_S1024x512x2_S1024x512x1_0_0_1 := by decide
  shapeCasts_S1024x512x1_S1024x512 := by decide
  reducesTo_S1024x512x2_S1024x512_d2 := by decide
  bcast_S_S1024x512 := by decide

end Cert.Pre_fair.Gen

namespace Cert.Proof

open Idealize.ShloMosaic Idealize.ShloMosaic.ValueIdx Cert.ReferenceIdeal.Read Cert.ReferenceIdeal

theorem of_eq {a b : EReal} (h : Ideal.cmp .oeq a b = 1#1) : a = b := by
  unfold Ideal.cmp at h
  by_contra hc
  simp [hc] at h

section
variable [Cert.Pre_fair.Facts]
variable (x0 : S64x1024.Idx → EReal) (x1 : S512x1024x2.Idx → EReal) (x2 : S1024x512x2.Idx → EReal)
  (x3 : S512.Idx → BitVec 1) (x4 : S1024.Idx → BitVec 1)

theorem pre_fair0 (h : (Cert.Pre_fair.fn (F := Ideal) x0 x1 x2 x3 x4).1 = fun _ => 1#1) (j : S512x1024.Idx) :
    val_main_v3 (F := Ideal) x1 j = ((1 / 2 : ℝ) : EReal) := by
  have e : Ideal.cmp .oeq (val_main_v3 (F := Ideal) x1 j) (Ideal.ofBits .f32 0x3F000000#32) = 1#1 := congrFun h j
  exact (of_eq e).trans half

theorem pre_fair1 (h : (Cert.Pre_fair.fn (F := Ideal) x0 x1 x2 x3 x4).2 = fun _ => 1#1) (j : S1024x512.Idx) :
    val_main_v401 (F := Ideal) x2 j = ((1 / 2 : ℝ) : EReal) := by
  have e : Ideal.cmp .oeq (val_main_v401 (F := Ideal) x2 j) (Ideal.ofBits .f32 0x3F000000#32) = 1#1 := congrFun h j
  exact (of_eq e).trans half

end

end Cert.Proof
end
-- ==== Proof.lean ====
/- The proof of the claims: the frames of the kernel and the reference, and that the two results agree. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Whole
public import proofs.«01_k».proof.Proof.Same
public import proofs.«01_k».proof.Proof.Agree
public import proofs.«01_k».proof.Proof.Pre

@[expose] public section
noncomputable section

namespace Cert.Proof

open Idealize.ShloMosaic Idealize.SL.Sem

theorem frame_KernelIdeal : Cert.quiescent_KernelIdeal (hKernelIdeal := Cert.KernelIdeal.Gen.facts) :=
  fun m g _ => run_frame (F := Ideal) m g

set_option maxRecDepth 65536 in
set_option maxHeartbeats 4000000 in
theorem frame_Kernel : Cert.quiescent_Kernel (hKernel := Cert.Kernel.Gen.facts) :=
  fun m g _ => by
    have h := run_frame (F := Bits) m g
    rw [← defs_same, ← main_same] at h
    exact h

/-- The reference runs, its arguments end unchanged, and it declares no semaphore. -/
theorem frame_ReferenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

theorem frame_KernelIdeal_pre : Cert.quiescent_KernelIdeal_pre_fair (hKernelIdeal := Cert.KernelIdeal.Gen.facts)
    (hPre_fair := Cert.Pre_fair.Gen.facts) :=
  fun m g _ => frame_KernelIdeal m g trivial

theorem frame_ReferenceIdeal_pre : Cert.quiescent_ReferenceIdeal_pre_fair (hReferenceIdeal := Cert.ReferenceIdeal.Gen.facts)
    (hPre_fair := Cert.Pre_fair.Gen.facts) :=
  fun m g _ => frame_ReferenceIdeal m g trivial

section
attribute [local instance] Cert.Pre_fair.Gen.facts

/-- From the same inputs, the kernel and the reference end with the same result. -/
theorem agree : Cert.algebraic_KernelIdeal_ReferenceIdeal_pre_fair (hKernelIdeal := Cert.KernelIdeal.Gen.facts)
    (hReferenceIdeal := Cert.ReferenceIdeal.Gen.facts) (hPre_fair := Cert.Pre_fair.Gen.facts) := by
  intro m g m' g' hpre hm
  refine ⟨fun c => Cert.KernelIdeal.Gen.V5 m (outs m) c (Proc.devRef .tc Cert.KernelIdeal.main_v31),
    (θ_run Cert.KernelIdeal.defs _ _).mono (fun r h c => h.1 c) (run_main (F := Ideal) m g),
    (θ_run Cert.ReferenceIdeal.defs _ _).mono (fun r h c => ⟨?_, (h c).2⟩) (Cert.ReferenceIdeal.Value.run (F := Ideal) m' g')⟩
  obtain ⟨e0, e1, e2, e3, e4⟩ := hm c
  obtain ⟨p1, p2⟩ := hpre c
  refine ((h c).1.trans (Cert.ReferenceIdeal.Read.val_main_v795_eq (F := Ideal) (StableHlo.launchContents m' c))).trans ?_
  refine Eq.trans ?_ (result_eq m c _ _ (pre_fair0 _ _ _ _ _ p1) (pre_fair1 _ _ _ _ _ p2)).symm
  exact congr (congr (congr (congr (congrArg (Cert.ReferenceIdeal.Read.val_main_v795 (F := Ideal)) e0) e1) e2) e3) e4

end

theorem claim : Cert.Claim :=
  ⟨Cert.Kernel.Gen.facts, Cert.KernelIdeal.Gen.facts, Cert.ReferenceIdeal.Gen.facts, Cert.Pre_fair.Gen.facts,
    frame_Kernel, frame_KernelIdeal, frame_KernelIdeal_pre, frame_ReferenceIdeal, frame_ReferenceIdeal_pre, trivial, agree⟩

end Cert.Proof
end
